-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_Cached (m : (ℓ : Loc Cert.Cached.nD Cert.Cached.τ Cert.Cached.sig) → Buf (Elt Bits) ℓ) : Prop :=
  True

def Pre_CachedIdeal (m : (ℓ : Loc Cert.CachedIdeal.nD Cert.CachedIdeal.τ Cert.CachedIdeal.sig) → Buf (Elt Ideal) ℓ) : Prop :=
  True

def Pre_CachedIdeal_finite_cached [hPre_finite_cached : Cert.Pre_finite_cached.Facts] (m : (ℓ : Loc Cert.CachedIdeal.nD Cert.CachedIdeal.τ Cert.CachedIdeal.sig) → Buf (Elt Ideal) ℓ) : Prop :=
  ∀ c : Dev Cert.CachedIdeal.nD,
    (Cert.Pre_finite_cached.fn (F := Ideal) (m ((c.tc : Thread Cert.CachedIdeal.nD Cert.CachedIdeal.τ).loc Cert.CachedIdeal.main_arg0)) (m ((c.tc : Thread Cert.CachedIdeal.nD Cert.CachedIdeal.τ).loc Cert.CachedIdeal.main_arg1)) (m ((c.tc : Thread Cert.CachedIdeal.nD Cert.CachedIdeal.τ).loc Cert.CachedIdeal.main_arg2)) (m ((c.tc : Thread Cert.CachedIdeal.nD Cert.CachedIdeal.τ).loc Cert.CachedIdeal.main_arg3))).1 = (fun _ => 1#1)
    ∧ (Cert.Pre_finite_cached.fn (F := Ideal) (m ((c.tc : Thread Cert.CachedIdeal.nD Cert.CachedIdeal.τ).loc Cert.CachedIdeal.main_arg0)) (m ((c.tc : Thread Cert.CachedIdeal.nD Cert.CachedIdeal.τ).loc Cert.CachedIdeal.main_arg1)) (m ((c.tc : Thread Cert.CachedIdeal.nD Cert.CachedIdeal.τ).loc Cert.CachedIdeal.main_arg2)) (m ((c.tc : Thread Cert.CachedIdeal.nD Cert.CachedIdeal.τ).loc Cert.CachedIdeal.main_arg3))).2.1 = (fun _ => 1#1)
    ∧ (Cert.Pre_finite_cached.fn (F := Ideal) (m ((c.tc : Thread Cert.CachedIdeal.nD Cert.CachedIdeal.τ).loc Cert.CachedIdeal.main_arg0)) (m ((c.tc : Thread Cert.CachedIdeal.nD Cert.CachedIdeal.τ).loc Cert.CachedIdeal.main_arg1)) (m ((c.tc : Thread Cert.CachedIdeal.nD Cert.CachedIdeal.τ).loc Cert.CachedIdeal.main_arg2)) (m ((c.tc : Thread Cert.CachedIdeal.nD Cert.CachedIdeal.τ).loc Cert.CachedIdeal.main_arg3))).2.2 = (fun _ => 1#1)

def Pre_CachedRefIdeal (m : (ℓ : Loc Cert.CachedRefIdeal.nD Cert.CachedRefIdeal.τ Cert.CachedRefIdeal.sig) → Buf (Elt Ideal) ℓ) : Prop :=
  True

def Pre_CachedRefIdeal_finite_cached [hPre_finite_cached : Cert.Pre_finite_cached.Facts] (m : (ℓ : Loc Cert.CachedRefIdeal.nD Cert.CachedRefIdeal.τ Cert.CachedRefIdeal.sig) → Buf (Elt Ideal) ℓ) : Prop :=
  ∀ c : Dev Cert.CachedRefIdeal.nD,
    (Cert.Pre_finite_cached.fn (F := Ideal) (m ((c.tc : Thread Cert.CachedRefIdeal.nD Cert.CachedRefIdeal.τ).loc Cert.CachedRefIdeal.main_arg0)) (m ((c.tc : Thread Cert.CachedRefIdeal.nD Cert.CachedRefIdeal.τ).loc Cert.CachedRefIdeal.main_arg1)) (m ((c.tc : Thread Cert.CachedRefIdeal.nD Cert.CachedRefIdeal.τ).loc Cert.CachedRefIdeal.main_arg2)) (m ((c.tc : Thread Cert.CachedRefIdeal.nD Cert.CachedRefIdeal.τ).loc Cert.CachedRefIdeal.main_arg3))).1 = (fun _ => 1#1)
    ∧ (Cert.Pre_finite_cached.fn (F := Ideal) (m ((c.tc : Thread Cert.CachedRefIdeal.nD Cert.CachedRefIdeal.τ).loc Cert.CachedRefIdeal.main_arg0)) (m ((c.tc : Thread Cert.CachedRefIdeal.nD Cert.CachedRefIdeal.τ).loc Cert.CachedRefIdeal.main_arg1)) (m ((c.tc : Thread Cert.CachedRefIdeal.nD Cert.CachedRefIdeal.τ).loc Cert.CachedRefIdeal.main_arg2)) (m ((c.tc : Thread Cert.CachedRefIdeal.nD Cert.CachedRefIdeal.τ).loc Cert.CachedRefIdeal.main_arg3))).2.1 = (fun _ => 1#1)
    ∧ (Cert.Pre_finite_cached.fn (F := Ideal) (m ((c.tc : Thread Cert.CachedRefIdeal.nD Cert.CachedRefIdeal.τ).loc Cert.CachedRefIdeal.main_arg0)) (m ((c.tc : Thread Cert.CachedRefIdeal.nD Cert.CachedRefIdeal.τ).loc Cert.CachedRefIdeal.main_arg1)) (m ((c.tc : Thread Cert.CachedRefIdeal.nD Cert.CachedRefIdeal.τ).loc Cert.CachedRefIdeal.main_arg2)) (m ((c.tc : Thread Cert.CachedRefIdeal.nD Cert.CachedRefIdeal.τ).loc Cert.CachedRefIdeal.main_arg3))).2.2 = (fun _ => 1#1)

def Pre_OutLast (m : (ℓ : Loc Cert.OutLast.nD Cert.OutLast.τ Cert.OutLast.sig) → Buf (Elt Bits) ℓ) : Prop :=
  True

def Pre_OutLastIdeal (m : (ℓ : Loc Cert.OutLastIdeal.nD Cert.OutLastIdeal.τ Cert.OutLastIdeal.sig) → Buf (Elt Ideal) ℓ) : Prop :=
  True

def Pre_OutLastRefIdeal (m : (ℓ : Loc Cert.OutLastRefIdeal.nD Cert.OutLastRefIdeal.τ Cert.OutLastRefIdeal.sig) → Buf (Elt Ideal) ℓ) : Prop :=
  True

def Pre_OutSamples (m : (ℓ : Loc Cert.OutSamples.nD Cert.OutSamples.τ Cert.OutSamples.sig) → Buf (Elt Bits) ℓ) : Prop :=
  True

def Pre_OutSamplesIdeal (m : (ℓ : Loc Cert.OutSamplesIdeal.nD Cert.OutSamplesIdeal.τ Cert.OutSamplesIdeal.sig) → Buf (Elt Ideal) ℓ) : Prop :=
  True

def Pre_OutSamplesRefIdeal (m : (ℓ : Loc Cert.OutSamplesRefIdeal.nD Cert.OutSamplesRefIdeal.τ Cert.OutSamplesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2))
      ∧ r.2.sem = fun _ => 0)

def quiescent_Cached [hCached : Cert.Cached.Facts] : Prop :=
  ∀ (m : (ℓ : Loc Cert.Cached.nD Cert.Cached.τ Cert.Cached.sig) → Buf (Elt Bits) ℓ) (g : Dev Cert.Cached.nD → PrngReg), Pre_Cached m →
    θ_run (Cert.Cached.defs (F := Bits)) (onTc (τ := Cert.Cached.τ) (Cert.Cached.main (F := Bits))) ⟨m, fun _ => 0, g⟩ (fun r => (∀ c : Dev Cert.Cached.nD,
      r.2.mem ((c.tc : Thread Cert.Cached.nD Cert.Cached.τ).loc Cert.Cached.main_arg0) = m ((c.tc : Thread Cert.Cached.nD Cert.Cached.τ).loc Cert.Cached.main_arg0)
      ∧ r.2.mem ((c.tc : Thread Cert.Cached.nD Cert.Cached.τ).loc Cert.Cached.main_arg1) = m ((c.tc : Thread Cert.Cached.nD Cert.Cached.τ).loc Cert.Cached.main_arg1)
      ∧ r.2.mem ((c.tc : Thread Cert.Cached.nD Cert.Cached.τ).loc Cert.Cached.main_arg2) = m ((c.tc : Thread Cert.Cached.nD Cert.Cached.τ).loc Cert.Cached.main_arg2)
      ∧ r.2.mem ((c.tc : Thread Cert.Cached.nD Cert.Cached.τ).loc Cert.Cached.main_arg3) = m ((c.tc : Thread Cert.Cached.nD Cert.Cached.τ).loc Cert.Cached.main_arg3))
      ∧ r.2.sem = fun _ => 0)

def quiescent_CachedIdeal [hCachedIdeal : Cert.CachedIdeal.Facts] : Prop :=
  ∀ (m : (ℓ : Loc Cert.CachedIdeal.nD Cert.CachedIdeal.τ Cert.CachedIdeal.sig) → Buf (Elt Ideal) ℓ) (g : Dev Cert.CachedIdeal.nD → PrngReg), Pre_CachedIdeal m →
    θ_run (Cert.CachedIdeal.defs (F := Ideal)) (onTc (τ := Cert.CachedIdeal.τ) (Cert.CachedIdeal.main (F := Ideal))) ⟨m, fun _ => 0, g⟩ (fun r => (∀ c : Dev Cert.CachedIdeal.nD,
      r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
      ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
      ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2)
      ∧ r.2.mem ((c.tc : Thread Cert.CachedIdeal.nD Cert.CachedIdeal.τ).loc Cert.CachedIdeal.main_arg3) = m ((c.tc : Thread Cert.CachedIdeal.nD Cert.CachedIdeal.τ).loc Cert.CachedIdeal.main_arg3))
      ∧ r.2.sem = fun _ => 0)

def quiescent_CachedIdeal_pre_finite_cached [hCachedIdeal : Cert.CachedIdeal.Facts] [hPre_finite_cached : Cert.Pre_finite_cached.Facts] : Prop :=
  ∀ (m : (ℓ : Loc Cert.CachedIdeal.nD Cert.CachedIdeal.τ Cert.CachedIdeal.sig) → Buf (Elt Ideal) ℓ) (g : Dev Cert.CachedIdeal.nD → PrngReg), Pre_CachedIdeal_finite_cached m →
    θ_run (Cert.CachedIdeal.defs (F := Ideal)) (onTc (τ := Cert.CachedIdeal.τ) (Cert.CachedIdeal.main (F := Ideal))) ⟨m, fun _ => 0, g⟩ (fun r => (∀ c : Dev Cert.CachedIdeal.nD,
      r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
      ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
      ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2)
      ∧ r.2.mem ((c.tc : Thread Cert.CachedIdeal.nD Cert.CachedIdeal.τ).loc Cert.CachedIdeal.main_arg3) = m ((c.tc : Thread Cert.CachedIdeal.nD Cert.CachedIdeal.τ).loc Cert.CachedIdeal.main_arg3))
      ∧ r.2.sem = fun _ => 0)

def quiescent_CachedRefIdeal [hCachedRefIdeal : Cert.CachedRefIdeal.Facts] : Prop :=
  ∀ (m : (ℓ : Loc Cert.CachedRefIdeal.nD Cert.CachedRefIdeal.τ Cert.CachedRefIdeal.sig) → Buf (Elt Ideal) ℓ) (g : Dev Cert.CachedRefIdeal.nD → PrngReg), Pre_CachedRefIdeal m →
    θ_run (Cert.CachedRefIdeal.defs (F := Ideal)) (onTc (τ := Cert.CachedRefIdeal.τ) (Cert.CachedRefIdeal.main (F := Ideal))) ⟨m, fun _ => 0, g⟩ (fun r => (∀ c : Dev Cert.CachedRefIdeal.nD,
      r.2.mem ((c.tc : Thread Cert.CachedRefIdeal.nD Cert.CachedRefIdeal.τ).loc Cert.CachedRefIdeal.main_arg0) = m ((c.tc : Thread Cert.CachedRefIdeal.nD Cert.CachedRefIdeal.τ).loc Cert.CachedRefIdeal.main_arg0)
      ∧ r.2.mem ((c.tc : Thread Cert.CachedRefIdeal.nD Cert.CachedRefIdeal.τ).loc Cert.CachedRefIdeal.main_arg1) = m ((c.tc : Thread Cert.CachedRefIdeal.nD Cert.CachedRefIdeal.τ).loc Cert.CachedRefIdeal.main_arg1)
      ∧ r.2.mem ((c.tc : Thread Cert.CachedRefIdeal.nD Cert.CachedRefIdeal.τ).loc Cert.CachedRefIdeal.main_arg2) = m ((c.tc : Thread Cert.CachedRefIdeal.nD Cert.CachedRefIdeal.τ).loc Cert.CachedRefIdeal.main_arg2)
      ∧ r.2.mem ((c.tc : Thread Cert.CachedRefIdeal.nD Cert.CachedRefIdeal.τ).loc Cert.CachedRefIdeal.main_arg3) = m ((c.tc : Thread Cert.CachedRefIdeal.nD Cert.CachedRefIdeal.τ).loc Cert.CachedRefIdeal.main_arg3))
      ∧ r.2.sem = fun _ => 0)

def quiescent_CachedRefIdeal_pre_finite_cached [hCachedRefIdeal : Cert.CachedRefIdeal.Facts] [hPre_finite_cached : Cert.Pre_finite_cached.Facts] : Prop :=
  ∀ (m : (ℓ : Loc Cert.CachedRefIdeal.nD Cert.CachedRefIdeal.τ Cert.CachedRefIdeal.sig) → Buf (Elt Ideal) ℓ) (g : Dev Cert.CachedRefIdeal.nD → PrngReg), Pre_CachedRefIdeal_finite_cached m →
    θ_run (Cert.CachedRefIdeal.defs (F := Ideal)) (onTc (τ := Cert.CachedRefIdeal.τ) (Cert.CachedRefIdeal.main (F := Ideal))) ⟨m, fun _ => 0, g⟩ (fun r => (∀ c : Dev Cert.CachedRefIdeal.nD,
      r.2.mem ((c.tc : Thread Cert.CachedRefIdeal.nD Cert.CachedRefIdeal.τ).loc Cert.CachedRefIdeal.main_arg0) = m ((c.tc : Thread Cert.CachedRefIdeal.nD Cert.CachedRefIdeal.τ).loc Cert.CachedRefIdeal.main_arg0)
      ∧ r.2.mem ((c.tc : Thread Cert.CachedRefIdeal.nD Cert.CachedRefIdeal.τ).loc Cert.CachedRefIdeal.main_arg1) = m ((c.tc : Thread Cert.CachedRefIdeal.nD Cert.CachedRefIdeal.τ).loc Cert.CachedRefIdeal.main_arg1)
      ∧ r.2.mem ((c.tc : Thread Cert.CachedRefIdeal.nD Cert.CachedRefIdeal.τ).loc Cert.CachedRefIdeal.main_arg2) = m ((c.tc : Thread Cert.CachedRefIdeal.nD Cert.CachedRefIdeal.τ).loc Cert.CachedRefIdeal.main_arg2)
      ∧ r.2.mem ((c.tc : Thread Cert.CachedRefIdeal.nD Cert.CachedRefIdeal.τ).loc Cert.CachedRefIdeal.main_arg3) = m ((c.tc : Thread Cert.CachedRefIdeal.nD Cert.CachedRefIdeal.τ).loc Cert.CachedRefIdeal.main_arg3))
      ∧ r.2.sem = fun _ => 0)

def quiescent_OutLast [hOutLast : Cert.OutLast.Facts] : Prop :=
  ∀ (m : (ℓ : Loc Cert.OutLast.nD Cert.OutLast.τ Cert.OutLast.sig) → Buf (Elt Bits) ℓ) (g : Dev Cert.OutLast.nD → PrngReg), Pre_OutLast m →
    θ_run (Cert.OutLast.defs (F := Bits)) (onTc (τ := Cert.OutLast.τ) (Cert.OutLast.main (F := Bits))) ⟨m, fun _ => 0, g⟩ (fun r => (∀ c : Dev Cert.OutLast.nD,
      r.2.mem ((c.tc : Thread Cert.OutLast.nD Cert.OutLast.τ).loc Cert.OutLast.main_arg0) = m ((c.tc : Thread Cert.OutLast.nD Cert.OutLast.τ).loc Cert.OutLast.main_arg0)
      ∧ r.2.mem ((c.tc : Thread Cert.OutLast.nD Cert.OutLast.τ).loc Cert.OutLast.main_arg1) = m ((c.tc : Thread Cert.OutLast.nD Cert.OutLast.τ).loc Cert.OutLast.main_arg1)
      ∧ r.2.mem ((c.tc : Thread Cert.OutLast.nD Cert.OutLast.τ).loc Cert.OutLast.main_arg2) = m ((c.tc : Thread Cert.OutLast.nD Cert.OutLast.τ).loc Cert.OutLast.main_arg2)
      ∧ r.2.mem ((c.tc : Thread Cert.OutLast.nD Cert.OutLast.τ).loc Cert.OutLast.main_arg3) = m ((c.tc : Thread Cert.OutLast.nD Cert.OutLast.τ).loc Cert.OutLast.main_arg3))
      ∧ r.2.sem = fun _ => 0)

def quiescent_OutLastIdeal [hOutLastIdeal : Cert.OutLastIdeal.Facts] : Prop :=
  ∀ (m : (ℓ : Loc Cert.OutLastIdeal.nD Cert.OutLastIdeal.τ Cert.OutLastIdeal.sig) → Buf (Elt Ideal) ℓ) (g : Dev Cert.OutLastIdeal.nD → PrngReg), Pre_OutLastIdeal m →
    θ_run (Cert.OutLastIdeal.defs (F := Ideal)) (onTc (τ := Cert.OutLastIdeal.τ) (Cert.OutLastIdeal.main (F := Ideal))) ⟨m, fun _ => 0, g⟩ (fun r => (∀ c : Dev Cert.OutLastIdeal.nD,
      r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
      ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
      ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
      ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3))
      ∧ r.2.sem = fun _ => 0)

def quiescent_OutLastRefIdeal [hOutLastRefIdeal : Cert.OutLastRefIdeal.Facts] : Prop :=
  ∀ (m : (ℓ : Loc Cert.OutLastRefIdeal.nD Cert.OutLastRefIdeal.τ Cert.OutLastRefIdeal.sig) → Buf (Elt Ideal) ℓ) (g : Dev Cert.OutLastRefIdeal.nD → PrngReg), Pre_OutLastRefIdeal m →
    θ_run (Cert.OutLastRefIdeal.defs (F := Ideal)) (onTc (τ := Cert.OutLastRefIdeal.τ) (Cert.OutLastRefIdeal.main (F := Ideal))) ⟨m, fun _ => 0, g⟩ (fun r => (∀ c : Dev Cert.OutLastRefIdeal.nD,
      r.2.mem ((c.tc : Thread Cert.OutLastRefIdeal.nD Cert.OutLastRefIdeal.τ).loc Cert.OutLastRefIdeal.main_arg0) = m ((c.tc : Thread Cert.OutLastRefIdeal.nD Cert.OutLastRefIdeal.τ).loc Cert.OutLastRefIdeal.main_arg0)
      ∧ r.2.mem ((c.tc : Thread Cert.OutLastRefIdeal.nD Cert.OutLastRefIdeal.τ).loc Cert.OutLastRefIdeal.main_arg1) = m ((c.tc : Thread Cert.OutLastRefIdeal.nD Cert.OutLastRefIdeal.τ).loc Cert.OutLastRefIdeal.main_arg1)
      ∧ r.2.mem ((c.tc : Thread Cert.OutLastRefIdeal.nD Cert.OutLastRefIdeal.τ).loc Cert.OutLastRefIdeal.main_arg2) = m ((c.tc : Thread Cert.OutLastRefIdeal.nD Cert.OutLastRefIdeal.τ).loc Cert.OutLastRefIdeal.main_arg2)
      ∧ r.2.mem ((c.tc : Thread Cert.OutLastRefIdeal.nD Cert.OutLastRefIdeal.τ).loc Cert.OutLastRefIdeal.main_arg3) = m ((c.tc : Thread Cert.OutLastRefIdeal.nD Cert.OutLastRefIdeal.τ).loc Cert.OutLastRefIdeal.main_arg3))
      ∧ r.2.sem = fun _ => 0)

def quiescent_OutSamples [hOutSamples : Cert.OutSamples.Facts] : Prop :=
  ∀ (m : (ℓ : Loc Cert.OutSamples.nD Cert.OutSamples.τ Cert.OutSamples.sig) → Buf (Elt Bits) ℓ) (g : Dev Cert.OutSamples.nD → PrngReg), Pre_OutSamples m →
    θ_run (Cert.OutSamples.defs (F := Bits)) (onTc (τ := Cert.OutSamples.τ) (Cert.OutSamples.main (F := Bits))) ⟨m, fun _ => 0, g⟩ (fun r => (∀ c : Dev Cert.OutSamples.nD,
      r.2.mem ((c.tc : Thread Cert.OutSamples.nD Cert.OutSamples.τ).loc Cert.OutSamples.main_arg0) = m ((c.tc : Thread Cert.OutSamples.nD Cert.OutSamples.τ).loc Cert.OutSamples.main_arg0)
      ∧ r.2.mem ((c.tc : Thread Cert.OutSamples.nD Cert.OutSamples.τ).loc Cert.OutSamples.main_arg1) = m ((c.tc : Thread Cert.OutSamples.nD Cert.OutSamples.τ).loc Cert.OutSamples.main_arg1)
      ∧ r.2.mem ((c.tc : Thread Cert.OutSamples.nD Cert.OutSamples.τ).loc Cert.OutSamples.main_arg2) = m ((c.tc : Thread Cert.OutSamples.nD Cert.OutSamples.τ).loc Cert.OutSamples.main_arg2)
      ∧ r.2.mem ((c.tc : Thread Cert.OutSamples.nD Cert.OutSamples.τ).loc Cert.OutSamples.main_arg3) = m ((c.tc : Thread Cert.OutSamples.nD Cert.OutSamples.τ).loc Cert.OutSamples.main_arg3))
      ∧ r.2.sem = fun _ => 0)

def quiescent_OutSamplesIdeal [hOutSamplesIdeal : Cert.OutSamplesIdeal.Facts] : Prop :=
  ∀ (m : (ℓ : Loc Cert.OutSamplesIdeal.nD Cert.OutSamplesIdeal.τ Cert.OutSamplesIdeal.sig) → Buf (Elt Ideal) ℓ) (g : Dev Cert.OutSamplesIdeal.nD → PrngReg), Pre_OutSamplesIdeal m →
    θ_run (Cert.OutSamplesIdeal.defs (F := Ideal)) (onTc (τ := Cert.OutSamplesIdeal.τ) (Cert.OutSamplesIdeal.main (F := Ideal))) ⟨m, fun _ => 0, g⟩ (fun r => (∀ c : Dev Cert.OutSamplesIdeal.nD,
      r.2.mem ((c.tc : Thread Cert.OutSamplesIdeal.nD Cert.OutSamplesIdeal.τ).loc Cert.OutSamplesIdeal.main_arg0) = m ((c.tc : Thread Cert.OutSamplesIdeal.nD Cert.OutSamplesIdeal.τ).loc Cert.OutSamplesIdeal.main_arg0)
      ∧ r.2.mem ((c.tc : Thread Cert.OutSamplesIdeal.nD Cert.OutSamplesIdeal.τ).loc Cert.OutSamplesIdeal.main_arg1) = m ((c.tc : Thread Cert.OutSamplesIdeal.nD Cert.OutSamplesIdeal.τ).loc Cert.OutSamplesIdeal.main_arg1)
      ∧ r.2.mem ((c.tc : Thread Cert.OutSamplesIdeal.nD Cert.OutSamplesIdeal.τ).loc Cert.OutSamplesIdeal.main_arg2) = m ((c.tc : Thread Cert.OutSamplesIdeal.nD Cert.OutSamplesIdeal.τ).loc Cert.OutSamplesIdeal.main_arg2)
      ∧ r.2.mem ((c.tc : Thread Cert.OutSamplesIdeal.nD Cert.OutSamplesIdeal.τ).loc Cert.OutSamplesIdeal.main_arg3) = m ((c.tc : Thread Cert.OutSamplesIdeal.nD Cert.OutSamplesIdeal.τ).loc Cert.OutSamplesIdeal.main_arg3))
      ∧ r.2.sem = fun _ => 0)

def quiescent_OutSamplesRefIdeal [hOutSamplesRefIdeal : Cert.OutSamplesRefIdeal.Facts] : Prop :=
  ∀ (m : (ℓ : Loc Cert.OutSamplesRefIdeal.nD Cert.OutSamplesRefIdeal.τ Cert.OutSamplesRefIdeal.sig) → Buf (Elt Ideal) ℓ) (g : Dev Cert.OutSamplesRefIdeal.nD → PrngReg), Pre_OutSamplesRefIdeal m →
    θ_run (Cert.OutSamplesRefIdeal.defs (F := Ideal)) (onTc (τ := Cert.OutSamplesRefIdeal.τ) (Cert.OutSamplesRefIdeal.main (F := Ideal))) ⟨m, fun _ => 0, g⟩ (fun r => (∀ c : Dev Cert.OutSamplesRefIdeal.nD,
      r.2.mem ((c.tc : Thread Cert.OutSamplesRefIdeal.nD Cert.OutSamplesRefIdeal.τ).loc Cert.OutSamplesRefIdeal.main_arg0) = m ((c.tc : Thread Cert.OutSamplesRefIdeal.nD Cert.OutSamplesRefIdeal.τ).loc Cert.OutSamplesRefIdeal.main_arg0)
      ∧ r.2.mem ((c.tc : Thread Cert.OutSamplesRefIdeal.nD Cert.OutSamplesRefIdeal.τ).loc Cert.OutSamplesRefIdeal.main_arg1) = m ((c.tc : Thread Cert.OutSamplesRefIdeal.nD Cert.OutSamplesRefIdeal.τ).loc Cert.OutSamplesRefIdeal.main_arg1)
      ∧ r.2.mem ((c.tc : Thread Cert.OutSamplesRefIdeal.nD Cert.OutSamplesRefIdeal.τ).loc Cert.OutSamplesRefIdeal.main_arg2) = m ((c.tc : Thread Cert.OutSamplesRefIdeal.nD Cert.OutSamplesRefIdeal.τ).loc Cert.OutSamplesRefIdeal.main_arg2)
      ∧ r.2.mem ((c.tc : Thread Cert.OutSamplesRefIdeal.nD Cert.OutSamplesRefIdeal.τ).loc Cert.OutSamplesRefIdeal.main_arg3) = m ((c.tc : Thread Cert.OutSamplesRefIdeal.nD Cert.OutSamplesRefIdeal.τ).loc Cert.OutSamplesRefIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)) →
    ∃ (v0 : (c : Dev Cert.InEvenIdeal.nD) → Buf (Elt Ideal) ((c.tc : Thread Cert.InEvenIdeal.nD Cert.InEvenIdeal.τ).loc Cert.InEvenIdeal.main_v9_0)) (v1 : (c : Dev Cert.InEvenIdeal.nD) → Buf (Elt Ideal) ((c.tc : Thread Cert.InEvenIdeal.nD Cert.InEvenIdeal.τ).loc Cert.InEvenIdeal.main_v9_1)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v9_0) = v0 c
          ∧ r.2.mem ((c.tc : Thread Cert.InEvenIdeal.nD Cert.InEvenIdeal.τ).loc Cert.InEvenIdeal.main_v9_1) = v1 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v22) = v0 c
          ∧ r.2.mem ((c.tc : Thread Cert.InEvenRefIdeal.nD Cert.InEvenRefIdeal.τ).loc Cert.InEvenRefIdeal.main_v21) = v1 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)) →
    ∃ (v0 : (c : Dev Cert.InOddIdeal.nD) → Buf (Elt Ideal) ((c.tc : Thread Cert.InOddIdeal.nD Cert.InOddIdeal.τ).loc Cert.InOddIdeal.main_v4_0)) (v1 : (c : Dev Cert.InOddIdeal.nD) → Buf (Elt Ideal) ((c.tc : Thread Cert.InOddIdeal.nD Cert.InOddIdeal.τ).loc Cert.InOddIdeal.main_v4_1)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v4_0) = v0 c
          ∧ r.2.mem ((c.tc : Thread Cert.InOddIdeal.nD Cert.InOddIdeal.τ).loc Cert.InOddIdeal.main_v4_1) = v1 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v27) = v0 c
          ∧ r.2.mem ((c.tc : Thread Cert.InOddRefIdeal.nD Cert.InOddRefIdeal.τ).loc Cert.InOddRefIdeal.main_v28) = v1 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)) →
    ∃ (v0 : (c : Dev Cert.OutEvenIdeal.nD) → Buf (Elt Ideal) ((c.tc : Thread Cert.OutEvenIdeal.nD Cert.OutEvenIdeal.τ).loc Cert.OutEvenIdeal.main_v1)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v1) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v6) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)) →
    ∃ (v0 : (c : Dev Cert.OutOddIdeal.nD) → Buf (Elt Ideal) ((c.tc : Thread Cert.OutOddIdeal.nD Cert.OutOddIdeal.τ).loc Cert.OutOddIdeal.main_v1)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v1) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v4) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2))

def preserves_Cached_CachedIdeal : Prop :=
  True

def algebraic_CachedIdeal_CachedRefIdeal_pre_finite_cached [hCachedIdeal : Cert.CachedIdeal.Facts] [hCachedRefIdeal : Cert.CachedRefIdeal.Facts] [hPre_finite_cached : Cert.Pre_finite_cached.Facts] : Prop :=
  ∀ (m : (ℓ : Loc Cert.CachedIdeal.nD Cert.CachedIdeal.τ Cert.CachedIdeal.sig) → Buf (Elt Ideal) ℓ) (g : Dev Cert.CachedIdeal.nD → PrngReg)
    (m' : (ℓ : Loc Cert.CachedRefIdeal.nD Cert.CachedRefIdeal.τ Cert.CachedRefIdeal.sig) → Buf (Elt Ideal) ℓ) (g' : Dev Cert.CachedRefIdeal.nD → PrngReg), Pre_CachedIdeal_finite_cached m →
    (∀ c : Dev Cert.CachedIdeal.nD,
      m' ((c.tc : Thread Cert.CachedRefIdeal.nD Cert.CachedRefIdeal.τ).loc Cert.CachedRefIdeal.main_arg0) = m ((c.tc : Thread Cert.CachedIdeal.nD Cert.CachedIdeal.τ).loc Cert.CachedIdeal.main_arg0)
      ∧ m' ((c.tc : Thread Cert.CachedRefIdeal.nD Cert.CachedRefIdeal.τ).loc Cert.CachedRefIdeal.main_arg1) = m ((c.tc : Thread Cert.CachedIdeal.nD Cert.CachedIdeal.τ).loc Cert.CachedIdeal.main_arg1)
      ∧ m' ((c.tc : Thread Cert.CachedRefIdeal.nD Cert.CachedRefIdeal.τ).loc Cert.CachedRefIdeal.main_arg2) = m ((c.tc : Thread Cert.CachedIdeal.nD Cert.CachedIdeal.τ).loc Cert.CachedIdeal.main_arg2)
      ∧ m' ((c.tc : Thread Cert.CachedRefIdeal.nD Cert.CachedRefIdeal.τ).loc Cert.CachedRefIdeal.main_arg3) = m ((c.tc : Thread Cert.CachedIdeal.nD Cert.CachedIdeal.τ).loc Cert.CachedIdeal.main_arg3)) →
    ∃ (v0 : (c : Dev Cert.CachedIdeal.nD) → Buf (Elt Ideal) ((c.tc : Thread Cert.CachedIdeal.nD Cert.CachedIdeal.τ).loc Cert.CachedIdeal.main_v4)),
      θ_run (Cert.CachedIdeal.defs (F := Ideal)) (onTc (τ := Cert.CachedIdeal.τ) (Cert.CachedIdeal.main (F := Ideal))) ⟨m, fun _ => 0, g⟩ (fun r => ∀ c : Dev Cert.CachedIdeal.nD,
          r.2.mem ((c.tc : Thread Cert.CachedIdeal.nD Cert.CachedIdeal.τ).loc Cert.CachedIdeal.main_v4) = v0 c
          ∧ r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
          ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
          ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2)
          ∧ r.2.mem ((c.tc : Thread Cert.CachedIdeal.nD Cert.CachedIdeal.τ).loc Cert.CachedIdeal.main_arg3) = m ((c.tc : Thread Cert.CachedIdeal.nD Cert.CachedIdeal.τ).loc Cert.CachedIdeal.main_arg3))
      ∧ θ_run (Cert.CachedRefIdeal.defs (F := Ideal)) (onTc (τ := Cert.CachedRefIdeal.τ) (Cert.CachedRefIdeal.main (F := Ideal))) ⟨m', fun _ => 0, g'⟩ (fun r => ∀ c : Dev Cert.CachedRefIdeal.nD,
          r.2.mem ((c.tc : Thread Cert.CachedRefIdeal.nD Cert.CachedRefIdeal.τ).loc Cert.CachedRefIdeal.main_v65) = v0 c
          ∧ r.2.mem ((c.tc : Thread Cert.CachedRefIdeal.nD Cert.CachedRefIdeal.τ).loc Cert.CachedRefIdeal.main_arg0) = m' ((c.tc : Thread Cert.CachedRefIdeal.nD Cert.CachedRefIdeal.τ).loc Cert.CachedRefIdeal.main_arg0)
          ∧ r.2.mem ((c.tc : Thread Cert.CachedRefIdeal.nD Cert.CachedRefIdeal.τ).loc Cert.CachedRefIdeal.main_arg1) = m' ((c.tc : Thread Cert.CachedRefIdeal.nD Cert.CachedRefIdeal.τ).loc Cert.CachedRefIdeal.main_arg1)
          ∧ r.2.mem ((c.tc : Thread Cert.CachedRefIdeal.nD Cert.CachedRefIdeal.τ).loc Cert.CachedRefIdeal.main_arg2) = m' ((c.tc : Thread Cert.CachedRefIdeal.nD Cert.CachedRefIdeal.τ).loc Cert.CachedRefIdeal.main_arg2)
          ∧ r.2.mem ((c.tc : Thread Cert.CachedRefIdeal.nD Cert.CachedRefIdeal.τ).loc Cert.CachedRefIdeal.main_arg3) = m' ((c.tc : Thread Cert.CachedRefIdeal.nD Cert.CachedRefIdeal.τ).loc Cert.CachedRefIdeal.main_arg3))

def preserves_OutLast_OutLastIdeal : Prop :=
  True

def algebraic_OutLastIdeal_OutLastRefIdeal [hOutLastIdeal : Cert.OutLastIdeal.Facts] [hOutLastRefIdeal : Cert.OutLastRefIdeal.Facts] : Prop :=
  ∀ (m : (ℓ : Loc Cert.OutLastIdeal.nD Cert.OutLastIdeal.τ Cert.OutLastIdeal.sig) → Buf (Elt Ideal) ℓ) (g : Dev Cert.OutLastIdeal.nD → PrngReg)
    (m' : (ℓ : Loc Cert.OutLastRefIdeal.nD Cert.OutLastRefIdeal.τ Cert.OutLastRefIdeal.sig) → Buf (Elt Ideal) ℓ) (g' : Dev Cert.OutLastRefIdeal.nD → PrngReg), Pre_OutLastIdeal m →
    (∀ c : Dev Cert.OutLastIdeal.nD,
      m' ((c.tc : Thread Cert.OutLastRefIdeal.nD Cert.OutLastRefIdeal.τ).loc Cert.OutLastRefIdeal.main_arg0) = m ((c.tc : Thread Cert.OutLastIdeal.nD Cert.OutLastIdeal.τ).loc Cert.OutLastIdeal.main_arg0)
      ∧ m' ((c.tc : Thread Cert.OutLastRefIdeal.nD Cert.OutLastRefIdeal.τ).loc Cert.OutLastRefIdeal.main_arg1) = m ((c.tc : Thread Cert.OutLastIdeal.nD Cert.OutLastIdeal.τ).loc Cert.OutLastIdeal.main_arg1)
      ∧ m' ((c.tc : Thread Cert.OutLastRefIdeal.nD Cert.OutLastRefIdeal.τ).loc Cert.OutLastRefIdeal.main_arg2) = m ((c.tc : Thread Cert.OutLastIdeal.nD Cert.OutLastIdeal.τ).loc Cert.OutLastIdeal.main_arg2)
      ∧ m' ((c.tc : Thread Cert.OutLastRefIdeal.nD Cert.OutLastRefIdeal.τ).loc Cert.OutLastRefIdeal.main_arg3) = m ((c.tc : Thread Cert.OutLastIdeal.nD Cert.OutLastIdeal.τ).loc Cert.OutLastIdeal.main_arg3)) →
    ∃ (v0 : (c : Dev Cert.OutLastIdeal.nD) → Buf (Elt Ideal) ((c.tc : Thread Cert.OutLastIdeal.nD Cert.OutLastIdeal.τ).loc Cert.OutLastIdeal.main_v2)),
      θ_run (Cert.OutLastIdeal.defs (F := Ideal)) (onTc (τ := Cert.OutLastIdeal.τ) (Cert.OutLastIdeal.main (F := Ideal))) ⟨m, fun _ => 0, g⟩ (fun r => ∀ c : Dev Cert.OutLastIdeal.nD,
          r.2.mem ((c.tc : Thread Cert.OutLastIdeal.nD Cert.OutLastIdeal.τ).loc Cert.OutLastIdeal.main_v2) = v0 c
          ∧ r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
          ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
          ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
          ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3))
      ∧ θ_run (Cert.OutLastRefIdeal.defs (F := Ideal)) (onTc (τ := Cert.OutLastRefIdeal.τ) (Cert.OutLastRefIdeal.main (F := Ideal))) ⟨m', fun _ => 0, g'⟩ (fun r => ∀ c : Dev Cert.OutLastRefIdeal.nD,
          r.2.mem ((c.tc : Thread Cert.OutLastRefIdeal.nD Cert.OutLastRefIdeal.τ).loc Cert.OutLastRefIdeal.main_v17) = v0 c
          ∧ r.2.mem ((c.tc : Thread Cert.OutLastRefIdeal.nD Cert.OutLastRefIdeal.τ).loc Cert.OutLastRefIdeal.main_arg0) = m' ((c.tc : Thread Cert.OutLastRefIdeal.nD Cert.OutLastRefIdeal.τ).loc Cert.OutLastRefIdeal.main_arg0)
          ∧ r.2.mem ((c.tc : Thread Cert.OutLastRefIdeal.nD Cert.OutLastRefIdeal.τ).loc Cert.OutLastRefIdeal.main_arg1) = m' ((c.tc : Thread Cert.OutLastRefIdeal.nD Cert.OutLastRefIdeal.τ).loc Cert.OutLastRefIdeal.main_arg1)
          ∧ r.2.mem ((c.tc : Thread Cert.OutLastRefIdeal.nD Cert.OutLastRefIdeal.τ).loc Cert.OutLastRefIdeal.main_arg2) = m' ((c.tc : Thread Cert.OutLastRefIdeal.nD Cert.OutLastRefIdeal.τ).loc Cert.OutLastRefIdeal.main_arg2)
          ∧ r.2.mem ((c.tc : Thread Cert.OutLastRefIdeal.nD Cert.OutLastRefIdeal.τ).loc Cert.OutLastRefIdeal.main_arg3) = m' ((c.tc : Thread Cert.OutLastRefIdeal.nD Cert.OutLastRefIdeal.τ).loc Cert.OutLastRefIdeal.main_arg3))

def preserves_OutSamples_OutSamplesIdeal : Prop :=
  True

def algebraic_OutSamplesIdeal_OutSamplesRefIdeal [hOutSamplesIdeal : Cert.OutSamplesIdeal.Facts] [hOutSamplesRefIdeal : Cert.OutSamplesRefIdeal.Facts] : Prop :=
  ∀ (m : (ℓ : Loc Cert.OutSamplesIdeal.nD Cert.OutSamplesIdeal.τ Cert.OutSamplesIdeal.sig) → Buf (Elt Ideal) ℓ) (g : Dev Cert.OutSamplesIdeal.nD → PrngReg)
    (m' : (ℓ : Loc Cert.OutSamplesRefIdeal.nD Cert.OutSamplesRefIdeal.τ Cert.OutSamplesRefIdeal.sig) → Buf (Elt Ideal) ℓ) (g' : Dev Cert.OutSamplesRefIdeal.nD → PrngReg), Pre_OutSamplesIdeal m →
    (∀ c : Dev Cert.OutSamplesIdeal.nD,
      m' ((c.tc : Thread Cert.OutSamplesRefIdeal.nD Cert.OutSamplesRefIdeal.τ).loc Cert.OutSamplesRefIdeal.main_arg0) = m ((c.tc : Thread Cert.OutSamplesIdeal.nD Cert.OutSamplesIdeal.τ).loc Cert.OutSamplesIdeal.main_arg0)
      ∧ m' ((c.tc : Thread Cert.OutSamplesRefIdeal.nD Cert.OutSamplesRefIdeal.τ).loc Cert.OutSamplesRefIdeal.main_arg1) = m ((c.tc : Thread Cert.OutSamplesIdeal.nD Cert.OutSamplesIdeal.τ).loc Cert.OutSamplesIdeal.main_arg1)
      ∧ m' ((c.tc : Thread Cert.OutSamplesRefIdeal.nD Cert.OutSamplesRefIdeal.τ).loc Cert.OutSamplesRefIdeal.main_arg2) = m ((c.tc : Thread Cert.OutSamplesIdeal.nD Cert.OutSamplesIdeal.τ).loc Cert.OutSamplesIdeal.main_arg2)
      ∧ m' ((c.tc : Thread Cert.OutSamplesRefIdeal.nD Cert.OutSamplesRefIdeal.τ).loc Cert.OutSamplesRefIdeal.main_arg3) = m ((c.tc : Thread Cert.OutSamplesIdeal.nD Cert.OutSamplesIdeal.τ).loc Cert.OutSamplesIdeal.main_arg3)) →
    ∃ (v0 : (c : Dev Cert.OutSamplesIdeal.nD) → Buf (Elt Ideal) ((c.tc : Thread Cert.OutSamplesIdeal.nD Cert.OutSamplesIdeal.τ).loc Cert.OutSamplesIdeal.main_v2)),
      θ_run (Cert.OutSamplesIdeal.defs (F := Ideal)) (onTc (τ := Cert.OutSamplesIdeal.τ) (Cert.OutSamplesIdeal.main (F := Ideal))) ⟨m, fun _ => 0, g⟩ (fun r => ∀ c : Dev Cert.OutSamplesIdeal.nD,
          r.2.mem ((c.tc : Thread Cert.OutSamplesIdeal.nD Cert.OutSamplesIdeal.τ).loc Cert.OutSamplesIdeal.main_v2) = v0 c
          ∧ r.2.mem ((c.tc : Thread Cert.OutSamplesIdeal.nD Cert.OutSamplesIdeal.τ).loc Cert.OutSamplesIdeal.main_arg0) = m ((c.tc : Thread Cert.OutSamplesIdeal.nD Cert.OutSamplesIdeal.τ).loc Cert.OutSamplesIdeal.main_arg0)
          ∧ r.2.mem ((c.tc : Thread Cert.OutSamplesIdeal.nD Cert.OutSamplesIdeal.τ).loc Cert.OutSamplesIdeal.main_arg1) = m ((c.tc : Thread Cert.OutSamplesIdeal.nD Cert.OutSamplesIdeal.τ).loc Cert.OutSamplesIdeal.main_arg1)
          ∧ r.2.mem ((c.tc : Thread Cert.OutSamplesIdeal.nD Cert.OutSamplesIdeal.τ).loc Cert.OutSamplesIdeal.main_arg2) = m ((c.tc : Thread Cert.OutSamplesIdeal.nD Cert.OutSamplesIdeal.τ).loc Cert.OutSamplesIdeal.main_arg2)
          ∧ r.2.mem ((c.tc : Thread Cert.OutSamplesIdeal.nD Cert.OutSamplesIdeal.τ).loc Cert.OutSamplesIdeal.main_arg3) = m ((c.tc : Thread Cert.OutSamplesIdeal.nD Cert.OutSamplesIdeal.τ).loc Cert.OutSamplesIdeal.main_arg3))
      ∧ θ_run (Cert.OutSamplesRefIdeal.defs (F := Ideal)) (onTc (τ := Cert.OutSamplesRefIdeal.τ) (Cert.OutSamplesRefIdeal.main (F := Ideal))) ⟨m', fun _ => 0, g'⟩ (fun r => ∀ c : Dev Cert.OutSamplesRefIdeal.nD,
          r.2.mem ((c.tc : Thread Cert.OutSamplesRefIdeal.nD Cert.OutSamplesRefIdeal.τ).loc Cert.OutSamplesRefIdeal.main_v16) = v0 c
          ∧ r.2.mem ((c.tc : Thread Cert.OutSamplesRefIdeal.nD Cert.OutSamplesRefIdeal.τ).loc Cert.OutSamplesRefIdeal.main_arg0) = m' ((c.tc : Thread Cert.OutSamplesRefIdeal.nD Cert.OutSamplesRefIdeal.τ).loc Cert.OutSamplesRefIdeal.main_arg0)
          ∧ r.2.mem ((c.tc : Thread Cert.OutSamplesRefIdeal.nD Cert.OutSamplesRefIdeal.τ).loc Cert.OutSamplesRefIdeal.main_arg1) = m' ((c.tc : Thread Cert.OutSamplesRefIdeal.nD Cert.OutSamplesRefIdeal.τ).loc Cert.OutSamplesRefIdeal.main_arg1)
          ∧ r.2.mem ((c.tc : Thread Cert.OutSamplesRefIdeal.nD Cert.OutSamplesRefIdeal.τ).loc Cert.OutSamplesRefIdeal.main_arg2) = m' ((c.tc : Thread Cert.OutSamplesRefIdeal.nD Cert.OutSamplesRefIdeal.τ).loc Cert.OutSamplesRefIdeal.main_arg2)
          ∧ r.2.mem ((c.tc : Thread Cert.OutSamplesRefIdeal.nD Cert.OutSamplesRefIdeal.τ).loc Cert.OutSamplesRefIdeal.main_arg3) = m' ((c.tc : Thread Cert.OutSamplesRefIdeal.nD Cert.OutSamplesRefIdeal.τ).loc Cert.OutSamplesRefIdeal.main_arg3))

def Claim : Prop :=
  ∃ (hKernel : Cert.Kernel.Facts) (hKernelIdeal : Cert.KernelIdeal.Facts) (hReferenceIdeal : Cert.ReferenceIdeal.Facts) (hInEven : Cert.InEven.Facts) (hInEvenIdeal : Cert.InEvenIdeal.Facts) (hInEvenRefIdeal : Cert.InEvenRefIdeal.Facts) (hInOdd : Cert.InOdd.Facts) (hInOddIdeal : Cert.InOddIdeal.Facts) (hInOddRefIdeal : Cert.InOddRefIdeal.Facts) (hOutEven : Cert.OutEven.Facts) (hOutEvenIdeal : Cert.OutEvenIdeal.Facts) (hOutEvenRefIdeal : Cert.OutEvenRefIdeal.Facts) (hOutOdd : Cert.OutOdd.Facts) (hOutOddIdeal : Cert.OutOddIdeal.Facts) (hOutOddRefIdeal : Cert.OutOddRefIdeal.Facts) (hCached : Cert.Cached.Facts) (hCachedIdeal : Cert.CachedIdeal.Facts) (hCachedRefIdeal : Cert.CachedRefIdeal.Facts) (hOutLast : Cert.OutLast.Facts) (hOutLastIdeal : Cert.OutLastIdeal.Facts) (hOutLastRefIdeal : Cert.OutLastRefIdeal.Facts) (hOutSamples : Cert.OutSamples.Facts) (hOutSamplesIdeal : Cert.OutSamplesIdeal.Facts) (hOutSamplesRefIdeal : Cert.OutSamplesRefIdeal.Facts) (hPre_finite_scores : Cert.Pre_finite_scores.Facts) (hPre_finite_cached : Cert.Pre_finite_cached.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InEven (hInEven := hInEven)
    ∧ quiescent_InEvenIdeal (hInEvenIdeal := hInEvenIdeal)
    ∧ quiescent_InEvenRefIdeal (hInEvenRefIdeal := hInEvenRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_Cached (hCached := hCached)
    ∧ quiescent_CachedIdeal (hCachedIdeal := hCachedIdeal)
    ∧ quiescent_CachedIdeal_pre_finite_cached (hCachedIdeal := hCachedIdeal) (hPre_finite_cached := hPre_finite_cached)
    ∧ quiescent_CachedRefIdeal (hCachedRefIdeal := hCachedRefIdeal)
    ∧ quiescent_CachedRefIdeal_pre_finite_cached (hCachedRefIdeal := hCachedRefIdeal) (hPre_finite_cached := hPre_finite_cached)
    ∧ quiescent_OutLast (hOutLast := hOutLast)
    ∧ quiescent_OutLastIdeal (hOutLastIdeal := hOutLastIdeal)
    ∧ quiescent_OutLastRefIdeal (hOutLastRefIdeal := hOutLastRefIdeal)
    ∧ quiescent_OutSamples (hOutSamples := hOutSamples)
    ∧ quiescent_OutSamplesIdeal (hOutSamplesIdeal := hOutSamplesIdeal)
    ∧ quiescent_OutSamplesRefIdeal (hOutSamplesRefIdeal := hOutSamplesRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InEven_InEvenIdeal
    ∧ algebraic_InEvenIdeal_InEvenRefIdeal (hInEvenIdeal := hInEvenIdeal) (hInEvenRefIdeal := hInEvenRefIdeal)
    ∧ preserves_InOdd_InOddIdeal
    ∧ algebraic_InOddIdeal_InOddRefIdeal (hInOddIdeal := hInOddIdeal) (hInOddRefIdeal := hInOddRefIdeal)
    ∧ preserves_OutEven_OutEvenIdeal
    ∧ algebraic_OutEvenIdeal_OutEvenRefIdeal (hOutEvenIdeal := hOutEvenIdeal) (hOutEvenRefIdeal := hOutEvenRefIdeal)
    ∧ preserves_OutOdd_OutOddIdeal
    ∧ algebraic_OutOddIdeal_OutOddRefIdeal (hOutOddIdeal := hOutOddIdeal) (hOutOddRefIdeal := hOutOddRefIdeal)
    ∧ preserves_Cached_CachedIdeal
    ∧ algebraic_CachedIdeal_CachedRefIdeal_pre_finite_cached (hCachedIdeal := hCachedIdeal) (hCachedRefIdeal := hCachedRefIdeal) (hPre_finite_cached := hPre_finite_cached)
    ∧ preserves_OutLast_OutLastIdeal
    ∧ algebraic_OutLastIdeal_OutLastRefIdeal (hOutLastIdeal := hOutLastIdeal) (hOutLastRefIdeal := hOutLastRefIdeal)
    ∧ preserves_OutSamples_OutSamplesIdeal
    ∧ algebraic_OutSamplesIdeal_OutSamplesRefIdeal (hOutSamplesIdeal := hOutSamplesIdeal) (hOutSamplesRefIdeal := hOutSamplesRefIdeal)
-- ==== Pre_finite_cached.lean ====
abbrev S256x5632 : Shape := ⟨2, ![256, 5632]⟩
abbrev S2x16 : Shape := ⟨2, ![2, 16]⟩
abbrev S2x32x128x4x64 : Shape := ⟨5, ![2, 32, 128, 4, 64]⟩
abbrev S256x1280 : Shape := ⟨2, ![256, 1280]⟩
abbrev S_ : Shape := ⟨0, ![]⟩
abbrev S1x16 : Shape := ⟨2, ![1, 16]⟩
abbrev S16 : Shape := ⟨1, ![16]⟩
abbrev S1x32x128x4x64 : Shape := ⟨5, ![1, 32, 128, 4, 64]⟩
abbrev S32x128x4x64 : Shape := ⟨4, ![32, 128, 4, 64]⟩

class Facts : Prop where
  slices_S256x5632_S256x1280_0_0 : S256x5632.Slices ![0, 0] S256x1280
  bcast_S_S256x1280 : S_.BroadcastsInDim S256x1280 (![] : Fin 0 → Fin S256x1280.rank)
  slices_S2x16_S1x16_0_0 : S2x16.Slices ![0, 0] S1x16
  shapeCasts_S1x16_S16 : S1x16.ShapeCasts S16
  bcast_S_S16 : S_.BroadcastsInDim S16 (![] : Fin 0 → Fin S16.rank)
  slices_S2x32x128x4x64_S1x32x128x4x64_0_0_0_0_0 : S2x32x128x4x64.Slices ![0, 0, 0, 0, 0] S1x32x128x4x64
  shapeCasts_S1x32x128x4x64_S32x128x4x64 : S1x32x128x4x64.ShapeCasts S32x128x4x64
  bcast_S_S32x128x4x64 : S_.BroadcastsInDim S32x128x4x64 (![] : Fin 0 → Fin S32x128x4x64.rank)

variable [Facts]

def fn {F : FTy → Type} [FloatOps F] (main_arg0 : FVec F S256x5632 .f32) (main_arg1 : FVec F S2x16 .f32) (main_arg2 : FVec F S2x32x128x4x64 .f32) (main_arg3 : FVec F S2x32x128x4x64 .f32) : IVec S256x1280 1 × IVec S16 1 × IVec S32x128x4x64 1 :=
  let main_v0 : FVec F S256x1280 .f32 := (extractStridedSlice S256x1280 ![0, 0] · slices_S256x5632_S256x1280_0_0) main_arg0
  let main_v1 : FVec F S256x1280 .f32 := Host.absf main_v0
  let main_cst : FVec F S_ .f32 := constant S_ .f32 0x7F800000#32
  let main_v2 : FVec F S256x1280 .f32 := broadcastInDim S256x1280 ![] bcast_S_S256x1280 main_cst
  let main_v3 : IVec S256x1280 1 := cmpf .olt main_v1 main_v2
  let main_v4 : FVec F S1x16 .f32 := (extractStridedSlice S1x16 ![0, 0] · slices_S2x16_S1x16_0_0) main_arg1
  let main_v5 : FVec F S16 .f32 := shapeCast S16 main_v4 shapeCasts_S1x16_S16
  let main_v6 : FVec F S16 .f32 := Host.absf main_v5
  let main_cst_0 : FVec F S_ .f32 := constant S_ .f32 0x7F800000#32
  let main_v7 : FVec F S16 .f32 := broadcastInDim S16 ![] bcast_S_S16 main_cst_0
  let main_v8 : IVec S16 1 := cmpf .olt main_v6 main_v7
  let main_v9 : FVec F S1x32x128x4x64 .f32 := (extractStridedSlice S1x32x128x4x64 ![0, 0, 0, 0, 0] · slices_S2x32x128x4x64_S1x32x128x4x64_0_0_0_0_0) main_arg2
  let main_v10 : FVec F S32x128x4x64 .f32 := shapeCast S32x128x4x64 main_v9 shapeCasts_S1x32x128x4x64_S32x128x4x64
  let main_v11 : FVec F S32x128x4x64 .f32 := Host.absf main_v10
  let main_cst_1 : FVec F S_ .f32 := constant S_ .f32 0x7F800000#32
  let main_v12 : FVec F S32x128x4x64 .f32 := broadcastInDim S32x128x4x64 ![] bcast_S_S32x128x4x64 main_cst_1
  let main_v13 : IVec S32x128x4x64 1 := cmpf .olt main_v11 main_v12
  (main_v3, main_v8, main_v13)
-- ==== Pre_finite_scores.lean ====
abbrev S8192x5632 : Shape := ⟨2, ![8192, 5632]⟩
abbrev S2x16 : Shape := ⟨2, ![2, 16]⟩
abbrev S8192x1280 : Shape := ⟨2, ![8192, 1280]⟩
abbrev S_ : Shape := ⟨0, ![]⟩
abbrev S1x16 : Shape := ⟨2, ![1, 16]⟩
abbrev S16 : Shape := ⟨1, ![16]⟩

class Facts : Prop where
  slices_S8192x5632_S8192x1280_0_0 : S8192x5632.Slices ![0, 0] S8192x1280
  bcast_S_S8192x1280 : S_.BroadcastsInDim S8192x1280 (![] : Fin 0 → Fin S8192x1280.rank)
  slices_S2x16_S1x16_0_0 : S2x16.Slices ![0, 0] S1x16
  shapeCasts_S1x16_S16 : S1x16.ShapeCasts S16
  bcast_S_S16 : S_.BroadcastsInDim S16 (![] : Fin 0 → Fin S16.rank)

variable [Facts]

def fn {F : FTy → Type} [FloatOps F] (main_arg0 : FVec F S8192x5632 .f32) (main_arg1 : FVec F S2x16 .f32) : IVec S8192x1280 1 × IVec S16 1 :=
  let main_v0 : FVec F S8192x1280 .f32 := (extractStridedSlice S8192x1280 ![0, 0] · slices_S8192x5632_S8192x1280_0_0) main_arg0
  let main_v1 : FVec F S8192x1280 .f32 := Host.absf main_v0
  let main_cst : FVec F S_ .f32 := constant S_ .f32 0x7F800000#32
  let main_v2 : FVec F S8192x1280 .f32 := broadcastInDim S8192x1280 ![] bcast_S_S8192x1280 main_cst
  let main_v3 : IVec S8192x1280 1 := cmpf .olt main_v1 main_v2
  let main_v4 : FVec F S1x16 .f32 := (extractStridedSlice S1x16 ![0, 0] · slices_S2x16_S1x16_0_0) main_arg1
  let main_v5 : FVec F S16 .f32 := shapeCast S16 main_v4 shapeCasts_S1x16_S16
  let main_v6 : FVec F S16 .f32 := Host.absf main_v5
  let main_cst_0 : FVec F S_ .f32 := constant S_ .f32 0x7F800000#32
  let main_v7 : FVec F S16 .f32 := broadcastInDim S16 ![] bcast_S_S16 main_cst_0
  let main_v8 : IVec S16 1 := cmpf .olt main_v6 main_v7
  (main_v3, main_v8)
-- ==== Kernel.lean ====
abbrev S8192x5632 : Shape := ⟨2, ![8192, 5632]⟩
abbrev S2x16 : Shape := ⟨2, ![2, 16]⟩
abbrev S1x16 : Shape := ⟨2, ![1, 16]⟩
abbrev S16 : Shape := ⟨1, ![16]⟩
abbrev S8192x1024 : Shape := ⟨2, ![8192, 1024]⟩
abbrev S256x1024 : Shape := ⟨2, ![256, 1024]⟩
abbrev S256x512 : Shape := ⟨2, ![256, 512]⟩
abbrev S128x256 : Shape := ⟨2, ![128, 256]⟩
abbrev S256x256 : Shape := ⟨2, ![256, 256]⟩
abbrev S384x256 : Shape := ⟨2, ![384, 256]⟩
abbrev S512x256 : Shape := ⟨2, ![512, 256]⟩
abbrev S256x64 : Shape := ⟨2, ![256, 64]⟩
abbrev S128x64 : Shape := ⟨2, ![128, 64]⟩
abbrev S512x64 : Shape := ⟨2, ![512, 64]⟩
abbrev S1 : Shape := ⟨1, ![1]⟩
abbrev S128x1 : Shape := ⟨2, ![128, 1]⟩
abbrev S512x1 : Shape := ⟨2, ![512, 1]⟩
abbrev S512 : Shape := ⟨1, ![512]⟩
abbrev S256x128 : Shape := ⟨2, ![256, 128]⟩
abbrev S512x128 : Shape := ⟨2, ![512, 128]⟩
abbrev S128x1024 : Shape := ⟨2, ![128, 1024]⟩

abbrev nBuf : Space → Nat
  | .hbm => 5
  | .vmem => 16
  | .smem => 1
  | _ => 0

abbrev bufTy : (tb : Table) → Fin (tcTables nBuf tb) → BufTy
  | .hbm, ⟨0, _⟩ => ⟨S8192x5632, .f32⟩
  | .hbm, ⟨1, _⟩ => ⟨S2x16, .f32⟩
  | .hbm, ⟨2, _⟩ => ⟨S1x16, .f32⟩
  | .hbm, ⟨3, _⟩ => ⟨S16, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S128x256, .f32⟩
  | .local _ .vmem, ⟨7, _⟩ => ⟨S128x256, .f32⟩
  | .local _ .vmem, ⟨8, _⟩ => ⟨S256x256, .f32⟩
  | .local _ .vmem, ⟨9, _⟩ => ⟨S256x256, .f32⟩
  | .local _ .vmem, ⟨10, _⟩ => ⟨S128x256, .f32⟩
  | .local _ .vmem, ⟨11, _⟩ => ⟨S128x256, .f32⟩
  | .local _ .vmem, ⟨12, _⟩ => ⟨S256x256, .f32⟩
  | .local _ .vmem, ⟨13, _⟩ => ⟨S256x256, .f32⟩
  | .local _ .vmem, ⟨14, _⟩ => ⟨S256x1024, .bf16⟩
  | .local _ .vmem, ⟨15, _⟩ => ⟨S256x1024, .bf16⟩
  | .local _ .smem, ⟨0, _⟩ => ⟨S16, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c4_i32 : BitVec 32 := 4#32
  let c0_i32_0 : BitVec 32 := 0#32
  ![v4.toNat, c4_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c5_i32 : BitVec 32 := 5#32
  let c0_i32_0 : BitVec 32 := 0#32
  ![v4.toNat, c5_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x5632 : Shape := ⟨2, ![8192, 5632]⟩
abbrev S2x16 : Shape := ⟨2, ![2, 16]⟩
abbrev S1x16 : Shape := ⟨2, ![1, 16]⟩
abbrev S16 : Shape := ⟨1, ![16]⟩
abbrev S4x4 : Shape := ⟨2, ![4, 4]⟩
abbrev S8192x1024 : Shape := ⟨2, ![8192, 1024]⟩
abbrev S2x32x128x4x4x64 : Shape := ⟨6, ![2, 32, 128, 4, 4, 64]⟩
abbrev S8192x256 : Shape := ⟨2, ![8192, 256]⟩
abbrev S2x32x128x4x64 : Shape := ⟨5, ![2, 32, 128, 4, 64]⟩
abbrev S32 : Shape := ⟨1, ![32]⟩
abbrev S32x1 : Shape := ⟨2, ![32, 1]⟩
abbrev S_ : Shape := ⟨0, ![]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S2x1x128x4x64 : Shape := ⟨5, ![2, 1, 128, 4, 64]⟩
abbrev S2x31x128x4x64 : Shape := ⟨5, ![2, 31, 128, 4, 64]⟩
abbrev S2x32x256x4x64 : Shape := ⟨5, ![2, 32, 256, 4, 64]⟩
abbrev S2x32x4x256x128x4 : Shape := ⟨6, ![2, 32, 4, 256, 128, 4]⟩
abbrev S2x32x4x4x128x256 : Shape := ⟨6, ![2, 32, 4, 4, 128, 256]⟩
abbrev S4x4x1x1 : Shape := ⟨4, ![4, 4, 1, 1]⟩
abbrev S2x32x4x4x128 : Shape := ⟨5, ![2, 32, 4, 4, 128]⟩
abbrev S2x32x4x4x128x1 : Shape := ⟨6, ![2, 32, 4, 4, 128, 1]⟩
abbrev S1x1x4x4x1x1 : Shape := ⟨6, ![1, 1, 4, 4, 1, 1]⟩
abbrev S2x32x4x64x4x128 : Shape := ⟨6, ![2, 32, 4, 64, 4, 128]⟩

abbrev nBuf : Space → Nat
  | .hbm => 105
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2x16, .f32⟩
  | .hbm, ⟨2, _⟩ => ⟨S1x16, .f32⟩
  | .hbm, ⟨3, _⟩ => ⟨S16, .f32⟩
  | .hbm, ⟨4, _⟩ => ⟨S4x4, .f32⟩
  | .hbm, ⟨5, _⟩ => ⟨S8192x1024, .f32⟩
  | .hbm, ⟨6, _⟩ => ⟨S2x32x128x4x4x64, .f32⟩
  | .hbm, ⟨7, _⟩ => ⟨S8192x256, .f32⟩
  | .hbm, ⟨8, _⟩ => ⟨S2x32x128x4x64, .f32⟩
  | .hbm, ⟨9, _⟩ => ⟨S8192x256, .f32⟩
  | .hbm, ⟨10, _⟩ => ⟨S2x32x128x4x64, .f32⟩
  | .hbm, ⟨11, _⟩ => ⟨S8192x1024, .f32⟩
  | .hbm, ⟨12, _⟩ => ⟨S32, .i32⟩
  | .hbm, ⟨13, _⟩ => ⟨S32x1, .i32⟩
  | .hbm, ⟨14, _⟩ => ⟨S_, .i32⟩
  | .hbm, ⟨15, _⟩ => ⟨S32x1, .i32⟩
  | .hbm, ⟨16, _⟩ => ⟨S32x1, .i32⟩
  | .hbm, ⟨17, _⟩ => ⟨S128, .i32⟩
  | .hbm, ⟨18, _⟩ => ⟨S1x128, .i32⟩
  | .hbm, ⟨19, _⟩ => ⟨S32x128, .i32⟩
  | .hbm, ⟨20, _⟩ => ⟨S32x128, .i32⟩
  | .hbm, ⟨21, _⟩ => ⟨S32x128, .i32⟩
  | .hbm, ⟨22, _⟩ => ⟨S_, .i32⟩
  | .hbm, ⟨23, _⟩ => ⟨S32x1, .i32⟩
  | .hbm, ⟨24, _⟩ => ⟨S32x1, .i32⟩
  | .hbm, ⟨25, _⟩ => ⟨S256, .i32⟩
  | .hbm, ⟨26, _⟩ => ⟨S1x256, .i32⟩
  | .hbm, ⟨27, _⟩ => ⟨S32x256, .i32⟩
  | .hbm, ⟨28, _⟩ => ⟨S32x256, .i32⟩
  | .hbm, ⟨29, _⟩ => ⟨S32x256, .i32⟩
  | .hbm, ⟨30, _⟩ => ⟨S32x128x1, .i32⟩
  | .hbm, ⟨31, _⟩ => ⟨S32x1x256, .i32⟩
  | .hbm, ⟨32, _⟩ => ⟨S32x128x256, .i32⟩
  | .hbm, ⟨33, _⟩ => ⟨S32x128x256, .i32⟩
  | .hbm, ⟨34, _⟩ => ⟨S32x128x256, .i32⟩
  | .hbm, ⟨35, _⟩ => ⟨S_, .i32⟩
  | .hbm, ⟨36, _⟩ => ⟨S32x128x256, .i32⟩
  | .hbm, ⟨37, _⟩ => ⟨S32x128x256, .i1⟩
  | .hbm, ⟨38, _⟩ => ⟨S_, .i32⟩
  | .hbm, ⟨39, _⟩ => ⟨S32x128x256, .i32⟩
  | .hbm, ⟨40, _⟩ => ⟨S32x128x256, .i1⟩
  | .hbm, ⟨41, _⟩ => ⟨S32x128x256, .i1⟩
  | .hbm, ⟨42, _⟩ => ⟨S32x1x256, .i32⟩
  | .hbm, ⟨43, _⟩ => ⟨S_, .i32⟩
  | .hbm, ⟨44, _⟩ => ⟨S32x1x256, .i32⟩
  | .hbm, ⟨45, _⟩ => ⟨S32x1x256, .i1⟩
  | .hbm, ⟨46, _⟩ => ⟨S32x128x256, .i1⟩
  | .hbm, ⟨47, _⟩ => ⟨S32x128x256, .i1⟩
  | .hbm, ⟨48, _⟩ => ⟨S32x1x1x128x256, .i1⟩
  | .hbm, ⟨49, _⟩ => ⟨S2x1x128x4x64, .f32⟩
  | .hbm, ⟨50, _⟩ => ⟨S_, .f32⟩
  | .hbm, ⟨51, _⟩ => ⟨S2x1x128x4x64, .f32⟩
  | .hbm, ⟨52, _⟩ => ⟨S2x31x128x4x64, .f32⟩
  | .hbm, ⟨53, _⟩ => ⟨S2x32x128x4x64, .f32⟩
  | .hbm, ⟨54, _⟩ => ⟨S2x32x256x4x64, .f32⟩
  | .hbm, ⟨55, _⟩ => ⟨S2x32x4x256x128x4, .f32⟩
  | .hbm, ⟨56, _⟩ => ⟨S2x32x4x4x128x256, .f32⟩
  | .hbm, ⟨57, _⟩ => ⟨S_, .f32⟩
  | .hbm, ⟨58, _⟩ => ⟨S2x32x4x4x128x256, .f32⟩
  | .hbm, ⟨59, _⟩ => ⟨S2x32x4x4x128x256, .f32⟩
  | .hbm, ⟨60, _⟩ => ⟨S_, .f32⟩
  | .hbm, ⟨61, _⟩ => ⟨S_, .f32⟩
  | .hbm, ⟨62, _⟩ => ⟨S2x32x4x4x128x256, .i1⟩
  | .hbm, ⟨63, _⟩ => ⟨S2x32x4x4x128x256, .f32⟩
  | .hbm, ⟨64, _⟩ => ⟨S2x32x4x4x128x256, .f32⟩
  | .hbm, ⟨65, _⟩ => ⟨S4x4x1x1, .f32⟩
  | .hbm, ⟨66, _⟩ => ⟨S_, .f32⟩
  | .hbm, ⟨67, _⟩ => ⟨S2x32x4x4x128, .f32⟩
  | .hbm, ⟨68, _⟩ => ⟨S2x32x4x4x128x1, .f32⟩
  | .hbm, ⟨69, _⟩ => ⟨S1x1x4x4x1x1, .f32⟩
  | .hbm, ⟨70, _⟩ => ⟨S2x32x4x4x128x1, .f32⟩
  | .hbm, ⟨71, _⟩ => ⟨S2x32x4x4x128x1, .f32⟩
  | .hbm, ⟨72, _⟩ => ⟨S2x32x4x4x128x256, .f32⟩
  | .hbm, ⟨73, _⟩ => ⟨S2x32x4x4x128x256, .f32⟩
  | .hbm, ⟨74, _⟩ => ⟨S2x32x4x4x128x256, .f32⟩
  | .hbm, ⟨75, _⟩ => ⟨S_, .f32⟩
  | .hbm, ⟨76, _⟩ => ⟨S2x32x4x4x128, .f32⟩
  | .hbm, ⟨77, _⟩ => ⟨S2x32x4x4x128x1, .f32⟩
  | .hbm, ⟨78, _⟩ => ⟨S1x1x4x4x1x1, .f32⟩
  | .hbm, ⟨79, _⟩ => ⟨S2x32x4x4x128x1, .f32⟩
  | .hbm, ⟨80, _⟩ => ⟨S2x32x4x4x128x1, .f32⟩
  | .hbm, ⟨81, _⟩ => ⟨S2x32x4x4x128x1, .f32⟩
  | .hbm, ⟨82, _⟩ => ⟨S2x32x4x4x128x1, .f32⟩
  | .hbm, ⟨83, _⟩ => ⟨S2x32x4x4x128x256, .f32⟩
  | .hbm, ⟨84, _⟩ => ⟨S2x32x4x4x128x256, .f32⟩
  | .hbm, ⟨85, _⟩ => ⟨S2x1x128x4x64, .f32⟩
  | .hbm, ⟨86, _⟩ => ⟨S_, .f32⟩
  | .hbm, ⟨87, _⟩ => ⟨S2x1x128x4x64, .f32⟩
  | .hbm, ⟨88, _⟩ => ⟨S2x31x128x4x64, .f32⟩
  | .hbm, ⟨89, _⟩ => ⟨S2x32x128x4x64, .f32⟩
  | .hbm, ⟨90, _⟩ => ⟨S2x32x256x4x64, .f32⟩
  | .hbm, ⟨91, _⟩ => ⟨S2x32x4x64x4x128, .f32⟩
  | .hbm, ⟨92, _⟩ => ⟨S2x32x128x4x4x64, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_c_1 : Ref sig .tc := ⟨.hbm, 35, rfl⟩
abbrev main_v31 : Ref sig .tc := ⟨.hbm, 36, rfl⟩
abbrev main_v32 : Ref sig .tc := ⟨.hbm, 37, rfl⟩
abbrev main_c_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_c_3 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_cst_5 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== InEven.lean ====
abbrev S8192x2048 : Shape := ⟨2, ![8192, 2048]⟩
abbrev S4x2048 : Shape := ⟨2, ![4, 2048]⟩
abbrev S2x2048x6672 : Shape := ⟨3, ![2, 2048, 6672]⟩
abbrev S2x6672x2048 : Shape := ⟨3, ![2, 6672, 2048]⟩
abbrev S2x1024x2048 : Shape := ⟨3, ![2, 1024, 2048]⟩
abbrev S2x16x2048 : Shape := ⟨3, ![2, 16, 2048]⟩
abbrev S_ : Shape := ⟨0, ![]⟩
abbrev S2x112x2048 : Shape := ⟨3, ![2, 112, 2048]⟩
abbrev S2x1152x2048 : Shape := ⟨3, ![2, 1152, 2048]⟩
abbrev S1x2048 : Shape := ⟨2, ![1, 2048]⟩
abbrev S2048 : Shape := ⟨1, ![2048]⟩
abbrev S8192x5632 : Shape := ⟨2, ![8192, 5632]⟩
abbrev S8192x1152 : Shape := ⟨2, ![8192, 1152]⟩
abbrev S1024x2048 : Shape := ⟨2, ![1024, 2048]⟩
abbrev S1x512x2048 : Shape := ⟨3, ![1, 512, 2048]⟩
abbrev S1x1152x2048 : Shape := ⟨3, ![1, 1152, 2048]⟩
abbrev S1024x512 : Shape := ⟨2, ![1024, 512]⟩
abbrev S1024x1152 : Shape := ⟨2, ![1024, 1152]⟩
abbrev S256x2048 : Shape := ⟨2, ![256, 2048]⟩
abbrev S256 : Shape := ⟨1, ![256]⟩
abbrev S256x1 : Shape := ⟨2, ![256, 1]⟩
abbrev S512x2048 : Shape := ⟨2, ![512, 2048]⟩
abbrev S1152x2048 : Shape := ⟨2, ![1152, 2048]⟩

abbrev nBuf : Space → Nat
  | .hbm => 15
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x6672, .f32⟩
  | .hbm, ⟨3, _⟩ => ⟨S2x6672x2048, .f32⟩
  | .hbm, ⟨4, _⟩ => ⟨S2x6672x2048, .bf16⟩
  | .hbm, ⟨5, _⟩ => ⟨S2x1024x2048, .bf16⟩
  | .hbm, ⟨6, _⟩ => ⟨S2x16x2048, .bf16⟩
  | .hbm, ⟨7, _⟩ => ⟨S_, .bf16⟩
  | .hbm, ⟨8, _⟩ => ⟨S2x112x2048, .bf16⟩
  | .hbm, ⟨9, _⟩ => ⟨S2x1152x2048, .bf16⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8192x5632, .f32⟩
  | .hbm, ⟨14, _⟩ => ⟨S8192x1152, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x512x2048, .bf16⟩
  | .local _ .vmem, ⟨4, _⟩ => ⟨S1x512x2048, .bf16⟩
  | .local _ .vmem, ⟨5, _⟩ => ⟨S1x1152x2048, .bf16⟩
  | .local _ .vmem, ⟨6, _⟩ => ⟨S1024x512, .f32⟩
  | .local _ .vmem, ⟨7, _⟩ => ⟨S1024x512, .f32⟩
  | .local _ .vmem, ⟨8, _⟩ => ⟨S1024x1152, .f32⟩
  | .local _ .vmem, ⟨9, _⟩ => ⟨S1024x1152, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 12], ![false, false]⟩

def k0_cond2 (i : grid0.Coords) : BitVec 1 :=
  let arg1 : BitVec 32 := BitVec.ofNat 32 (i 1).val
  let c11_i32 : BitVec 32 := 11#32
  let v3 : BitVec 1 := Scalar.cmpi .slt arg1 c11_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c11_i32_2 : BitVec 32 := 11#32
  let v6 : BitVec 1 := Scalar.cmpi .eq arg1 c11_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1152x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InEvenRefIdeal.lean ====
abbrev S8192x2048 : Shape := ⟨2, ![8192, 2048]⟩
abbrev S4x2048 : Shape := ⟨2, ![4, 2048]⟩
abbrev S2x2048x6672 : Shape := ⟨3, ![2, 2048, 6672]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x6672 : Shape := ⟨3, ![1, 2048, 6672]⟩
abbrev S2048x6672 : Shape := ⟨2, ![2048, 6672]⟩
abbrev S8192x6672 : Shape := ⟨2, ![8192, 6672]⟩
abbrev S8192x1024 : Shape := ⟨2, ![8192, 1024]⟩
abbrev S8192x16 : Shape := ⟨2, ![8192, 16]⟩
abbrev S8192x112 : Shape := ⟨2, ![8192, 112]⟩
abbrev S8192x1152 : Shape := ⟨2, ![8192, 1152]⟩
abbrev S8192x5632 : Shape := ⟨2, ![8192, 5632]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x6672, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x6672, .f32⟩
  | .hbm, ⟨22, _⟩ => ⟨S2048x6672, .f32⟩
  | .hbm, ⟨23, _⟩ => ⟨S8192x6672, .f32⟩
  | .hbm, ⟨24, _⟩ => ⟨S8192x1024, .f32⟩
  | .hbm, ⟨25, _⟩ => ⟨S8192x16, .f32⟩
  | .hbm, ⟨26, _⟩ => ⟨S_, .f32⟩
  | .hbm, ⟨27, _⟩ => ⟨S8192x112, .f32⟩
  | .hbm, ⟨28, _⟩ => ⟨S8192x1152, .f32⟩
  | .hbm, ⟨29, _⟩ => ⟨S8192x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== InOdd.lean ====
abbrev S8192x2048 : Shape := ⟨2, ![8192, 2048]⟩
abbrev S4x2048 : Shape := ⟨2, ![4, 2048]⟩
abbrev S2x2048x6144 : Shape := ⟨3, ![2, 2048, 6144]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x6144, .f32⟩
  | .hbm, ⟨3, _⟩ => ⟨S1x2048, .f32⟩
  | .hbm, ⟨4, _⟩ => ⟨S2048, .f32⟩
  | .hbm, ⟨5, _⟩ => ⟨S2x2048x6144, .bf16⟩
  | .hbm, ⟨6, _⟩ => ⟨S1x2048, .f32⟩
  | .hbm, ⟨7, _⟩ => ⟨S8192x2048, .f32⟩
  | .hbm, ⟨8, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InOddRefIdeal.lean ====
abbrev S8192x2048 : Shape := ⟨2, ![8192, 2048]⟩
abbrev S4x2048 : Shape := ⟨2, ![4, 2048]⟩
abbrev S2x2048x6144 : Shape := ⟨3, ![2, 2048, 6144]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x6144, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x6144, .f32⟩
  | .hbm, ⟨22, _⟩ => ⟨S2048x6144, .f32⟩
  | .hbm, ⟨23, _⟩ => ⟨S8192x6144, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== OutEven.lean ====
abbrev S8192x1024 : Shape := ⟨2, ![8192, 1024]⟩
abbrev S2x2048x2048 : Shape := ⟨3, ![2, 2048, 2048]⟩
abbrev S8192x2048 : Shape := ⟨2, ![8192, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x2048x2048, .f32⟩
  | .hbm, ⟨3, _⟩ => ⟨S8192x2048, .f32⟩
  | .hbm, ⟨4, _⟩ => ⟨S2x2048x2048, .bf16⟩
  | .hbm, ⟨5, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutEvenRefIdeal.lean ====
abbrev S8192x1024 : Shape := ⟨2, ![8192, 1024]⟩
abbrev S2x2048x2048 : Shape := ⟨3, ![2, 2048, 2048]⟩
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x2048x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S1x2048x2048, .f32⟩
  | .hbm, ⟨8, _⟩ => ⟨S2048x2048, .f32⟩
  | .hbm, ⟨9, _⟩ => ⟨S8192x2048, .f32⟩
  | .hbm, ⟨10, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OutOdd.lean ====
abbrev S8192x2048 : Shape := ⟨2, ![8192, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048x2048, .bf16⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutOddRefIdeal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Cached.lean ====
abbrev S256x5632 : Shape := ⟨2, ![256, 5632]⟩
abbrev S2x16 : Shape := ⟨2, ![2, 16]⟩
abbrev S2x32x128x4x64 : Shape := ⟨5, ![2, 32, 128, 4, 64]⟩
abbrev S2x4096x256 : Shape := ⟨3, ![2, 4096, 256]⟩
abbrev S1x16 : Shape := ⟨2, ![1, 16]⟩
abbrev S16 : Shape := ⟨1, ![16]⟩
abbrev S256x1024 : Shape := ⟨2, ![256, 1024]⟩
abbrev S32x1024 : Shape := ⟨2, ![32, 1024]⟩
abbrev S32x512 : Shape := ⟨2, ![32, 512]⟩
abbrev S1x512x256 : Shape := ⟨3, ![1, 512, 256]⟩
abbrev S32x256 : Shape := ⟨2, ![32, 256]⟩
abbrev S512x256 : Shape := ⟨2, ![512, 256]⟩
abbrev S120x256 : Shape := ⟨2, ![120, 256]⟩
abbrev S128x256 : Shape := ⟨2, ![128, 256]⟩
abbrev S8x256 : Shape := ⟨2, ![8, 256]⟩
abbrev S256x256 : Shape := ⟨2, ![256, 256]⟩
abbrev S256x64 : Shape := ⟨2, ![256, 64]⟩
abbrev S8x64 : Shape := ⟨2, ![8, 64]⟩
abbrev S32x64 : Shape := ⟨2, ![32, 64]⟩
abbrev S1 : Shape := ⟨1, ![1]⟩
abbrev S8x1 : Shape := ⟨2, ![8, 1]⟩
abbrev S32x1 : Shape := ⟨2, ![32, 1]⟩
abbrev S32 : Shape := ⟨1, ![32]⟩
abbrev S256x128 : Shape := ⟨2, ![256, 128]⟩
abbrev S32x128 : Shape := ⟨2, ![32, 128]⟩
abbrev S8x1024 : Shape := ⟨2, ![8, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x5632, .f32⟩
  | .hbm, ⟨1, _⟩ => ⟨S2x16, .f32⟩
  | .hbm, ⟨2, _⟩ => ⟨S2x32x128x4x64, .f32⟩
  | .hbm, ⟨3, _⟩ => ⟨S2x32x128x4x64, .f32⟩
  | .hbm, ⟨4, _⟩ => ⟨S2x4096x256, .f32⟩
  | .hbm, ⟨5, _⟩ => ⟨S2x4096x256, .f32⟩
  | .hbm, ⟨6, _⟩ => ⟨S1x16, .f32⟩
  | .hbm, ⟨7, _⟩ => ⟨S16, .f32⟩
  | .hbm, ⟨8, _⟩ => ⟨S256x1024, .bf16⟩
  | .local _ .vmem, ⟨0, _⟩ => ⟨S32x1024, .f32⟩
  | .local _ .vmem, ⟨1, _⟩ => ⟨S32x1024, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S1x512x256, .f32⟩
  | .local _ .vmem, ⟨7, _⟩ => ⟨S1x512x256, .f32⟩
  | .local _ .vmem, ⟨8, _⟩ => ⟨S32x256, .f32⟩
  | .local _ .vmem, ⟨9, _⟩ => ⟨S32x256, .f32⟩
  | .local _ .vmem, ⟨10, _⟩ => ⟨S1x512x256, .f32⟩
  | .local _ .vmem, ⟨11, _⟩ => ⟨S1x512x256, .f32⟩
  | .local _ .vmem, ⟨12, _⟩ => ⟨S32x256, .f32⟩
  | .local _ .vmem, ⟨13, _⟩ => ⟨S32x256, .f32⟩
  | .local _ .vmem, ⟨14, _⟩ => ⟨S32x1024, .bf16⟩
  | .local _ .vmem, ⟨15, _⟩ => ⟨S32x1024, .bf16⟩
  | .local _ .smem, ⟨0, _⟩ => ⟨S16, .f32⟩
  | _, _ => ⟨S256x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  ![v1.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  ![v1.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c5_i32 : BitVec 32 := 5#32
  let c0_i32 : BitVec 32 := 0#32
  ![v1.toNat, c5_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== CachedRefIdeal.lean ====
abbrev S256x5632 : Shape := ⟨2, ![256, 5632]⟩
abbrev S2x16 : Shape := ⟨2, ![2, 16]⟩
abbrev S2x32x128x4x64 : Shape := ⟨5, ![2, 32, 128, 4, 64]⟩
abbrev S1x16 : Shape := ⟨2, ![1, 16]⟩
abbrev S16 : Shape := ⟨1, ![16]⟩
abbrev S4x4 : Shape := ⟨2, ![4, 4]⟩
abbrev S256x1024 : Shape := ⟨2, ![256, 1024]⟩
abbrev S32x8x4x4x64 : Shape := ⟨5, ![32, 8, 4, 4, 64]⟩
abbrev S256x256 : Shape := ⟨2, ![256, 256]⟩
abbrev S32x8x4x64 : Shape := ⟨4, ![32, 8, 4, 64]⟩
abbrev S1x32x128x4x64 : Shape := ⟨5, ![1, 32, 128, 4, 64]⟩
abbrev S32x128x4x64 : Shape := ⟨4, ![32, 128, 4, 64]⟩
abbrev S32x136x4x64 : Shape := ⟨4, ![32, 136, 4, 64]⟩
abbrev S8 : Shape := ⟨1, ![8]⟩
abbrev S_ : Shape := ⟨0, ![]⟩
abbrev S136 : Shape := ⟨1, ![136]⟩
abbrev S8x1 : Shape := ⟨2, ![8, 1]⟩
abbrev S1x136 : Shape := ⟨2, ![1, 136]⟩
abbrev S8x136 : Shape := ⟨2, ![8, 136]⟩
abbrev S32x4x136x8x4 : Shape := ⟨5, ![32, 4, 136, 8, 4]⟩
abbrev S32x4x4x8x136 : Shape := ⟨5, ![32, 4, 4, 8, 136]⟩
abbrev S4x4x1x1 : Shape := ⟨4, ![4, 4, 1, 1]⟩
abbrev S32x4x4x8 : Shape := ⟨4, ![32, 4, 4, 8]⟩
abbrev S32x4x4x8x1 : Shape := ⟨5, ![32, 4, 4, 8, 1]⟩
abbrev S1x4x4x1x1 : Shape := ⟨5, ![1, 4, 4, 1, 1]⟩
abbrev S32x4x64x4x8 : Shape := ⟨5, ![32, 4, 64, 4, 8]⟩

abbrev nBuf : Space → Nat
  | .hbm => 90
  | .vmem => 0
  | .smem => 0
  | _ => 0

abbrev bufTy : (tb : Table) → Fin (tcTables nBuf tb) → BufTy
  | .hbm, ⟨0, _⟩ => ⟨S256x5632, .f32⟩
  | .hbm, ⟨1, _⟩ => ⟨S2x16, .f32⟩
  | .hbm, ⟨2, _⟩ => ⟨S2x32x128x4x64, .f32⟩
  | .hbm, ⟨3, _⟩ => ⟨S2x32x128x4x64, .f32⟩
  | .hbm, ⟨4, _⟩ => ⟨S1x16, .f32⟩
  | .hbm, ⟨5, _⟩ => ⟨S16, .f32⟩
  | .hbm, ⟨6, _⟩ => ⟨S4x4, .f32⟩
  | .hbm, ⟨7, _⟩ => ⟨S256x1024, .f32⟩
  | .hbm, ⟨8, _⟩ => ⟨S32x8x4x4x64, .f32⟩
  | .hbm, ⟨9, _⟩ => ⟨S256x256, .f32⟩
  | .hbm, ⟨10, _⟩ => ⟨S32x8x4x64, .f32⟩
  | .hbm, ⟨11, _⟩ => ⟨S256x256, .f32⟩
  | .hbm, ⟨12, _⟩ => ⟨S32x8x4x64, .f32⟩
  | .hbm, ⟨13, _⟩ => ⟨S256x1024, .f32⟩
  | .hbm, ⟨14, _⟩ => ⟨S1x32x128x4x64, .f32⟩
  | .hbm, ⟨15, _⟩ => ⟨S32x128x4x64, .f32⟩
  | .hbm, ⟨16, _⟩ => ⟨S32x136x4x64, .f32⟩
  | .hbm, ⟨17, _⟩ => ⟨S1x32x128x4x64, .f32⟩
  | .hbm, ⟨18, _⟩ => ⟨S32x128x4x64, .f32⟩
  | .hbm, ⟨19, _⟩ => ⟨S32x136x4x64, .f32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S136, .i32⟩
  | .hbm, ⟨25, _⟩ => ⟨S_, .i32⟩
  | .hbm, ⟨26, _⟩ => ⟨S136, .i32⟩
  | .hbm, ⟨27, _⟩ => ⟨S136, .i32⟩
  | .hbm, ⟨28, _⟩ => ⟨S8x1, .i32⟩
  | .hbm, ⟨29, _⟩ => ⟨S1x136, .i32⟩
  | .hbm, ⟨30, _⟩ => ⟨S8x136, .i32⟩
  | .hbm, ⟨31, _⟩ => ⟨S8x136, .i32⟩
  | .hbm, ⟨32, _⟩ => ⟨S8x136, .i32⟩
  | .hbm, ⟨33, _⟩ => ⟨S_, .i32⟩
  | .hbm, ⟨34, _⟩ => ⟨S8x136, .i32⟩
  | .hbm, ⟨35, _⟩ => ⟨S8x136, .i1⟩
  | .hbm, ⟨36, _⟩ => ⟨S_, .i32⟩
  | .hbm, ⟨37, _⟩ => ⟨S8x136, .i32⟩
  | .hbm, ⟨38, _⟩ => ⟨S8x136, .i1⟩
  | .hbm, ⟨39, _⟩ => ⟨S8x136, .i1⟩
  | .hbm, ⟨40, _⟩ => ⟨S1x136, .i32⟩
  | .hbm, ⟨41, _⟩ => ⟨S_, .i32⟩
  | .hbm, ⟨42, _⟩ => ⟨S1x136, .i32⟩
  | .hbm, ⟨43, _⟩ => ⟨S1x136, .i1⟩
  | .hbm, ⟨44, _⟩ => ⟨S8x136, .i1⟩
  | .hbm, ⟨45, _⟩ => ⟨S8x136, .i1⟩
  | .hbm, ⟨46, _⟩ => ⟨S32x4x136x8x4, .f32⟩
  | .hbm, ⟨47, _⟩ => ⟨S32x4x4x8x136, .f32⟩
  | .hbm, ⟨48, _⟩ => ⟨S_, .f32⟩
  | .hbm, ⟨49, _⟩ => ⟨S32x4x4x8x136, .f32⟩
  | .hbm, ⟨50, _⟩ => ⟨S32x4x4x8x136, .f32⟩
  | .hbm, ⟨51, _⟩ => ⟨S_, .f32⟩
  | .hbm, ⟨52, _⟩ => ⟨S_, .f32⟩
  | .hbm, ⟨53, _⟩ => ⟨S32x4x4x8x136, .i1⟩
  | .hbm, ⟨54, _⟩ => ⟨S32x4x4x8x136, .f32⟩
  | .hbm, ⟨55, _⟩ => ⟨S32x4x4x8x136, .f32⟩
  | .hbm, ⟨56, _⟩ => ⟨S4x4x1x1, .f32⟩
  | .hbm, ⟨57, _⟩ => ⟨S_, .f32⟩
  | .hbm, ⟨58, _⟩ => ⟨S32x4x4x8, .f32⟩
  | .hbm, ⟨59, _⟩ => ⟨S32x4x4x8x1, .f32⟩
  | .hbm, ⟨60, _⟩ => ⟨S1x4x4x1x1, .f32⟩
  | .hbm, ⟨61, _⟩ => ⟨S32x4x4x8x1, .f32⟩
  | .hbm, ⟨62, _⟩ => ⟨S32x4x4x8x1, .f32⟩
  | .hbm, ⟨63, _⟩ => ⟨S32x4x4x8x136, .f32⟩
  | .hbm, ⟨64, _⟩ => ⟨S32x4x4x8x136, .f32⟩
  | .hbm, ⟨65, _⟩ => ⟨S32x4x4x8x136, .f32⟩
  | .hbm, ⟨66, _⟩ => ⟨S_, .f32⟩
  | .hbm, ⟨67, _⟩ => ⟨S32x4x4x8, .f32⟩
  | .hbm, ⟨68, _⟩ => ⟨S32x4x4x8x1, .f32⟩
  | .hbm, ⟨69, _⟩ => ⟨S1x4x4x1x1, .f32⟩
  | .hbm, ⟨70, _⟩ => ⟨S32x4x4x8x1, .f32⟩
  | .hbm, ⟨71, _⟩ => ⟨S32x4x4x8x1, .f32⟩
  | .hbm, ⟨72, _⟩ => ⟨S32x4x4x8x1, .f32⟩
  | .hbm, ⟨73, _⟩ => ⟨S32x4x4x8x1, .f32⟩
  | .hbm, ⟨74, _⟩ => ⟨S32x4x4x8x136, .f32⟩
  | .hbm, ⟨75, _⟩ => ⟨S32x4x4x8x136, .f32⟩
  | .hbm, ⟨76, _⟩ => ⟨S32x4x64x4x8, .f32⟩
  | .hbm, ⟨77, _⟩ => ⟨S32x8x4x4x64, .f32⟩
  | .hbm, ⟨78, _⟩ => ⟨S256x1024, .f32⟩
  | .hbm, ⟨79, _⟩ => ⟨S256x1024, .f32⟩
  | .hbm, ⟨80, _⟩ => ⟨S256x1024, .f32⟩
  | .hbm, ⟨81, _⟩ => ⟨S_, .f32⟩
  | .hbm, ⟨82, _⟩ => ⟨S256x1024, .f32⟩
  | .hbm, ⟨83, _⟩ => ⟨S256x1024, .f32⟩
  | .hbm, ⟨84, _⟩ => ⟨S_, .f32⟩
  | .hbm, ⟨85, _⟩ => ⟨S256x1024, .f32⟩
  | .hbm, ⟨86, _⟩ => ⟨S256x1024, .f32⟩
  | .hbm, ⟨87, _⟩ => ⟨S256x1024, .f32⟩
  | .hbm, ⟨88, _⟩ => ⟨S256x1024, .f32⟩
  | .hbm, ⟨89, _⟩ => ⟨S256x1024, .bf16⟩
  | _, _ => ⟨S256x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_1 : Ref sig .tc := ⟨.hbm, 33, rfl⟩
abbrev main_v27 : Ref sig .tc := ⟨.hbm, 34, rfl⟩
abbrev main_v28 : Ref sig .tc := ⟨.hbm, 35, rfl⟩
abbrev main_c_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== OutLast.lean ====
abbrev S8192x2048 : Shape := ⟨2, ![8192, 2048]⟩
abbrev S2x2048x2048 : Shape := ⟨3, ![2, 2048, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2048, .f32⟩
  | .hbm, ⟨4, _⟩ => ⟨S2x2048x2048, .bf16⟩
  | .hbm, ⟨5, _⟩ => ⟨S1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutLastRefIdeal.lean ====
abbrev S8192x2048 : Shape := ⟨2, ![8192, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutSamples.lean ====
abbrev S256x2048 : Shape := ⟨2, ![256, 2048]⟩
abbrev S2x2048x2048 : Shape := ⟨3, ![2, 2048, 2048]⟩
abbrev S2048 : Shape := ⟨1, ![2048]⟩
abbrev S1x2048 : Shape := ⟨2, ![1, 2048]⟩
abbrev S1x2048x2048 : Shape := ⟨3, ![1, 2048, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2x2048x2048, .f32⟩
  | .hbm, ⟨2, _⟩ => ⟨S256x2048, .f32⟩
  | .hbm, ⟨3, _⟩ => ⟨S2048, .f32⟩
  | .hbm, ⟨4, _⟩ => ⟨S2x2048x2048, .bf16⟩
  | .hbm, ⟨5, _⟩ => ⟨S1x2048, .f32⟩
  | .hbm, ⟨6, _⟩ => ⟨S256x2048, .f32⟩
  | .local _ .vmem, ⟨0, _⟩ => ⟨S256x2048, .f32⟩
  | .local _ .vmem, ⟨1, _⟩ => ⟨S1x2048x2048, .bf16⟩
  | .local _ .vmem, ⟨2, _⟩ => ⟨S256x2048, .f32⟩
  | .local _ .vmem, ⟨3, _⟩ => ⟨S1x2048, .f32⟩
  | .local _ .vmem, ⟨4, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== OutSamplesRefIdeal.lean ====
abbrev S256x2048 : Shape := ⟨2, ![256, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2x2048x2048, .f32⟩
  | .hbm, ⟨2, _⟩ => ⟨S256x2048, .f32⟩
  | .hbm, ⟨3, _⟩ => ⟨S2048, .f32⟩
  | .hbm, ⟨4, _⟩ => ⟨S1x2048x2048, .f32⟩
  | .hbm, ⟨5, _⟩ => ⟨S2048x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S1x2048, .f32⟩
  | .hbm, ⟨22, _⟩ => ⟨S256x2048, .f32⟩
  | .hbm, ⟨23, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Layer.AttnBody.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen

variable {F : FTy → Type} [FloatOps F]

/-- The weighted values of four stacked heads over the weights' sum, the sink's weight added to the sum. -/
def normalise (v ones : FVec F S256x64 .f32) (e : FVec F S512x256 .bf16) (st : FVec F S512x1 .f32) : FVec F S512x64 .f32 :=
  have w : FVec F S512x128 .f32 := matmul dot_S512x256_S256x128_S512x128_1_0_0_1_n_n none e
    (truncf .bf16 (concatenate S256x128 1 [⟨S256x64, v⟩, ⟨S256x64, ones⟩] concatenates_S256x64_S256x64_S256x128_d1) bitsLt_bf16_f32)
    (constant S512x128 .f32 0x00000000#32)
  divf (extractStridedSlice S512x64 ![0, 0] w slices_S512x128_o0_0_S512x64)
    (broadcastTo S512x64 (addf (extractStridedSlice S512x1 ![0, 64] w slices_S512x128_o0_64_S512x1) st) broadcasts_S512x1_S512x64)

/-- Four stacked heads of one key-value head: masked scores, sinks, values. -/
def heads (mk : IVec S512x256 1) (sc : FVec F S512x256 .f32) (a b c d : F .f32) (v : FVec F S256x64 .f32) : FVec F S512x64 .f32 :=
  normalise v k0_pay11 (k0_pay25 mk sc a b c d) (k0_pay26 mk sc a b c d)

/-- Sixteen heads side by side, four from each stack. -/
def rowOf (u0 u1 u2 u3 : FVec F S512x64 .f32) : FVec F S128x1024 .f32 :=
  concatenate S128x1024 1
    [⟨S128x64, extractStridedSlice S128x64 ![0, 0] u0 slices_S512x64_o0_0_S128x64⟩,
      ⟨S128x64, extractStridedSlice S128x64 ![128, 0] u0 slices_S512x64_o128_0_S128x64⟩,
      ⟨S128x64, extractStridedSlice S128x64 ![256, 0] u0 slices_S512x64_o256_0_S128x64⟩,
      ⟨S128x64, extractStridedSlice S128x64 ![384, 0] u0 slices_S512x64_o384_0_S128x64⟩,
      ⟨S128x64, extractStridedSlice S128x64 ![0, 0] u1 slices_S512x64_o0_0_S128x64⟩,
      ⟨S128x64, extractStridedSlice S128x64 ![128, 0] u1 slices_S512x64_o128_0_S128x64⟩,
      ⟨S128x64, extractStridedSlice S128x64 ![256, 0] u1 slices_S512x64_o256_0_S128x64⟩,
      ⟨S128x64, extractStridedSlice S128x64 ![384, 0] u1 slices_S512x64_o384_0_S128x64⟩,
      ⟨S128x64, extractStridedSlice S128x64 ![0, 0] u2 slices_S512x64_o0_0_S128x64⟩,
      ⟨S128x64, extractStridedSlice S128x64 ![128, 0] u2 slices_S512x64_o128_0_S128x64⟩,
      ⟨S128x64, extractStridedSlice S128x64 ![256, 0] u2 slices_S512x64_o256_0_S128x64⟩,
      ⟨S128x64, extractStridedSlice S128x64 ![384, 0] u2 slices_S512x64_o384_0_S128x64⟩,
      ⟨S128x64, extractStridedSlice S128x64 ![0, 0] u3 slices_S512x64_o0_0_S128x64⟩,
      ⟨S128x64, extractStridedSlice S128x64 ![128, 0] u3 slices_S512x64_o128_0_S128x64⟩,
      ⟨S128x64, extractStridedSlice S128x64 ![256, 0] u3 slices_S512x64_o256_0_S128x64⟩,
      ⟨S128x64, extractStridedSlice S128x64 ![384, 0] u3 slices_S512x64_o384_0_S128x64⟩]
    concatenates_S128x64_S128x64_S128x64_S128x64_S128x64_S128x64_S128x64_S128x64_S128x64_S128x64_S128x64_S128x64_S128x64_S128x64_S128x64_S128x64_S128x1024_d1

/-- The block the body stores, from the blocks it loads. -/
def block (i : grid0.Coords) (x0 : FVec F S16 .f32) (x1 : FVec F S256x1024 .f32) (x2 x3 : FVec F S256x512 .f32)
    (x4 : FVec F S128x256 .f32) (x5 : FVec F S256x256 .f32) (x6 : FVec F S128x256 .f32) (x7 : FVec F S256x256 .f32) :
    FVec F S256x1024 .bf16 :=
  k0_pay1 (k0_pay2 x2 x3)
    (rowOf
      (heads (k0_pay10 i) (k0_pay13 (k0_pay4 x4 x5) (k0_pay12 x1)) (x0 (ix1 0)) (x0 (ix1 1)) (x0 (ix1 2)) (x0 (ix1 3))
        (extractStridedSlice S256x64 ![0, 0] (k0_pay7 x6 x7) slices_S256x256_o0_0_S256x64))
      (heads (k0_pay10 i) (k0_pay14 x1 (k0_pay4 x4 x5)) (x0 (ix1 4)) (x0 (ix1 5)) (x0 (ix1 6)) (x0 (ix1 7))
        (extractStridedSlice S256x64 ![0, 64] (k0_pay7 x6 x7) slices_S256x256_o0_64_S256x64))
      (heads (k0_pay10 i) (k0_pay15 x1 (k0_pay4 x4 x5)) (x0 (ix1 8)) (x0 (ix1 9)) (x0 (ix1 10)) (x0 (ix1 11))
        (extractStridedSlice S256x64 ![0, 128] (k0_pay7 x6 x7) slices_S256x256_o0_128_S256x64))
      (heads (k0_pay10 i) (k0_pay16 x1 (k0_pay4 x4 x5)) (x0 (ix1 12)) (x0 (ix1 13)) (x0 (ix1 14)) (x0 (ix1 15))
        (extractStridedSlice S256x64 ![0, 192] (k0_pay7 x6 x7) slices_S256x256_o0_192_S256x64)))
    (rowOf
      (heads k0_pay9 (k0_pay17 x1 (k0_pay5 x4 x5)) (x0 (ix1 0)) (x0 (ix1 1)) (x0 (ix1 2)) (x0 (ix1 3))
        (extractStridedSlice S256x64 ![0, 0] (k0_pay8 x6 x7) slices_S256x256_o0_0_S256x64))
      (heads k0_pay9 (k0_pay18 x1 (k0_pay5 x4 x5)) (x0 (ix1 4)) (x0 (ix1 5)) (x0 (ix1 6)) (x0 (ix1 7))
        (extractStridedSlice S256x64 ![0, 64] (k0_pay8 x6 x7) slices_S256x256_o0_64_S256x64))
      (heads k0_pay9 (k0_pay20 (k0_pay5 x4 x5) (k0_pay19 x1)) (x0 (ix1 8)) (x0 (ix1 9)) (x0 (ix1 10)) (x0 (ix1 11))
        (extractStridedSlice S256x64 ![0, 128] (k0_pay8 x6 x7) slices_S256x256_o0_128_S256x64))
      (heads k0_pay9 (k0_pay21 x1 (k0_pay5 x4 x5)) (x0 (ix1 12)) (x0 (ix1 13)) (x0 (ix1 14)) (x0 (ix1 15))
        (extractStridedSlice S256x64 ![0, 192] (k0_pay8 x6 x7) slices_S256x256_o0_192_S256x64)))

/-- One sink loaded by its number. -/
theorem sink_ld (x0 : Vec F S16 .f32) (k : ℕ) (hk : k < 16) (inb) (hh) :
    View.ld x0 (Rect.unit (s := S16) ![k] S1.size inb) (Shape.Idx.first hh) = x0 (ix1 ⟨k, hk⟩) := by
  refine congrArg x0 (funext fun a => Fin.ext ?_)
  match a with
  | ⟨0, _⟩ => rfl

/-- What the body leaves in the output's buffer at a point. -/
theorem out_eq (c : Dev nD) (i : grid0.Coords) (arg2 : Memref sig .tc .smem S16 .f32) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S128x256 .f32) (harg6 : arg6.IsWhole) (arg7 : Memref sig .tc .vmem S256x256 .f32) (harg7 : arg7.IsWhole) (arg8 : Memref sig .tc .vmem S128x256 .f32) (harg8 : arg8.IsWhole) (arg9 : Memref sig .tc .vmem S256x256 .f32) (harg9 : arg9.IsWhole) (arg10 : Memref sig .tc .vmem S256x1024 .bf16) (harg10 : arg10.IsWhole)
    (x0 : Vec F S16 .f32) (x1 : Vec F S256x1024 .f32) (x2 : Vec F S256x512 .f32) (x3 : Vec F S256x512 .f32) (x4 : Vec F S128x256 .f32) (x5 : Vec F S256x256 .f32) (x6 : Vec F S128x256 .f32) (x7 : Vec F S256x256 .f32) :
    out0_A_8 c i arg2 harg2 arg3 harg3 arg4 harg4 arg5 harg5 arg6 harg6 arg7 harg7 arg8 harg8 arg9 harg9 arg10 harg10 x0 x1 x2 x3 x4 x5 x6 x7
      = block i x0 x1 x2 x3 x4 x5 x6 x7 := by
  have hz : (![0, 0] : Fin 2 → ℕ) = fun _ => 0 := by funext a; match a with | ⟨0, _⟩ => rfl | ⟨1, _⟩ => rfl
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  simp only [View.canon_unit_zero (S := S256x1024) hz, View.readAt_eq_ld]
  rw [harg2.read_unread, harg3.read_unread, harg4.read_unread, harg5.read_unread, harg6.read_unread, harg7.read_unread,
    harg8.read_unread, harg9.read_unread, View.ld_unit_zero (S := S256x1024) hz, View.ld_unit_zero (S := S256x512) hz,
    View.ld_unit_zero (S := S256x512) hz,
    View.ld_unit_zero (S := S128x256) hz, View.ld_unit_zero (S := S128x256) hz, View.ld_unit_zero (S := S256x256) hz,
    View.ld_unit_zero (S := S256x256) hz]
  rw [sink_ld x0 0 (by decide), sink_ld x0 1 (by decide), sink_ld x0 2 (by decide), sink_ld x0 3 (by decide), sink_ld x0 4 (by decide), sink_ld x0 5 (by decide), sink_ld x0 6 (by decide), sink_ld x0 7 (by decide), sink_ld x0 8 (by decide), sink_ld x0 9 (by decide), sink_ld x0 10 (by decide), sink_ld x0 11 (by decide), sink_ld x0 12 (by decide), sink_ld x0 13 (by decide), sink_ld x0 14 (by decide), sink_ld x0 15 (by decide)]
  rfl

end Cert.KernelIdeal.Layer

end
-- ==== Proof.Layer.Softmax.lean ====
module

public import Idealize.ShloMosaic.Lib.Pipeline.Value
public import Idealize.ShloMosaic.Lib.IdealHost
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.Softmax

variable {n : ℕ}

/-- The largest of the scores and the sink. -/
def mx (S : Fin n → EReal) (sk : EReal) : EReal := max (Finset.univ.fold max ⊥ S) sk

/-- The weighted values over the weights' sum, the sink's weight counted in the sum. -/
def soft (S V : Fin n → EReal) (sk : EReal) : EReal :=
  Ideal.div (∑ j, Ideal.exp (S j - mx S sk) * V j) ((∑ j, Ideal.exp (S j - mx S sk)) + Ideal.exp (sk - mx S sk))

/-- The values weighted by the normalised weights. -/
def softRef (S V : Fin n → EReal) (sk : EReal) : EReal :=
  ∑ j, V j * Ideal.div (Ideal.exp (S j - mx S sk)) ((∑ j, Ideal.exp (S j - mx S sk)) + Ideal.exp (sk - mx S sk))

/-- The gate of one number. -/
def gate (z : EReal) : EReal := z * Ideal.div 1 (1 + Ideal.exp (0 - z))

theorem fold_max_lt_top {ι : Type} [DecidableEq ι] (s : Finset ι) (S : ι → EReal) (h : ∀ j, S j ≠ ⊤) : s.fold max ⊥ S ≠ ⊤ := by
  induction s using Finset.induction_on with
  | empty => simp
  | insert a s ha ih =>
    rw [Finset.fold_insert ha]
    rcases max_choice (S a) (s.fold max ⊥ S) with e | e <;> rw [e]
    · exact h a
    · exact ih

theorem mx_real (S : Fin n → EReal) (sk : ℝ) (h : ∀ j, S j ≠ ⊤) : ∃ M : ℝ, mx S sk = M := by
  have ht : mx S sk ≠ ⊤ := by
    unfold mx
    rcases max_choice (Finset.univ.fold max ⊥ S) (sk : EReal) with e | e <;> rw [e]
    · exact fold_max_lt_top _ S h
    · exact EReal.coe_ne_top sk
  have hb : mx S sk ≠ ⊥ := fun e => by
    have : (sk : EReal) ≤ mx S sk := le_max_right _ _
    rw [e, le_bot_iff] at this
    exact EReal.coe_ne_bot sk this
  exact ⟨(mx S sk).toReal, (EReal.coe_toReal ht hb).symm⟩

/-- A weight is a nonnegative real. -/
theorem weight_real (x : EReal) (hx : x ≠ ⊤) (M : ℝ) : ∃ e : ℝ, 0 ≤ e ∧ Ideal.exp (x - M) = e := by
  induction x with
  | bot => exact ⟨0, le_rfl, by rw [EReal.bot_sub, Ideal.exp_bot]; rfl⟩
  | coe x => exact ⟨Real.exp (x - M), (Real.exp_pos _).le, by rw [← EReal.coe_sub, Ideal.exp_coe]⟩
  | top => exact absurd rfl hx

theorem sum_real {ι : Type} (s : Finset ι) (f : ι → EReal) (h : ∀ j, ∃ e : ℝ, 0 ≤ e ∧ f j = e) :
    ∃ e : ℝ, 0 ≤ e ∧ ∑ j ∈ s, f j = e := by
  classical
  induction s using Finset.induction_on with
  | empty => exact ⟨0, le_rfl, by simp⟩
  | insert a s ha ih =>
    obtain ⟨x, hx, ex⟩ := h a
    obtain ⟨y, hy, ey⟩ := ih
    exact ⟨x + y, add_nonneg hx hy, by rw [Finset.sum_insert ha, ex, ey, EReal.coe_add]⟩

theorem sum_mul_real {ι : Type} (s : Finset ι) (f : ι → EReal) (k : ℝ) (hk : 0 ≤ k) :
    (∑ j ∈ s, f j) * (k : EReal) = ∑ j ∈ s, f j * (k : EReal) := by
  classical
  induction s using Finset.induction_on with
  | empty => simp
  | insert a s ha ih =>
    rw [Finset.sum_insert ha, Finset.sum_insert ha, ← ih,
      EReal.right_distrib_of_nonneg_of_ne_top (EReal.coe_nonneg.mpr hk) (EReal.coe_ne_top k)]

/-- Dividing the weighted sum is weighting by the divided weights, when no score is `⊤` and the sink is finite: the
    divisor is then a positive real. Values need agree only where the score is not `⊥`. -/
theorem soft_eq (S V V' : Fin n → EReal) (sk : ℝ) (h : ∀ j, S j ≠ ⊤) (hV : ∀ j, S j ≠ ⊥ → V' j = V j) :
    soft S V' sk = softRef S V sk := by
  obtain ⟨M, hM⟩ := mx_real S sk h
  unfold soft softRef
  rw [hM]
  obtain ⟨D, hD, eD⟩ := sum_real Finset.univ (fun j => Ideal.exp (S j - M)) fun j => weight_real (S j) (h j) M
  have eT : Ideal.exp ((sk : EReal) - M) = (Real.exp (sk - M) : ℝ) := by rw [← EReal.coe_sub, Ideal.exp_coe]
  have hpos : 0 < D + Real.exp (sk - M) := add_pos_of_nonneg_of_pos hD (Real.exp_pos _)
  rw [eD, eT, ← EReal.coe_add, Ideal.div_coe hpos.ne', sum_mul_real _ _ _ (one_div_nonneg.mpr hpos.le)]
  refine Finset.sum_congr rfl fun j _ => ?_
  rw [Ideal.div_coe hpos.ne']
  by_cases hb : S j = ⊥
  · rw [hb, EReal.bot_sub, Ideal.exp_bot, zero_mul, zero_mul, mul_zero]
  · rw [hV j hb, mul_comm (Ideal.exp _) (V j), mul_assoc]

theorem fold_extend {k : ℕ} (S : Fin (n + k) → EReal) (h : ∀ j : Fin k, S (Fin.natAdd n j) = ⊥) :
    Finset.univ.fold max ⊥ S = Finset.univ.fold max ⊥ fun j : Fin n => S (Fin.castAdd k j) := by
  refine le_antisymm ((Finset.fold_max_le _).mpr ⟨bot_le, fun j _ => ?_⟩) ((Finset.fold_max_le _).mpr ⟨bot_le, fun j _ => ?_⟩)
  · induction j using Fin.addCases with
    | left j => exact (Finset.le_fold_max _).mpr (Or.inr ⟨j, Finset.mem_univ _, le_rfl⟩)
    | right j => rw [h j]; exact bot_le
  · exact (Finset.le_fold_max _).mpr (Or.inr ⟨Fin.castAdd k j, Finset.mem_univ _, le_rfl⟩)

/-- Keys whose score is `⊥` at the end change nothing. -/
theorem soft_extend {k : ℕ} (S V : Fin (n + k) → EReal) (sk : EReal) (h : ∀ j : Fin k, S (Fin.natAdd n j) = ⊥) :
    soft S V sk = soft (fun j : Fin n => S (Fin.castAdd k j)) (fun j : Fin n => V (Fin.castAdd k j)) sk := by
  have hM : mx S sk = mx (fun j : Fin n => S (Fin.castAdd k j)) sk := by unfold mx; rw [fold_extend S h]
  unfold soft
  rw [hM, Fin.sum_univ_add, Fin.sum_univ_add]
  simp only [h, EReal.bot_sub, Ideal.exp_bot, zero_mul, Finset.sum_const_zero, add_zero]

end Cert.Softmax

end
-- ==== Proof.Layer.AttnScore.lean ====
module

public import proofs.«01_k».proof.Proof.Layer.AttnBody
public import proofs.«01_k».proof.Proof.Layer.Softmax
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen Cert.Softmax

theorem ofBits_bot : Ideal.ofBits .f32 0xFF800000#32 = ⊥ := by simp [Ideal.ofBits, Ideal.ieee]

theorem one_word : (FloatOps.sitofp (F := Ideal) FTy.f32 (BitVec.setWidth 32 1#1) : EReal) = 1 := by
  show ((_ : ℝ) : EReal) = 1
  norm_num

theorem heads_at (mk : IVec S512x256 1) (sc : FVec Ideal S512x256 .f32) (a b c e : Ideal .f32) (v : FVec Ideal S256x64 .f32)
    (ρ : Fin 512) (d : Fin 64) : heads mk sc a b c e v (ix2 ρ d)
      = soft (fun j => Scalar.select (mk (ix2 ρ j)) (sc (ix2 ρ j) * Ideal.ofBits .f32 0x3E000000#32) ⊥) (fun j => v (ix2 j d))
          (k0_pay23 (F := Ideal) a b c e (ix2 ρ 0)) := by
  unfold soft mx
  pointwise [heads, normalise, k0_pay11, k0_pay24, k0_pay25, k0_pay26, k0_pay22, ofBits_bot, one_word, mul_one]

/-- The row of a stack that holds head `g`'s row `r`. -/
abbrev stackRow (g : Fin 4) (r : Fin 128) : Fin 512 := ⟨g.val * 128 + r.val, by omega⟩

theorem low_bits (g : Fin 4) (r : Fin 128) : IntOp.andi (BitVec.ofNat 32 (g.val * 128 + r.val)) 127#32 = BitVec.ofNat 32 r.val := by
  apply BitVec.eq_of_toNat_eq
  show (BitVec.ofNat 32 (g.val * 128 + r.val)).toNat &&& 127 = (BitVec.ofNat 32 r.val).toNat
  rw [show (127 : ℕ) = 2 ^ 7 - 1 from rfl, Nat.and_two_pow_sub_one_eq_mod, BitVec.toNat_ofNat, BitVec.toNat_ofNat]
  omega

theorem mask1_at (g : Fin 4) (r : Fin 128) (j : Fin 256) :
    k0_pay9 (ix2 (stackRow g r) j) = BitVec.ofBool (decide (r.val ≤ j.val ∧ j.val ≤ r.val + 128)) := by
  have := r.isLt
  have := j.isLt
  have e : IntOp.addi (BitVec.ofNat 32 r.val) 128#32 = BitVec.ofNat 32 (r.val + 128) := BitVec.ofNat_add_ofNat ..
  pointwise [k0_pay9, low_bits]
  rw [e]
  simp (disch := word_cmp_side) only [hlo_ix, Bool.decide_and]

theorem mask0_at (i : grid0.Coords) (g : Fin 4) (r : Fin 128) (j : Fin 256) :
    k0_pay10 i (ix2 (stackRow g r) j)
      = BitVec.ofBool (decide ((r.val ≤ j.val ∧ j.val ≤ r.val + 128) ∧ (128 ≤ j.val ∨ 0 < (i 1).val))) := by
  have := r.isLt
  have := j.isLt
  have : (i 1).val < 16 := (i 1).isLt
  pointwise [k0_pay10]
  rw [mask1_at]
  simp (disch := word_cmp_side) only [hlo_ix, Bool.decide_and, Bool.decide_or]

/-- The sink of head `g` of a stack. -/
theorem sink_at (k : Fin 4 → Ideal .f32) (g : Fin 4) (r : Fin 128) :
    k0_pay23 (F := Ideal) (k 0) (k 1) (k 2) (k 3) (ix2 (stackRow g r) 0) = k g := by
  have := r.isLt
  obtain ⟨g, hg⟩ := g
  interval_cases g <;> pointwise [k0_pay23] <;> simp (disch := omega) only [dif_pos, dif_neg]

/-- The keys' rows of one point: the previous block's last rows, then the current block's. -/
def rows (x4 : FVec Ideal S128x256 .f32) (x5 : FVec Ideal S256x256 .f32) (n : Fin 384) (e : Fin 256) : EReal :=
  if h : n.val < 128 then x4 (ix2 ⟨n.val, h⟩ e) else x5 (ix2 ⟨n.val - 128, by omega⟩ e)

/-- The product of a query row with a key row. -/
def score (x1 : FVec Ideal S256x1024 .f32) (x4 : FVec Ideal S128x256 .f32) (x5 : FVec Ideal S256x256 .f32)
    (s : Fin 2) (h g : Fin 4) (r : Fin 128) (j : Fin 256) : EReal :=
  ∑ d : Fin 64, x1 (ix2 ⟨s.val * 128 + r.val, by omega⟩ ⟨h.val * 256 + g.val * 64 + d.val, by omega⟩)
    * rows x4 x5 ⟨s.val * 128 + j.val, by omega⟩ ⟨h.val * 64 + d.val, by omega⟩

set_option maxHeartbeats 2000000 in
theorem score00_at (x1 : FVec Ideal S256x1024 .f32) (x4 : FVec Ideal S128x256 .f32) (x5 : FVec Ideal S256x256 .f32)
    (g : Fin 4) (r : Fin 128) (j : Fin 256) :
    k0_pay13 (F := Ideal) (k0_pay4 (F := Ideal) x4 x5) (k0_pay12 (F := Ideal) x1) (ix2 (stackRow g r) j) = score x1 x4 x5 0 0 g r j := by
  have := r.isLt
  unfold score rows
  obtain ⟨g, hg⟩ := g
  interval_cases g <;> pointwise [k0_pay13, k0_pay4, k0_pay3, k0_pay12] <;> simp (disch := omega) only [dif_pos, dif_neg]
  all_goals first | done | exact Finset.sum_congr rfl fun d _ => congrArg₂ (· * ·) (congrArg x1 (congrArg₂ ix2 (Fin.ext (by first | rfl | omega | (simp only []; omega))) (Fin.ext (by first | rfl | omega | (simp only []; omega))))) rfl

set_option maxHeartbeats 2000000 in
theorem score01_at (x1 : FVec Ideal S256x1024 .f32) (x4 : FVec Ideal S128x256 .f32) (x5 : FVec Ideal S256x256 .f32)
    (g : Fin 4) (r : Fin 128) (j : Fin 256) :
    k0_pay14 (F := Ideal) x1 (k0_pay4 (F := Ideal) x4 x5) (ix2 (stackRow g r) j) = score x1 x4 x5 0 1 g r j := by
  have := r.isLt
  unfold score rows
  obtain ⟨g, hg⟩ := g
  interval_cases g <;> pointwise [k0_pay14, k0_pay4, k0_pay3] <;> simp (disch := omega) only [dif_pos, dif_neg]
  all_goals first | done | exact Finset.sum_congr rfl fun d _ => congrArg₂ (· * ·) (congrArg x1 (congrArg₂ ix2 (Fin.ext (by first | rfl | omega | (simp only []; omega))) (Fin.ext (by first | rfl | omega | (simp only []; omega))))) rfl

set_option maxHeartbeats 2000000 in
theorem score02_at (x1 : FVec Ideal S256x1024 .f32) (x4 : FVec Ideal S128x256 .f32) (x5 : FVec Ideal S256x256 .f32)
    (g : Fin 4) (r : Fin 128) (j : Fin 256) :
    k0_pay15 (F := Ideal) x1 (k0_pay4 (F := Ideal) x4 x5) (ix2 (stackRow g r) j) = score x1 x4 x5 0 2 g r j := by
  have := r.isLt
  unfold score rows
  obtain ⟨g, hg⟩ := g
  interval_cases g <;> pointwise [k0_pay15, k0_pay4, k0_pay3] <;> simp (disch := omega) only [dif_pos, dif_neg]
  all_goals first | done | exact Finset.sum_congr rfl fun d _ => congrArg₂ (· * ·) (congrArg x1 (congrArg₂ ix2 (Fin.ext (by first | rfl | omega | (simp only []; omega))) (Fin.ext (by first | rfl | omega | (simp only []; omega))))) rfl

set_option maxHeartbeats 2000000 in
theorem score03_at (x1 : FVec Ideal S256x1024 .f32) (x4 : FVec Ideal S128x256 .f32) (x5 : FVec Ideal S256x256 .f32)
    (g : Fin 4) (r : Fin 128) (j : Fin 256) :
    k0_pay16 (F := Ideal) x1 (k0_pay4 (F := Ideal) x4 x5) (ix2 (stackRow g r) j) = score x1 x4 x5 0 3 g r j := by
  have := r.isLt
  unfold score rows
  obtain ⟨g, hg⟩ := g
  interval_cases g <;> pointwise [k0_pay16, k0_pay4, k0_pay3] <;> simp (disch := omega) only [dif_pos, dif_neg]
  all_goals first | done | exact Finset.sum_congr rfl fun d _ => congrArg₂ (· * ·) (congrArg x1 (congrArg₂ ix2 (Fin.ext (by first | rfl | omega | (simp only []; omega))) (Fin.ext (by first | rfl | omega | (simp only []; omega))))) rfl

theorem score10_at (x1 : FVec Ideal S256x1024 .f32) (x4 : FVec Ideal S128x256 .f32) (x5 : FVec Ideal S256x256 .f32)
    (g : Fin 4) (r : Fin 128) (j : Fin 256) :
    k0_pay17 (F := Ideal) x1 (k0_pay5 (F := Ideal) x4 x5) (ix2 (stackRow g r) j) = score x1 x4 x5 1 0 g r j := by
  have := r.isLt
  unfold score rows
  obtain ⟨g, hg⟩ := g
  interval_cases g <;> pointwise [k0_pay17, k0_pay5, k0_pay3] <;> simp (disch := omega) only [dif_pos, dif_neg]
  all_goals first | done | exact Finset.sum_congr rfl fun d _ => congrArg₂ (· * ·) (congrArg x1 (congrArg₂ ix2 (Fin.ext (by first | rfl | omega | (simp only []; omega))) (Fin.ext (by first | rfl | omega | (simp only []; omega))))) rfl

theorem score11_at (x1 : FVec Ideal S256x1024 .f32) (x4 : FVec Ideal S128x256 .f32) (x5 : FVec Ideal S256x256 .f32)
    (g : Fin 4) (r : Fin 128) (j : Fin 256) :
    k0_pay18 (F := Ideal) x1 (k0_pay5 (F := Ideal) x4 x5) (ix2 (stackRow g r) j) = score x1 x4 x5 1 1 g r j := by
  have := r.isLt
  unfold score rows
  obtain ⟨g, hg⟩ := g
  interval_cases g <;> pointwise [k0_pay18, k0_pay5, k0_pay3] <;> simp (disch := omega) only [dif_pos, dif_neg]
  all_goals first | done | exact Finset.sum_congr rfl fun d _ => congrArg₂ (· * ·) (congrArg x1 (congrArg₂ ix2 (Fin.ext (by first | rfl | omega | (simp only []; omega))) (Fin.ext (by first | rfl | omega | (simp only []; omega))))) rfl

theorem score12_at (x1 : FVec Ideal S256x1024 .f32) (x4 : FVec Ideal S128x256 .f32) (x5 : FVec Ideal S256x256 .f32)
    (g : Fin 4) (r : Fin 128) (j : Fin 256) :
    k0_pay20 (F := Ideal) (k0_pay5 (F := Ideal) x4 x5) (k0_pay19 (F := Ideal) x1) (ix2 (stackRow g r) j) = score x1 x4 x5 1 2 g r j := by
  have := r.isLt
  unfold score rows
  obtain ⟨g, hg⟩ := g
  interval_cases g <;> pointwise [k0_pay20, k0_pay5, k0_pay3, k0_pay19] <;> simp (disch := omega) only [dif_pos, dif_neg]
  all_goals first | done | exact Finset.sum_congr rfl fun d _ => congrArg₂ (· * ·) (congrArg x1 (congrArg₂ ix2 (Fin.ext (by first | rfl | omega | (simp only []; omega))) (Fin.ext (by first | rfl | omega | (simp only []; omega))))) rfl

theorem score13_at (x1 : FVec Ideal S256x1024 .f32) (x4 : FVec Ideal S128x256 .f32) (x5 : FVec Ideal S256x256 .f32)
    (g : Fin 4) (r : Fin 128) (j : Fin 256) :
    k0_pay21 (F := Ideal) x1 (k0_pay5 (F := Ideal) x4 x5) (ix2 (stackRow g r) j) = score x1 x4 x5 1 3 g r j := by
  have := r.isLt
  unfold score rows
  obtain ⟨g, hg⟩ := g
  interval_cases g <;> pointwise [k0_pay21, k0_pay5, k0_pay3] <;> simp (disch := omega) only [dif_pos, dif_neg]
  all_goals first | done | exact Finset.sum_congr rfl fun d _ => congrArg₂ (· * ·) (congrArg x1 (congrArg₂ ix2 (Fin.ext (by first | rfl | omega | (simp only []; omega))) (Fin.ext (by first | rfl | omega | (simp only []; omega))))) rfl

end Cert.KernelIdeal.Layer

end
-- ==== Proof.Layer.AttnPoint.lean ====
module

public import proofs.«01_k».proof.Proof.Layer.AttnScore

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen Cert.Softmax

/-- Blocks of 64 columns side by side: column `64 * k + d` is the `k`-th block's column `d`. -/
theorem side_by_side (L : List (FVec Ideal S128x64 .f32)) (hc : Shape.Concatenates ((L.map (fun x => (⟨S128x64, x⟩ : (s : Shape) × (s.Idx → Ideal .f32)))).map (fun x => x.fst)) S128x1024 1)
    (r : Fin 128) (d : Fin 64) (k : ℕ) (hk : k < L.length) (q : Fin 1024) (hq : q.val = k * 64 + d.val) :
    concatenate S128x1024 1 (L.map (fun x => (⟨S128x64, x⟩ : (s : Shape) × (s.Idx → Ideal .f32)))) hc (ix2 r q) = (L[k]'hk) (ix2 r d) := by
  refine concatenate_apply_piece 1 _ hc (ix2 r q) k (by simpa using hk) S128x64 (L[k]'hk) (by simp) rfl (k * 64) ?_ (ix2 r d) (fun b hb => ?_) ?_
  · rw [← List.map_take, List.map_map, List.map_map]
    refine (congrArg List.sum (List.map_congr_left (g := fun _ => 64) fun x _ => rfl)).trans ?_
    rw [List.map_const', List.sum_replicate, List.length_take]
    rw [Nat.min_eq_left hk.le, smul_eq_mul]
  · match b with
    | ⟨0, _⟩ => rfl
    | ⟨1, _⟩ => exact absurd rfl hb
  · exact hq.symm

/-- The sixteen blocks of a row, in order. -/
def pieces (u0 u1 u2 u3 : FVec Ideal S512x64 .f32) : List (FVec Ideal S128x64 .f32) :=
  [ extractStridedSlice S128x64 ![0, 0] u0 slices_S512x64_o0_0_S128x64,
    extractStridedSlice S128x64 ![128, 0] u0 slices_S512x64_o128_0_S128x64,
    extractStridedSlice S128x64 ![256, 0] u0 slices_S512x64_o256_0_S128x64,
    extractStridedSlice S128x64 ![384, 0] u0 slices_S512x64_o384_0_S128x64,
    extractStridedSlice S128x64 ![0, 0] u1 slices_S512x64_o0_0_S128x64,
    extractStridedSlice S128x64 ![128, 0] u1 slices_S512x64_o128_0_S128x64,
    extractStridedSlice S128x64 ![256, 0] u1 slices_S512x64_o256_0_S128x64,
    extractStridedSlice S128x64 ![384, 0] u1 slices_S512x64_o384_0_S128x64,
    extractStridedSlice S128x64 ![0, 0] u2 slices_S512x64_o0_0_S128x64,
    extractStridedSlice S128x64 ![128, 0] u2 slices_S512x64_o128_0_S128x64,
    extractStridedSlice S128x64 ![256, 0] u2 slices_S512x64_o256_0_S128x64,
    extractStridedSlice S128x64 ![384, 0] u2 slices_S512x64_o384_0_S128x64,
    extractStridedSlice S128x64 ![0, 0] u3 slices_S512x64_o0_0_S128x64,
    extractStridedSlice S128x64 ![128, 0] u3 slices_S512x64_o128_0_S128x64,
    extractStridedSlice S128x64 ![256, 0] u3 slices_S512x64_o256_0_S128x64,
    extractStridedSlice S128x64 ![384, 0] u3 slices_S512x64_o384_0_S128x64]

theorem rowOf_piece (u0 u1 u2 u3 : FVec Ideal S512x64 .f32) (r : Fin 128) (d : Fin 64) (k : ℕ) (hk : k < 16) (o : ℕ) (ho : o = k * 64) :
    rowOf u0 u1 u2 u3 (ix2 r ⟨o + d.val, by omega⟩) = ((pieces u0 u1 u2 u3)[k]'hk) (ix2 r d) :=
  side_by_side (pieces u0 u1 u2 u3) concatenates_S128x64_S128x64_S128x64_S128x64_S128x64_S128x64_S128x64_S128x64_S128x64_S128x64_S128x64_S128x64_S128x64_S128x64_S128x64_S128x64_S128x1024_d1 r d k hk _ (by subst ho; rfl)

theorem slice_at (o : ℕ) (x : FVec Ideal S512x64 .f32) (hs) (g : Fin 4) (r : Fin 128) (d : Fin 64) (ho : o = g.val * 128) :
    extractStridedSlice S128x64 ![o, 0] x hs (ix2 r d) = x (ix2 (stackRow g r) d) :=
  extractStridedSlice_apply ![o, 0] x hs (ix2 r d) (ix2 (stackRow g r) d) (fun a => match a with
    | ⟨0, _⟩ => by show g.val * 128 + r.val = o + r.val; omega
    | ⟨1, _⟩ => by show d.val = 0 + d.val; omega)

theorem rowOf_at (u : Fin 4 → FVec Ideal S512x64 .f32) (r : Fin 128) (d : Fin 64) : (h g : Fin 4) →
    rowOf (u 0) (u 1) (u 2) (u 3) (ix2 r ⟨h.val * 256 + g.val * 64 + d.val, by omega⟩) = u h (ix2 (stackRow g r) d)
  | ⟨0, _⟩, ⟨0, _⟩ => (rowOf_piece (u 0) (u 1) (u 2) (u 3) r d 0 (by decide) 0 rfl).trans (slice_at 0 (u 0) slices_S512x64_o0_0_S128x64 ⟨0, by omega⟩ r d rfl)
  | ⟨0, _⟩, ⟨1, _⟩ => (rowOf_piece (u 0) (u 1) (u 2) (u 3) r d 1 (by decide) 64 rfl).trans (slice_at 128 (u 0) slices_S512x64_o128_0_S128x64 ⟨1, by omega⟩ r d rfl)
  | ⟨0, _⟩, ⟨2, _⟩ => (rowOf_piece (u 0) (u 1) (u 2) (u 3) r d 2 (by decide) 128 rfl).trans (slice_at 256 (u 0) slices_S512x64_o256_0_S128x64 ⟨2, by omega⟩ r d rfl)
  | ⟨0, _⟩, ⟨3, _⟩ => (rowOf_piece (u 0) (u 1) (u 2) (u 3) r d 3 (by decide) 192 rfl).trans (slice_at 384 (u 0) slices_S512x64_o384_0_S128x64 ⟨3, by omega⟩ r d rfl)
  | ⟨1, _⟩, ⟨0, _⟩ => (rowOf_piece (u 0) (u 1) (u 2) (u 3) r d 4 (by decide) 256 rfl).trans (slice_at 0 (u 1) slices_S512x64_o0_0_S128x64 ⟨0, by omega⟩ r d rfl)
  | ⟨1, _⟩, ⟨1, _⟩ => (rowOf_piece (u 0) (u 1) (u 2) (u 3) r d 5 (by decide) 320 rfl).trans (slice_at 128 (u 1) slices_S512x64_o128_0_S128x64 ⟨1, by omega⟩ r d rfl)
  | ⟨1, _⟩, ⟨2, _⟩ => (rowOf_piece (u 0) (u 1) (u 2) (u 3) r d 6 (by decide) 384 rfl).trans (slice_at 256 (u 1) slices_S512x64_o256_0_S128x64 ⟨2, by omega⟩ r d rfl)
  | ⟨1, _⟩, ⟨3, _⟩ => (rowOf_piece (u 0) (u 1) (u 2) (u 3) r d 7 (by decide) 448 rfl).trans (slice_at 384 (u 1) slices_S512x64_o384_0_S128x64 ⟨3, by omega⟩ r d rfl)
  | ⟨2, _⟩, ⟨0, _⟩ => (rowOf_piece (u 0) (u 1) (u 2) (u 3) r d 8 (by decide) 512 rfl).trans (slice_at 0 (u 2) slices_S512x64_o0_0_S128x64 ⟨0, by omega⟩ r d rfl)
  | ⟨2, _⟩, ⟨1, _⟩ => (rowOf_piece (u 0) (u 1) (u 2) (u 3) r d 9 (by decide) 576 rfl).trans (slice_at 128 (u 2) slices_S512x64_o128_0_S128x64 ⟨1, by omega⟩ r d rfl)
  | ⟨2, _⟩, ⟨2, _⟩ => (rowOf_piece (u 0) (u 1) (u 2) (u 3) r d 10 (by decide) 640 rfl).trans (slice_at 256 (u 2) slices_S512x64_o256_0_S128x64 ⟨2, by omega⟩ r d rfl)
  | ⟨2, _⟩, ⟨3, _⟩ => (rowOf_piece (u 0) (u 1) (u 2) (u 3) r d 11 (by decide) 704 rfl).trans (slice_at 384 (u 2) slices_S512x64_o384_0_S128x64 ⟨3, by omega⟩ r d rfl)
  | ⟨3, _⟩, ⟨0, _⟩ => (rowOf_piece (u 0) (u 1) (u 2) (u 3) r d 12 (by decide) 768 rfl).trans (slice_at 0 (u 3) slices_S512x64_o0_0_S128x64 ⟨0, by omega⟩ r d rfl)
  | ⟨3, _⟩, ⟨1, _⟩ => (rowOf_piece (u 0) (u 1) (u 2) (u 3) r d 13 (by decide) 832 rfl).trans (slice_at 128 (u 3) slices_S512x64_o128_0_S128x64 ⟨1, by omega⟩ r d rfl)
  | ⟨3, _⟩, ⟨2, _⟩ => (rowOf_piece (u 0) (u 1) (u 2) (u 3) r d 14 (by decide) 896 rfl).trans (slice_at 256 (u 3) slices_S512x64_o256_0_S128x64 ⟨2, by omega⟩ r d rfl)
  | ⟨3, _⟩, ⟨3, _⟩ => (rowOf_piece (u 0) (u 1) (u 2) (u 3) r d 15 (by decide) 960 rfl).trans (slice_at 384 (u 3) slices_S512x64_o384_0_S128x64 ⟨3, by omega⟩ r d rfl)

/-- A sub-block's stack at an index, from what its mask, its products and its values are at one. -/
theorem stack_at (mk : IVec S512x256 1) (sc : FVec Ideal S512x256 .f32) (k : Fin 4 → Ideal .f32) (v : FVec Ideal S256x64 .f32)
    (P : Fin 128 → Fin 256 → Prop) [∀ r j, Decidable (P r j)] (q : Fin 4 → Fin 128 → Fin 256 → EReal) (W : Fin 256 → Fin 64 → EReal)
    (hmk : ∀ g r j, mk (ix2 (stackRow g r) j) = BitVec.ofBool (decide (P r j)))
    (hsc : ∀ g r j, sc (ix2 (stackRow g r) j) = q g r j) (hv : ∀ j d, v (ix2 j d) = W j d) (g : Fin 4) (r : Fin 128) (d : Fin 64) :
    heads mk sc (k 0) (k 1) (k 2) (k 3) v (ix2 (stackRow g r) d)
      = soft (fun j => if P r j then q g r j * Ideal.ofBits .f32 0x3E000000#32 else ⊥) (fun j => W j d) (k g) := by
  rw [heads_at, sink_at]
  have hS : (fun j => Scalar.select (mk (ix2 (stackRow g r) j)) (sc (ix2 (stackRow g r) j) * Ideal.ofBits .f32 0x3E000000#32) ⊥)
      = fun j => if P r j then q g r j * Ideal.ofBits .f32 0x3E000000#32 else ⊥ := by
    funext j
    rw [hmk, hsc]
    by_cases h : P r j <;> simp [h, Scalar.select]
  rw [hS, funext fun j => hv j d]

/-- The gate's operand at a row and a column. -/
def zrow (x2 x3 : FVec Ideal S256x512 .f32) (n : Fin 256) (e : Fin 1024) : EReal :=
  if h : e.val < 512 then x2 (ix2 n ⟨e.val, h⟩) else x3 (ix2 n ⟨e.val - 512, by omega⟩)

/-- One number the body stores: row `r` of sub-block `s`, column `d` of query head `g` of key head `h`. -/
def number (i : grid0.Coords) (x0 : FVec Ideal S16 .f32) (x1 : FVec Ideal S256x1024 .f32) (x2 x3 : FVec Ideal S256x512 .f32)
    (x4 : FVec Ideal S128x256 .f32) (x5 : FVec Ideal S256x256 .f32) (x6 : FVec Ideal S128x256 .f32) (x7 : FVec Ideal S256x256 .f32)
    (s : Fin 2) (r : Fin 128) (h g : Fin 4) (d : Fin 64) : EReal :=
  soft (fun j => if (r.val ≤ j.val ∧ j.val ≤ r.val + 128) ∧ (128 ≤ j.val ∨ 0 < 2 * (i 1).val + s.val)
      then score x1 x4 x5 s h g r j * Ideal.ofBits .f32 0x3E000000#32 else ⊥)
    (fun j => rows x6 x7 ⟨s.val * 128 + j.val, by omega⟩ ⟨h.val * 64 + d.val, by omega⟩) (x0 (ix1 ⟨4 * h.val + g.val, by omega⟩))
  * gate (zrow x2 x3 ⟨s.val * 128 + r.val, by omega⟩ ⟨h.val * 256 + g.val * 64 + d.val, by omega⟩)

theorem zrow_at (x2 x3 : FVec Ideal S256x512 .f32) (n : Fin 256) (e : Fin 1024) :
    k0_pay2 (F := Ideal) x2 x3 (ix2 n e) = zrow x2 x3 n e := by
  unfold zrow
  pointwise [k0_pay2]

theorem join_at (z : FVec Ideal S256x1024 .f32) (a b : FVec Ideal S128x1024 .f32) (s : Fin 2) (r : Fin 128) (e : Fin 1024) :
    k0_pay1 (F := Ideal) z a b (ix2 ⟨s.val * 128 + r.val, by omega⟩ e)
      = (if s = 0 then a (ix2 r e) else b (ix2 r e)) * gate (z (ix2 ⟨s.val * 128 + r.val, by omega⟩ e)) := by
  unfold gate
  obtain ⟨s, hs⟩ := s
  interval_cases s <;> pointwise [k0_pay1]

theorem values0_at (x6 : FVec Ideal S128x256 .f32) (x7 : FVec Ideal S256x256 .f32) (h : Fin 4) (hs) (j : Fin 256) (d : Fin 64) :
    extractStridedSlice S256x64 ![0, 64 * h.val] (k0_pay7 (F := Ideal) x6 x7) hs (ix2 j d)
      = rows x6 x7 ⟨(0 : Fin 2).val * 128 + j.val, by show 0 * 128 + j.val < 384; omega⟩ ⟨h.val * 64 + d.val, by omega⟩ := by
  unfold rows
  rw [extractStridedSlice_apply _ _ _ _ (ix2 j (⟨h.val * 64 + d.val, by omega⟩ : Fin 256)) (fun a => match a with
    | ⟨0, _⟩ => by show j.val = 0 + j.val; omega
    | ⟨1, _⟩ => by show h.val * 64 + d.val = 64 * h.val + d.val; omega)]
  pointwise [k0_pay7, k0_pay6]

theorem values1_at (x6 : FVec Ideal S128x256 .f32) (x7 : FVec Ideal S256x256 .f32) (h : Fin 4) (hs) (j : Fin 256) (d : Fin 64) :
    extractStridedSlice S256x64 ![0, 64 * h.val] (k0_pay8 (F := Ideal) x6 x7) hs (ix2 j d)
      = rows x6 x7 ⟨(1 : Fin 2).val * 128 + j.val, by show 1 * 128 + j.val < 384; omega⟩ ⟨h.val * 64 + d.val, by omega⟩ := by
  unfold rows
  rw [extractStridedSlice_apply _ _ _ _ (ix2 j (⟨h.val * 64 + d.val, by omega⟩ : Fin 256)) (fun a => match a with
    | ⟨0, _⟩ => by show j.val = 0 + j.val; omega
    | ⟨1, _⟩ => by show h.val * 64 + d.val = 64 * h.val + d.val; omega)]
  pointwise [k0_pay8, k0_pay6]

/-- The stacks of sub-block 0. -/
def stack0 (i : grid0.Coords) (x0 : FVec Ideal S16 .f32) (x1 : FVec Ideal S256x1024 .f32)
    (x4 : FVec Ideal S128x256 .f32) (x5 : FVec Ideal S256x256 .f32) (x6 : FVec Ideal S128x256 .f32) (x7 : FVec Ideal S256x256 .f32) : Fin 4 → FVec Ideal S512x64 .f32
  | ⟨0, _⟩ => heads (F := Ideal) (k0_pay10 i) (k0_pay13 (F := Ideal) (k0_pay4 (F := Ideal) x4 x5) (k0_pay12 (F := Ideal) x1)) (x0 (ix1 0)) (x0 (ix1 1)) (x0 (ix1 2)) (x0 (ix1 3))
      (extractStridedSlice S256x64 ![0, 0] (k0_pay7 (F := Ideal) x6 x7) slices_S256x256_o0_0_S256x64)
  | ⟨1, _⟩ => heads (F := Ideal) (k0_pay10 i) (k0_pay14 (F := Ideal) x1 (k0_pay4 (F := Ideal) x4 x5)) (x0 (ix1 4)) (x0 (ix1 5)) (x0 (ix1 6)) (x0 (ix1 7))
      (extractStridedSlice S256x64 ![0, 64] (k0_pay7 (F := Ideal) x6 x7) slices_S256x256_o0_64_S256x64)
  | ⟨2, _⟩ => heads (F := Ideal) (k0_pay10 i) (k0_pay15 (F := Ideal) x1 (k0_pay4 (F := Ideal) x4 x5)) (x0 (ix1 8)) (x0 (ix1 9)) (x0 (ix1 10)) (x0 (ix1 11))
      (extractStridedSlice S256x64 ![0, 128] (k0_pay7 (F := Ideal) x6 x7) slices_S256x256_o0_128_S256x64)
  | ⟨3, _⟩ => heads (F := Ideal) (k0_pay10 i) (k0_pay16 (F := Ideal) x1 (k0_pay4 (F := Ideal) x4 x5)) (x0 (ix1 12)) (x0 (ix1 13)) (x0 (ix1 14)) (x0 (ix1 15))
      (extractStridedSlice S256x64 ![0, 192] (k0_pay7 (F := Ideal) x6 x7) slices_S256x256_o0_192_S256x64)

theorem stack0_at (i : grid0.Coords) (x0 : FVec Ideal S16 .f32) (x1 : FVec Ideal S256x1024 .f32)
    (x4 : FVec Ideal S128x256 .f32) (x5 : FVec Ideal S256x256 .f32) (x6 : FVec Ideal S128x256 .f32) (x7 : FVec Ideal S256x256 .f32)
    (g : Fin 4) (r : Fin 128) (d : Fin 64) : (h : Fin 4) →
    stack0 i x0 x1 x4 x5 x6 x7 h (ix2 (stackRow g r) d)
      = soft (fun j => if (r.val ≤ j.val ∧ j.val ≤ r.val + 128) ∧ (128 ≤ j.val ∨ 0 < (i 1).val) then score x1 x4 x5 0 h g r j * Ideal.ofBits .f32 0x3E000000#32 else ⊥)
          (fun j => rows x6 x7 ⟨(0 : Fin 2).val * 128 + j.val, by show 0 * 128 + j.val < 384; omega⟩ ⟨h.val * 64 + d.val, by omega⟩)
          (x0 (ix1 ⟨4 * h.val + g.val, by omega⟩))
  | ⟨0, _⟩ => stack_at _ _ (fun g => x0 (ix1 ⟨4 * 0 + g.val, by omega⟩)) _ (fun r j => (r.val ≤ j.val ∧ j.val ≤ r.val + 128) ∧ (128 ≤ j.val ∨ 0 < (i 1).val)) (score x1 x4 x5 0 0)
      (fun j d => rows x6 x7 ⟨(0 : Fin 2).val * 128 + j.val, by show 0 * 128 + j.val < 384; omega⟩ ⟨(0 : Fin 4).val * 64 + d.val, by show 0 * 64 + d.val < 256; omega⟩)
      (fun g r j => mask0_at i g r j) (fun g r j => score00_at x1 x4 x5 g r j) (fun j d => values0_at x6 x7 0 _ j d) g r d
  | ⟨1, _⟩ => stack_at _ _ (fun g => x0 (ix1 ⟨4 * 1 + g.val, by omega⟩)) _ (fun r j => (r.val ≤ j.val ∧ j.val ≤ r.val + 128) ∧ (128 ≤ j.val ∨ 0 < (i 1).val)) (score x1 x4 x5 0 1)
      (fun j d => rows x6 x7 ⟨(0 : Fin 2).val * 128 + j.val, by show 0 * 128 + j.val < 384; omega⟩ ⟨(1 : Fin 4).val * 64 + d.val, by show 1 * 64 + d.val < 256; omega⟩)
      (fun g r j => mask0_at i g r j) (fun g r j => score01_at x1 x4 x5 g r j) (fun j d => values0_at x6 x7 1 _ j d) g r d
  | ⟨2, _⟩ => stack_at _ _ (fun g => x0 (ix1 ⟨4 * 2 + g.val, by omega⟩)) _ (fun r j => (r.val ≤ j.val ∧ j.val ≤ r.val + 128) ∧ (128 ≤ j.val ∨ 0 < (i 1).val)) (score x1 x4 x5 0 2)
      (fun j d => rows x6 x7 ⟨(0 : Fin 2).val * 128 + j.val, by show 0 * 128 + j.val < 384; omega⟩ ⟨(2 : Fin 4).val * 64 + d.val, by show 2 * 64 + d.val < 256; omega⟩)
      (fun g r j => mask0_at i g r j) (fun g r j => score02_at x1 x4 x5 g r j) (fun j d => values0_at x6 x7 2 _ j d) g r d
  | ⟨3, _⟩ => stack_at _ _ (fun g => x0 (ix1 ⟨4 * 3 + g.val, by omega⟩)) _ (fun r j => (r.val ≤ j.val ∧ j.val ≤ r.val + 128) ∧ (128 ≤ j.val ∨ 0 < (i 1).val)) (score x1 x4 x5 0 3)
      (fun j d => rows x6 x7 ⟨(0 : Fin 2).val * 128 + j.val, by show 0 * 128 + j.val < 384; omega⟩ ⟨(3 : Fin 4).val * 64 + d.val, by show 3 * 64 + d.val < 256; omega⟩)
      (fun g r j => mask0_at i g r j) (fun g r j => score03_at x1 x4 x5 g r j) (fun j d => values0_at x6 x7 3 _ j d) g r d

/-- The stacks of sub-block 1. -/
def stack1 (i : grid0.Coords) (x0 : FVec Ideal S16 .f32) (x1 : FVec Ideal S256x1024 .f32)
    (x4 : FVec Ideal S128x256 .f32) (x5 : FVec Ideal S256x256 .f32) (x6 : FVec Ideal S128x256 .f32) (x7 : FVec Ideal S256x256 .f32) : Fin 4 → FVec Ideal S512x64 .f32
  | ⟨0, _⟩ => heads (F := Ideal) k0_pay9 (k0_pay17 (F := Ideal) x1 (k0_pay5 (F := Ideal) x4 x5)) (x0 (ix1 0)) (x0 (ix1 1)) (x0 (ix1 2)) (x0 (ix1 3))
      (extractStridedSlice S256x64 ![0, 0] (k0_pay8 (F := Ideal) x6 x7) slices_S256x256_o0_0_S256x64)
  | ⟨1, _⟩ => heads (F := Ideal) k0_pay9 (k0_pay18 (F := Ideal) x1 (k0_pay5 (F := Ideal) x4 x5)) (x0 (ix1 4)) (x0 (ix1 5)) (x0 (ix1 6)) (x0 (ix1 7))
      (extractStridedSlice S256x64 ![0, 64] (k0_pay8 (F := Ideal) x6 x7) slices_S256x256_o0_64_S256x64)
  | ⟨2, _⟩ => heads (F := Ideal) k0_pay9 (k0_pay20 (F := Ideal) (k0_pay5 (F := Ideal) x4 x5) (k0_pay19 (F := Ideal) x1)) (x0 (ix1 8)) (x0 (ix1 9)) (x0 (ix1 10)) (x0 (ix1 11))
      (extractStridedSlice S256x64 ![0, 128] (k0_pay8 (F := Ideal) x6 x7) slices_S256x256_o0_128_S256x64)
  | ⟨3, _⟩ => heads (F := Ideal) k0_pay9 (k0_pay21 (F := Ideal) x1 (k0_pay5 (F := Ideal) x4 x5)) (x0 (ix1 12)) (x0 (ix1 13)) (x0 (ix1 14)) (x0 (ix1 15))
      (extractStridedSlice S256x64 ![0, 192] (k0_pay8 (F := Ideal) x6 x7) slices_S256x256_o0_192_S256x64)

theorem stack1_at (i : grid0.Coords) (x0 : FVec Ideal S16 .f32) (x1 : FVec Ideal S256x1024 .f32)
    (x4 : FVec Ideal S128x256 .f32) (x5 : FVec Ideal S256x256 .f32) (x6 : FVec Ideal S128x256 .f32) (x7 : FVec Ideal S256x256 .f32)
    (g : Fin 4) (r : Fin 128) (d : Fin 64) : (h : Fin 4) →
    stack1 i x0 x1 x4 x5 x6 x7 h (ix2 (stackRow g r) d)
      = soft (fun j => if r.val ≤ j.val ∧ j.val ≤ r.val + 128 then score x1 x4 x5 1 h g r j * Ideal.ofBits .f32 0x3E000000#32 else ⊥)
          (fun j => rows x6 x7 ⟨(1 : Fin 2).val * 128 + j.val, by show 1 * 128 + j.val < 384; omega⟩ ⟨h.val * 64 + d.val, by omega⟩)
          (x0 (ix1 ⟨4 * h.val + g.val, by omega⟩))
  | ⟨0, _⟩ => stack_at _ _ (fun g => x0 (ix1 ⟨4 * 0 + g.val, by omega⟩)) _ (fun r j => r.val ≤ j.val ∧ j.val ≤ r.val + 128) (score x1 x4 x5 1 0)
      (fun j d => rows x6 x7 ⟨(1 : Fin 2).val * 128 + j.val, by show 1 * 128 + j.val < 384; omega⟩ ⟨(0 : Fin 4).val * 64 + d.val, by show 0 * 64 + d.val < 256; omega⟩)
      (fun g r j => mask1_at g r j) (fun g r j => score10_at x1 x4 x5 g r j) (fun j d => values1_at x6 x7 0 _ j d) g r d
  | ⟨1, _⟩ => stack_at _ _ (fun g => x0 (ix1 ⟨4 * 1 + g.val, by omega⟩)) _ (fun r j => r.val ≤ j.val ∧ j.val ≤ r.val + 128) (score x1 x4 x5 1 1)
      (fun j d => rows x6 x7 ⟨(1 : Fin 2).val * 128 + j.val, by show 1 * 128 + j.val < 384; omega⟩ ⟨(1 : Fin 4).val * 64 + d.val, by show 1 * 64 + d.val < 256; omega⟩)
      (fun g r j => mask1_at g r j) (fun g r j => score11_at x1 x4 x5 g r j) (fun j d => values1_at x6 x7 1 _ j d) g r d
  | ⟨2, _⟩ => stack_at _ _ (fun g => x0 (ix1 ⟨4 * 2 + g.val, by omega⟩)) _ (fun r j => r.val ≤ j.val ∧ j.val ≤ r.val + 128) (score x1 x4 x5 1 2)
      (fun j d => rows x6 x7 ⟨(1 : Fin 2).val * 128 + j.val, by show 1 * 128 + j.val < 384; omega⟩ ⟨(2 : Fin 4).val * 64 + d.val, by show 2 * 64 + d.val < 256; omega⟩)
      (fun g r j => mask1_at g r j) (fun g r j => score12_at x1 x4 x5 g r j) (fun j d => values1_at x6 x7 2 _ j d) g r d
  | ⟨3, _⟩ => stack_at _ _ (fun g => x0 (ix1 ⟨4 * 3 + g.val, by omega⟩)) _ (fun r j => r.val ≤ j.val ∧ j.val ≤ r.val + 128) (score x1 x4 x5 1 3)
      (fun j d => rows x6 x7 ⟨(1 : Fin 2).val * 128 + j.val, by show 1 * 128 + j.val < 384; omega⟩ ⟨(3 : Fin 4).val * 64 + d.val, by show 3 * 64 + d.val < 256; omega⟩)
      (fun g r j => mask1_at g r j) (fun g r j => score13_at x1 x4 x5 g r j) (fun j d => values1_at x6 x7 3 _ j d) g r d

theorem soft_congr (A B : Fin 256 → Prop) [∀ j, Decidable (A j)] [∀ j, Decidable (B j)] (h : ∀ j, A j ↔ B j)
    (f V : Fin 256 → EReal) (k z : EReal) :
    soft (fun j => if A j then f j else ⊥) V k * z = soft (fun j => if B j then f j else ⊥) V k * z := by
  rw [show (fun j => if A j then f j else ⊥) = fun j => if B j then f j else ⊥ from funext fun j => if_congr (h j) rfl rfl]

/-- What the body stores, one number at a time. -/
theorem block_at (i : grid0.Coords) (x0 : FVec Ideal S16 .f32) (x1 : FVec Ideal S256x1024 .f32) (x2 x3 : FVec Ideal S256x512 .f32)
    (x4 : FVec Ideal S128x256 .f32) (x5 : FVec Ideal S256x256 .f32) (x6 : FVec Ideal S128x256 .f32) (x7 : FVec Ideal S256x256 .f32)
    (s : Fin 2) (r : Fin 128) (h g : Fin 4) (d : Fin 64) :
    block (F := Ideal) i x0 x1 x2 x3 x4 x5 x6 x7 (ix2 ⟨s.val * 128 + r.val, by omega⟩ ⟨h.val * 256 + g.val * 64 + d.val, by omega⟩)
      = number i x0 x1 x2 x3 x4 x5 x6 x7 s r h g d := by
  show k0_pay1 (F := Ideal) (k0_pay2 (F := Ideal) x2 x3)
    (rowOf (stack0 i x0 x1 x4 x5 x6 x7 0) (stack0 i x0 x1 x4 x5 x6 x7 1) (stack0 i x0 x1 x4 x5 x6 x7 2) (stack0 i x0 x1 x4 x5 x6 x7 3))
    (rowOf (stack1 i x0 x1 x4 x5 x6 x7 0) (stack1 i x0 x1 x4 x5 x6 x7 1) (stack1 i x0 x1 x4 x5 x6 x7 2) (stack1 i x0 x1 x4 x5 x6 x7 3)) _ = _
  rw [join_at, zrow_at, rowOf_at, rowOf_at, stack0_at, stack1_at]
  unfold number
  match s with
  | ⟨0, h0⟩ =>
    rw [if_pos (show (⟨0, h0⟩ : Fin 2) = 0 from rfl)]
    exact soft_congr _ _ (fun j => by show _ ↔ _ ∧ (_ ∨ 0 < 2 * (i 1).val + 0); omega) _ _ _ _
  | ⟨1, h1⟩ =>
    rw [if_neg (show ¬ (⟨1, h1⟩ : Fin 2) = 0 from fun e => by simp at e)]
    exact soft_congr _ _ (fun j => by show _ ↔ _ ∧ (_ ∨ 0 < 2 * (i 1).val + 1); omega) _ _ _ _

end Cert.KernelIdeal.Layer

end
-- ==== Proof.Layer.AttnMask.lean ====
module

public import proofs.«01_k».proof.Proof.Layer.Softmax
public import proofs.«01_k».proof.Proof.Gen.ReferenceIdeal.Read
public import Idealize.ShloMosaic.Lib.WordCmp
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Layer

open Cert.ReferenceIdeal Cert.ReferenceIdeal.Gen Cert.ReferenceIdeal.Read Cert.Softmax

/-- The row of the array that holds row `r` of block `B` of sequence `b`. -/
abbrev rowIx (b : Fin 2) (B : Fin 32) (r : Fin 128) : Fin 8192 := ⟨b.val * 4096 + B.val * 128 + r.val, by omega⟩

/-- The column of query head `g` of key head `h`, component `d`. -/
abbrev colIx (h g : Fin 4) (d : Fin 64) : Fin 1024 := ⟨h.val * 256 + g.val * 64 + d.val, by omega⟩

theorem q_at (u : FVec Ideal S8192x5632 .f32) (b : Fin 2) (B : Fin 32) (r : Fin 128) (h g : Fin 4) (d : Fin 64) :
    val_main_v4 (F := Ideal) u (ix6 b B r h g d) = u (ix2 (rowIx b B r) ⟨h.val * 256 + g.val * 64 + d.val, by omega⟩) := by
  pointwise [val_main_v4, val_main_v3]

theorem k_at (u : FVec Ideal S8192x5632 .f32) (b : Fin 2) (B : Fin 32) (r : Fin 128) (h : Fin 4) (d : Fin 64) :
    val_main_v6 (F := Ideal) u (ix5 b B r h d) = u (ix2 (rowIx b B r) ⟨1024 + (h.val * 64 + d.val), by omega⟩) := by
  pointwise [val_main_v6, val_main_v5]

theorem v_at (u : FVec Ideal S8192x5632 .f32) (b : Fin 2) (B : Fin 32) (r : Fin 128) (h : Fin 4) (d : Fin 64) :
    val_main_v8 (F := Ideal) u (ix5 b B r h d) = u (ix2 (rowIx b B r) ⟨1280 + (h.val * 64 + d.val), by omega⟩) := by
  pointwise [val_main_v8, val_main_v7]

/-- Row `j` of the keys or the values that block `B` reads: the previous block's rows, or zeros before the first
    block, and then its own. -/
def both (f : Fin 32 → Fin 128 → EReal) (B : Fin 32) (j : Fin 256) : EReal :=
  if h : j.val < 128 then (if hB : B.val < 1 then 0 else f ⟨B.val - 1, by omega⟩ ⟨j.val, h⟩) else f B ⟨j.val - 128, by omega⟩

theorem kk_at (u : FVec Ideal S8192x5632 .f32) (b : Fin 2) (B : Fin 32) (j : Fin 256) (h : Fin 4) (d : Fin 64) :
    val_main_v46 (F := Ideal) u (ix5 b B j h d)
      = both (fun B r => u (ix2 (rowIx b B r) ⟨1024 + (h.val * 64 + d.val), by omega⟩)) B j := by
  unfold both
  pointwise [val_main_v46, val_main_v45, val_main_v44, val_main_v43, val_main_v42, val_main_cst, k_at]

theorem vv_at (u : FVec Ideal S8192x5632 .f32) (b : Fin 2) (B : Fin 32) (j : Fin 256) (h : Fin 4) (d : Fin 64) :
    val_main_v74 (F := Ideal) u (ix5 b B j h d)
      = both (fun B r => u (ix2 (rowIx b B r) ⟨1280 + (h.val * 64 + d.val), by omega⟩)) B j := by
  unfold both
  pointwise [val_main_v74, val_main_v73, val_main_v72, val_main_v71, val_main_v70, val_main_cst_8, v_at]

theorem ofNat_word (n : ℕ) : BitVec.ofNat 32 n = BitVec.ofInt 32 (n : ℤ) := by simp

theorem add_word (a b : ℤ) : IntOp.addi (BitVec.ofInt 32 a) (BitVec.ofInt 32 b) = BitVec.ofInt 32 (a + b) := (BitVec.ofInt_add ..).symm

theorem mul_word (a b : ℤ) : IntOp.muli (BitVec.ofInt 32 a) (BitVec.ofInt 32 b) = BitVec.ofInt 32 (a * b) := (BitVec.ofInt_mul ..).symm

theorem sub_word (a b : ℤ) : IntOp.subi (BitVec.ofInt 32 a) (BitVec.ofInt 32 b) = BitVec.ofInt 32 (a - b) := by
  show _ - _ = _
  rw [Int.sub_eq_add_neg, BitVec.ofInt_add, BitVec.ofInt_neg, BitVec.sub_eq_add_neg]

theorem toInt_word (a : ℤ) (h : -1000000 ≤ a) (h' : a ≤ 1000000) : (BitVec.ofInt 32 a).toInt = a := by
  rw [BitVec.toInt_ofInt, Int.bmod_def]
  omega

theorem sge_word (a b : ℤ) (h : -1000000 ≤ a) (h' : a ≤ 1000000) (k : -1000000 ≤ b) (k' : b ≤ 1000000) :
    IntOp.cmpi .sge (BitVec.ofInt 32 a) (BitVec.ofInt 32 b) = BitVec.ofBool (decide (b ≤ a)) := by
  show BitVec.ofBool (BitVec.sle _ _) = _
  rw [BitVec.sle_eq_decide, toInt_word a h h', toInt_word b k k']

theorem sle_word (a b : ℤ) (h : -1000000 ≤ a) (h' : a ≤ 1000000) (k : -1000000 ≤ b) (k' : b ≤ 1000000) :
    IntOp.cmpi .sle (BitVec.ofInt 32 a) (BitVec.ofInt 32 b) = BitVec.ofBool (decide (a ≤ b)) := by
  show BitVec.ofBool (BitVec.sle _ _) = _
  rw [BitVec.sle_eq_decide, toInt_word a h h', toInt_word b k k']

theorem and_word (a b : Bool) : IntOp.andi (BitVec.ofBool a) (BitVec.ofBool b) = BitVec.ofBool (a && b) := by
  cases a <;> cases b <;> rfl

theorem pos_at (B : Fin 32) (j : Fin 256) : val_main_v25 (F := Ideal) (ix2 B j) = BitVec.ofInt 32 ((B.val : ℤ) * 128 - 128 + j.val) := by
  pointwise [val_main_v25, val_main_v24, val_main_v23, val_main_v22, val_main_v21, val_main_v20, val_main_v19, val_main_c_0, val_main_v13, val_main_v12, val_main_v11, val_main_c, val_main_v10]
  rw [ofNat_word B.val, ofNat_word j.val, show (128#32) = BitVec.ofInt 32 128 from rfl, mul_word, sub_word, add_word]

theorem live_at (B : Fin 32) (r : Fin 128) (j : Fin 256) : val_main_v40 (F := Ideal) (ix3 B r j)
    = BitVec.ofBool (decide ((r.val ≤ j.val ∧ j.val ≤ r.val + 128) ∧ (128 ≤ j.val ∨ 0 < B.val))) := by
  pointwise [val_main_v40, val_main_v39, val_main_v38, val_main_v37, val_main_c_3, val_main_v36, val_main_v35, val_main_v34, val_main_v33, val_main_c_2, val_main_v32, val_main_v31, val_main_c_1, val_main_v30, val_main_v29, val_main_v28, val_main_v27, val_main_v26, val_main_v18, val_main_v17, val_main_v16, val_main_v15, val_main_v14, val_main_v13, val_main_v12, val_main_v11, val_main_c, val_main_v10, pos_at]
  have := B.isLt
  have := r.isLt
  have := j.isLt
  rw [ofNat_word B.val, ofNat_word r.val, show (128#32) = BitVec.ofInt 32 128 from rfl, show (0#32) = BitVec.ofInt 32 0 from rfl, mul_word, add_word, sub_word,
    sge_word _ _ (by omega) (by omega) (by omega) (by omega), sge_word _ _ (by omega) (by omega) (by omega) (by omega),
    sle_word _ _ (by omega) (by omega) (by omega) (by omega), and_word, and_word, ← Bool.decide_and, ← Bool.decide_and]
  refine congrArg BitVec.ofBool (decide_eq_decide.mpr ?_)
  omega

end Cert.ReferenceIdeal.Layer

end
-- ==== Proof.Layer.AttnRef.lean ====
module

public import proofs.«01_k».proof.Proof.Layer.AttnMask
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Layer

open Cert.ReferenceIdeal Cert.ReferenceIdeal.Gen Cert.ReferenceIdeal.Read Cert.Softmax

/-- The product of a query row with a key row. -/
def score (u : FVec Ideal S8192x5632 .f32) (b : Fin 2) (B : Fin 32) (r : Fin 128) (h g : Fin 4) (j : Fin 256) : EReal :=
  ∑ d : Fin 64, u (ix2 (rowIx b B r) ⟨h.val * 256 + g.val * 64 + d.val, by omega⟩)
    * both (fun B r => u (ix2 (rowIx b B r) ⟨1024 + (h.val * 64 + d.val), by omega⟩)) B j

/-- The scaled product where the key is within the window, `⊥` elsewhere. -/
def masked (u : FVec Ideal S8192x5632 .f32) (b : Fin 2) (B : Fin 32) (r : Fin 128) (h g : Fin 4) (j : Fin 256) : EReal :=
  if (r.val ≤ j.val ∧ j.val ≤ r.val + 128) ∧ (128 ≤ j.val ∨ 0 < B.val)
  then score u b B r h g j * Ideal.ofBits .f32 0x3E000000#32 else ⊥

theorem ofBits_bot : Ideal.ofBits .f32 0xFF800000#32 = ⊥ := by simp [Ideal.ofBits, Ideal.ieee]

theorem masked_at (u : FVec Ideal S8192x5632 .f32) (b : Fin 2) (B : Fin 32) (r : Fin 128) (h g : Fin 4) (j : Fin 256) :
    val_main_v51 (F := Ideal) u (ix6 b B h g r j) = masked u b B r h g j := by
  unfold masked score
  pointwise [val_main_v51, val_main_v50, val_main_v49, val_main_v48, val_main_v47, val_main_v41, val_main_cst_5, val_main_cst_4,
    val_main_call0_v0, val_main_call0_v1, val_main_call0_v2, kk_at, q_at, live_at, ofBits_bot]
  simp only [mul_comm (both _ _ _)]
  by_cases hP : (r.val ≤ j.val ∧ j.val ≤ r.val + 128) ∧ (128 ≤ j.val ∨ 0 < B.val)
  · rw [if_pos hP, if_pos hP]
  · rw [if_neg hP, if_neg hP]
    exact ofBits_bot

theorem sink_at (a : FVec Ideal S2x16 .f32) (h g : Fin 4) :
    val_main_v2 (F := Ideal) a (ix2 h g) = a (ix2 0 ⟨h.val * 4 + g.val, by omega⟩) := by
  pointwise [val_main_v2, val_main_v1, val_main_v0]

theorem fold_at (y : FVec Ideal S2x32x4x4x128x256 .f32) (z : FVec Ideal S_ .f32) (b : Fin 2) (B : Fin 32) (h g : Fin 4) (r : Fin 128) :
    Host.reduce FloatOps.maximumf y z reducesTo_S2x32x4x4x128x256_S2x32x4x4x128_d5 h_S_ (ix5 b B h g r)
      = Finset.univ.fold max (z ix0) (fun j => y (ix6 b B h g r j)) := by
  rw [Host.reduce_eq_fold_single _ _ _ reducesTo_S2x32x4x4x128x256_S2x32x4x4x128_d5 (by decide)]
  refine congrArg₂ (fun i (f : Fin 256 → EReal) => Finset.univ.fold max i f) (congrArg z (funext fun a => a.elim0)) (funext fun j => congrArg y ?_)
  exact funext fun a => Fin.ext (by match a with | ⟨0, _⟩ => rfl | ⟨1, _⟩ => rfl | ⟨2, _⟩ => rfl | ⟨3, _⟩ => rfl | ⟨4, _⟩ => rfl | ⟨5, _⟩ => rfl)

theorem top_at (u : FVec Ideal S8192x5632 .f32) (b : Fin 2) (B : Fin 32) (r : Fin 128) (h g : Fin 4) :
    val_main_v53 (F := Ideal) u (ix5 b B h g r) = Finset.univ.fold max ⊥ (masked u b B r h g) := by
  unfold val_main_v53
  rw [fold_at, show val_main_cst_6 (F := Ideal) ix0 = ⊥ from ofBits_bot, funext fun j => masked_at u b B r h g j]

theorem sink_cast (a : FVec Ideal S2x16 .f32) (b : Fin 2) (B : Fin 32) (r : Fin 128) (h g : Fin 4) :
    val_main_v56 (F := Ideal) a (ix6 b B h g r 0) = a (ix2 0 ⟨h.val * 4 + g.val, by omega⟩) := by
  rw [val_main_v56_apply, val_main_v55_apply, val_main_v52_apply]
  refine Eq.trans (congrArg (val_main_v2 (F := Ideal) a) ?_) (sink_at a h g)
  exact funext fun a => Fin.ext (by match a with | ⟨0, _⟩ => rfl | ⟨1, _⟩ => rfl)

theorem mx_at (u : FVec Ideal S8192x5632 .f32) (a : FVec Ideal S2x16 .f32) (b : Fin 2) (B : Fin 32) (r : Fin 128) (h g : Fin 4) :
    val_main_v57 (F := Ideal) u a (ix6 b B h g r 0) = mx (masked u b B r h g) (a (ix2 0 ⟨h.val * 4 + g.val, by omega⟩)) := by
  unfold mx
  rw [val_main_v57_apply, sink_cast, val_main_v54_apply]
  refine congrArg₂ max (Eq.trans (congrArg (val_main_v53 (F := Ideal) u) ?_) (top_at u b B r h g)) rfl
  exact funext fun a => Fin.ext (by match a with | ⟨0, _⟩ => rfl | ⟨1, _⟩ => rfl | ⟨2, _⟩ => rfl | ⟨3, _⟩ => rfl | ⟨4, _⟩ => rfl)

theorem weight_at (u : FVec Ideal S8192x5632 .f32) (a : FVec Ideal S2x16 .f32) (b : Fin 2) (B : Fin 32) (r : Fin 128) (h g : Fin 4) (j : Fin 256) :
    val_main_v60 (F := Ideal) u a (ix6 b B h g r j)
      = Ideal.exp (masked u b B r h g j - mx (masked u b B r h g) (a (ix2 0 ⟨h.val * 4 + g.val, by omega⟩))) := by
  rw [val_main_v60_apply, val_main_v59_apply, val_main_v58_apply, masked_at,
    show idx_main_v58 (ix6 b B h g r j) = ix6 b B h g r 0 from funext fun a => Fin.ext (by
      match a with | ⟨0, _⟩ => rfl | ⟨1, _⟩ => rfl | ⟨2, _⟩ => rfl | ⟨3, _⟩ => rfl | ⟨4, _⟩ => rfl | ⟨5, _⟩ => rfl), mx_at]
  rfl

theorem total_at (u : FVec Ideal S8192x5632 .f32) (a : FVec Ideal S2x16 .f32) (b : Fin 2) (B : Fin 32) (r : Fin 128) (h g : Fin 4) :
    val_main_v61 (F := Ideal) u a (ix5 b B h g r)
      = ∑ j, Ideal.exp (masked u b B r h g j - mx (masked u b B r h g) (a (ix2 0 ⟨h.val * 4 + g.val, by omega⟩))) := by
  rw [val_main_v61_apply]
  refine (congrArg₂ (· + ·) Ideal.ofBits_zero_f32 (Finset.sum_congr rfl fun j _ => ?_)).trans (zero_add _)
  refine Eq.trans (congrArg (val_main_v60 (F := Ideal) u a) ?_) (weight_at u a b B r h g j)
  exact funext fun a => Fin.ext (by match a with | ⟨0, _⟩ => rfl | ⟨1, _⟩ => rfl | ⟨2, _⟩ => rfl | ⟨3, _⟩ => rfl | ⟨4, _⟩ => rfl | ⟨5, _⟩ => rfl)

theorem denom_at (u : FVec Ideal S8192x5632 .f32) (a : FVec Ideal S2x16 .f32) (b : Fin 2) (B : Fin 32) (r : Fin 128) (h g : Fin 4) :
    val_main_v67 (F := Ideal) u a (ix6 b B h g r 0)
      = (∑ j, Ideal.exp (masked u b B r h g j - mx (masked u b B r h g) (a (ix2 0 ⟨h.val * 4 + g.val, by omega⟩))))
            + Ideal.exp (a (ix2 0 ⟨h.val * 4 + g.val, by omega⟩) - mx (masked u b B r h g) (a (ix2 0 ⟨h.val * 4 + g.val, by omega⟩))) := by
  rw [val_main_v67_apply, val_main_v66_apply, val_main_v65_apply, val_main_v64_apply, val_main_v62_apply, mx_at]
  refine congrArg₂ (· + ·) (Eq.trans (congrArg (val_main_v61 (F := Ideal) u a) ?_) (total_at u a b B r h g))
    (congrArg (fun t => Ideal.exp (t - mx (masked u b B r h g) (a (ix2 0 ⟨h.val * 4 + g.val, by omega⟩)))) (sink_cast a b B r h g))
  exact funext fun a => Fin.ext (by match a with | ⟨0, _⟩ => rfl | ⟨1, _⟩ => rfl | ⟨2, _⟩ => rfl | ⟨3, _⟩ => rfl | ⟨4, _⟩ => rfl)

theorem prob_at (u : FVec Ideal S8192x5632 .f32) (a : FVec Ideal S2x16 .f32) (b : Fin 2) (B : Fin 32) (r : Fin 128) (h g : Fin 4) (j : Fin 256) :
    val_main_v69 (F := Ideal) u a (ix6 b B h g r j)
      = Ideal.div (Ideal.exp (masked u b B r h g j - mx (masked u b B r h g) (a (ix2 0 ⟨h.val * 4 + g.val, by omega⟩))))
          ((∑ j, Ideal.exp (masked u b B r h g j - mx (masked u b B r h g) (a (ix2 0 ⟨h.val * 4 + g.val, by omega⟩))))
            + Ideal.exp (a (ix2 0 ⟨h.val * 4 + g.val, by omega⟩) - mx (masked u b B r h g) (a (ix2 0 ⟨h.val * 4 + g.val, by omega⟩)))) := by
  rw [val_main_v69_apply, val_main_v68_apply, weight_at,
    show idx_main_v68 (ix6 b B h g r j) = ix6 b B h g r 0 from funext fun a => Fin.ext (by
      match a with | ⟨0, _⟩ => rfl | ⟨1, _⟩ => rfl | ⟨2, _⟩ => rfl | ⟨3, _⟩ => rfl | ⟨4, _⟩ => rfl | ⟨5, _⟩ => rfl), denom_at]
  rfl

theorem mix_at (u : FVec Ideal S8192x5632 .f32) (a : FVec Ideal S2x16 .f32) (b : Fin 2) (B : Fin 32) (r : Fin 128) (h g : Fin 4) (d : Fin 64) :
    val_main_v76 (F := Ideal) u a (ix6 b B r h g d)
      = softRef (masked u b B r h g) (both (fun B r => u (ix2 (rowIx b B r) ⟨1280 + (h.val * 64 + d.val), by omega⟩)) B)
          (a (ix2 0 ⟨h.val * 4 + g.val, by omega⟩)) := by
  unfold softRef
  pointwise [val_main_v76, val_main_v75, vv_at, prob_at]

/-- The reference's result, one number at a time. -/
theorem ref_at (u : FVec Ideal S8192x5632 .f32) (a : FVec Ideal S2x16 .f32) (b : Fin 2) (B : Fin 32) (r : Fin 128) (h g : Fin 4) (d : Fin 64) :
    val_main_v80 (F := Ideal) u a (ix2 (rowIx b B r) (colIx h g d))
      = softRef (masked u b B r h g) (both (fun B r => u (ix2 (rowIx b B r) ⟨1280 + (h.val * 64 + d.val), by omega⟩)) B)
          (a (ix2 0 ⟨h.val * 4 + g.val, by omega⟩))
        * gate (u (ix2 (rowIx b B r) ⟨1536 + (h.val * 256 + g.val * 64 + d.val), by omega⟩)) := by
  have e1 : (b.val * 4096 + B.val * 128 + r.val) / 4096 = b.val := by omega
  have e2 : (b.val * 4096 + B.val * 128 + r.val) / 128 % 32 = B.val := by omega
  have e3 : (b.val * 4096 + B.val * 128 + r.val) % 128 = r.val := by omega
  have e4 : (h.val * 256 + g.val * 64 + d.val) / 256 = h.val := by omega
  have e5 : (h.val * 256 + g.val * 64 + d.val) / 64 % 4 = g.val := by omega
  have e6 : (h.val * 256 + g.val * 64 + d.val) % 64 = d.val := by omega
  unfold gate
  pointwise [val_main_v80, val_main_v79, val_main_v78, val_main_v77, val_main_v9, val_main_call1_v0, val_main_call1_v1, val_main_call1_cst, val_main_call1_v2, val_main_call1_v3, val_main_call1_cst_0, val_main_call1_v4, val_main_call1_v5, mix_at]
  simp only [e1, e2, e3, e4, e5, e6, Fin.eta, zero_sub]

end Cert.ReferenceIdeal.Layer

end
-- ==== Proof.Layer.AttnFinite.lean ====
module

public import proofs.«01_k».proof.Proof.Layer.AttnPoint
public import proofs.«01_k».proof.Proof.Layer.AttnRef
public import proofs.«01_k».proof.Pre_finite_scores
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Attention

open Cert.Softmax

/-- The value is a real number. -/
def IsReal (x : EReal) : Prop := ∃ r : ℝ, x = r

theorem IsReal.mul {x y : EReal} : IsReal x → IsReal y → IsReal (x * y) := fun ⟨a, ha⟩ ⟨b, hb⟩ => ⟨a * b, by rw [ha, hb, EReal.coe_mul]⟩

theorem IsReal.sum {ι : Type} (s : Finset ι) (f : ι → EReal) (h : ∀ j, IsReal (f j)) : IsReal (∑ j ∈ s, f j) := by
  classical
  induction s using Finset.induction_on with
  | empty => exact ⟨0, by simp⟩
  | insert a s ha ih =>
    obtain ⟨x, ex⟩ := h a
    obtain ⟨y, ey⟩ := ih
    exact ⟨x + y, by rw [Finset.sum_insert ha, ex, ey, EReal.coe_add]⟩

theorem isReal_of_abs_lt (x : Ideal .f32) (h : FloatOps.absf x < Ideal.ofBits .f32 0x7F800000#32) : IsReal x := by
  have ht : Ideal.ofBits .f32 0x7F800000#32 = ⊤ := by simp [Ideal.ofBits, Ideal.ieee]
  rw [ht] at h
  have hm : max (x : EReal) (-(x : EReal)) < ⊤ := h
  have h1 : (x : EReal) ≠ ⊤ := fun e => by rw [e] at hm; simp at hm
  have h2 : (x : EReal) ≠ ⊥ := fun e => by rw [e] at hm; simp at hm
  exact ⟨EReal.toReal x, (EReal.coe_toReal h1 h2).symm⟩

theorem eq_one_of (P : Prop) [Decidable P] (h : BitVec.ofBool (decide P) = 1#1) : P := by
  by_cases hP : P
  · exact hP
  · rw [decide_eq_false hP] at h
    exact absurd h (by decide)

theorem eighth_real : IsReal (Ideal.ofBits .f32 0x3E000000#32) := by
  simp [Ideal.ofBits, Ideal.ieee]
  exact IsReal.mul ⟨_, rfl⟩ ⟨_, rfl⟩

theorem scores_real [Cert.Pre_finite_scores.Facts] (u : FVec Ideal Cert.Pre_finite_scores.S8192x5632 .f32) (a : FVec Ideal Cert.Pre_finite_scores.S2x16 .f32)
    (h : (Cert.Pre_finite_scores.fn (F := Ideal) u a).1 = fun _ => 1#1) (n : Fin 8192) (e : Fin 1280) :
    IsReal (u (ix2 n ⟨e.val, by omega⟩)) := by
  refine isReal_of_abs_lt _ ?_
  have := congrFun h (ix2 n e)
  unfold Cert.Pre_finite_scores.fn at this
  dsimp only at this
  revert this
  pointwise
  exact eq_one_of _

theorem sinks_real [Cert.Pre_finite_scores.Facts] (u : FVec Ideal Cert.Pre_finite_scores.S8192x5632 .f32) (a : FVec Ideal Cert.Pre_finite_scores.S2x16 .f32)
    (h : (Cert.Pre_finite_scores.fn (F := Ideal) u a).2 = fun _ => 1#1) (e : Fin 16) : IsReal (a (ix2 0 e)) := by
  refine isReal_of_abs_lt _ ?_
  have := congrFun h (ix1 e)
  unfold Cert.Pre_finite_scores.fn at this
  dsimp only at this
  revert this
  pointwise
  exact eq_one_of _

end Cert.Attention

end
-- ==== Proof.Layer.AttnFinal.lean ====
module

public import proofs.«01_k».proof.Proof.Layer.AttnFinite

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen Cert.Softmax Cert.Attention
open Cert.ReferenceIdeal.Layer (rowIx colIx both masked)

/-- The previous block's rows and the current block's, as one sub-block reads them: the reference's previous rows and
    own rows, wherever a row is attended. -/
theorem rows_eq (x4 : FVec Ideal S128x256 .f32) (x5 : FVec Ideal S256x256 .f32) (G : Fin 8192 → EReal) (e : Fin 256)
    (b : Fin 2) (ti : Fin 16) (s : Fin 2)
    (h4 : ∀ n : Fin 128, x4 (ix2 n e) = G ⟨b.val * 4096 + (2 * ti.val - 1) * 128 + n.val, by omega⟩)
    (h5 : ∀ n : Fin 256, x5 (ix2 n e) = G ⟨b.val * 4096 + ti.val * 256 + n.val, by omega⟩)
    (j : Fin 256) (hj : 128 ≤ j.val ∨ 0 < 2 * ti.val + s.val) :
    rows x4 x5 ⟨s.val * 128 + j.val, by omega⟩ e = both (fun B r => G (rowIx b B r)) ⟨2 * ti.val + s.val, by omega⟩ j := by
  unfold rows both
  by_cases h1 : s.val * 128 + j.val < 128
  · rw [dif_pos h1, dif_pos (show j.val < 128 by omega), dif_neg (show ¬ 2 * ti.val + s.val < 1 by omega), h4]
    refine congrArg G (Fin.ext ?_)
    show b.val * 4096 + (2 * ti.val - 1) * 128 + (s.val * 128 + j.val) = b.val * 4096 + (2 * ti.val + s.val - 1) * 128 + j.val
    omega
  · rw [dif_neg h1, h5]
    by_cases h2 : j.val < 128
    · rw [dif_pos h2, dif_neg (show ¬ 2 * ti.val + s.val < 1 by omega)]
      refine congrArg G (Fin.ext ?_)
      show b.val * 4096 + ti.val * 256 + (s.val * 128 + j.val - 128) = b.val * 4096 + (2 * ti.val + s.val - 1) * 128 + j.val
      omega
    · rw [dif_neg h2]
      refine congrArg G (Fin.ext ?_)
      show b.val * 4096 + ti.val * 256 + (s.val * 128 + j.val - 128) = b.val * 4096 + (2 * ti.val + s.val) * 128 + (j.val - 128)
      omega

variable (m : (ℓ : Loc nD τ sig) → Buf (Elt Ideal) ℓ)

theorem idx : ∀ t : Fin cfg0.N, win0_0.index t = ![0] ∧ win0_1.index t = ![(grid0.coords t 0).val * 16 + (grid0.coords t 1).val, 0]
    ∧ win0_2.index t = ![(grid0.coords t 0).val * 16 + (grid0.coords t 1).val, 3]
    ∧ win0_3.index t = ![(grid0.coords t 0).val * 16 + (grid0.coords t 1).val, 4]
    ∧ win0_4.index t = ![(grid0.coords t 0).val * 32 + (2 * (grid0.coords t 1).val - 1), 4]
    ∧ win0_5.index t = ![(grid0.coords t 0).val * 16 + (grid0.coords t 1).val, 4]
    ∧ win0_6.index t = ![(grid0.coords t 0).val * 32 + (2 * (grid0.coords t 1).val - 1), 5]
    ∧ win0_7.index t = ![(grid0.coords t 0).val * 16 + (grid0.coords t 1).val, 5]
    ∧ win0_8.index t = ![(grid0.coords t 0).val * 16 + (grid0.coords t 1).val, 0] :=
  (by decide +kernel : ∀ t : Fin grid0.N, _)

/-- The first argument, as the run finds it. -/
abbrev uu (c : Dev nD) : FVec Ideal S8192x5632 .f32 := m ((c : Thread nD τ).loc main_arg0)

abbrev bb (t : Fin cfg0.N) : Fin 2 := grid0.coords t 0
abbrev ti (t : Fin cfg0.N) : Fin 16 := grid0.coords t 1

theorem sinks_blk (c : Dev nD) (t : Fin cfg0.N) (e : Fin 16) :
    iblk m c 0 t (ix1 e) = m ((c : Thread nD τ).loc main_arg1) (ix2 0 e) := by
  blk_point [iblk, idx t]

theorem q_blk (c : Dev nD) (t : Fin cfg0.N) (n : Fin 256) (e : Fin 1024) :
    X0_1 m c t (ix2 n e) = uu m c (ix2 ⟨(bb t).val * 4096 + (ti t).val * 256 + n.val, by have := (bb t).isLt; have := (ti t).isLt; omega⟩ ⟨e.val, by omega⟩) := by
  unfold X0_1 Pipeline.Window.fill
  rw [dif_pos (moved0_1 t _)]
  blk_point [iblk, idx t]
  all_goals (simp only [bb, ti]; omega)

theorem z1_blk (c : Dev nD) (t : Fin cfg0.N) (n : Fin 256) (e : Fin 512) :
    iblk m c 2 t (ix2 n e) = uu m c (ix2 ⟨(bb t).val * 4096 + (ti t).val * 256 + n.val, by have := (bb t).isLt; have := (ti t).isLt; omega⟩ ⟨1536 + e.val, by omega⟩) := by
  blk_point [iblk, idx t]
  all_goals (simp only [bb, ti]; omega)

theorem z2_blk (c : Dev nD) (t : Fin cfg0.N) (n : Fin 256) (e : Fin 512) :
    iblk m c 3 t (ix2 n e) = uu m c (ix2 ⟨(bb t).val * 4096 + (ti t).val * 256 + n.val, by have := (bb t).isLt; have := (ti t).isLt; omega⟩ ⟨2048 + e.val, by omega⟩) := by
  blk_point [iblk, idx t]
  all_goals (simp only [bb, ti]; omega)

theorem k1_blk (c : Dev nD) (t : Fin cfg0.N) (n : Fin 128) (e : Fin 256) :
    iblk m c 4 t (ix2 n e) = uu m c (ix2 ⟨(bb t).val * 4096 + (2 * (ti t).val - 1) * 128 + n.val, by have := (bb t).isLt; have := (ti t).isLt; omega⟩ ⟨1024 + e.val, by omega⟩) := by
  blk_point [iblk, idx t]
  all_goals (simp only [bb, ti]; omega)

theorem k2_blk (c : Dev nD) (t : Fin cfg0.N) (n : Fin 256) (e : Fin 256) :
    iblk m c 5 t (ix2 n e) = uu m c (ix2 ⟨(bb t).val * 4096 + (ti t).val * 256 + n.val, by have := (bb t).isLt; have := (ti t).isLt; omega⟩ ⟨1024 + e.val, by omega⟩) := by
  blk_point [iblk, idx t]
  all_goals (simp only [bb, ti]; omega)

theorem v1_blk (c : Dev nD) (t : Fin cfg0.N) (n : Fin 128) (e : Fin 256) :
    iblk m c 6 t (ix2 n e) = uu m c (ix2 ⟨(bb t).val * 4096 + (2 * (ti t).val - 1) * 128 + n.val, by have := (bb t).isLt; have := (ti t).isLt; omega⟩ ⟨1280 + e.val, by omega⟩) := by
  blk_point [iblk, idx t]
  all_goals (simp only [bb, ti]; omega)

theorem v2_blk (c : Dev nD) (t : Fin cfg0.N) (n : Fin 256) (e : Fin 256) :
    iblk m c 7 t (ix2 n e) = uu m c (ix2 ⟨(bb t).val * 4096 + (ti t).val * 256 + n.val, by have := (bb t).isLt; have := (ti t).isLt; omega⟩ ⟨1280 + e.val, by omega⟩) := by
  blk_point [iblk, idx t]
  all_goals (simp only [bb, ti]; omega)

/-- The reference's score is never `⊤`: it is real or `⊥`. -/
theorem masked_ne_top (u : FVec Ideal S8192x5632 .f32) (hu : ∀ (n : Fin 8192) (e : Fin 1280), IsReal (u (ix2 n ⟨e.val, by omega⟩)))
    (b : Fin 2) (B : Fin 32) (r : Fin 128) (h g : Fin 4) (j : Fin 256) : masked u b B r h g j ≠ ⊤ := by
  unfold masked Cert.ReferenceIdeal.Layer.score
  split
  · obtain ⟨x, hx⟩ : IsReal ((∑ d : Fin 64, u (ix2 (rowIx b B r) ⟨h.val * 256 + g.val * 64 + d.val, by omega⟩)
        * both (fun B r => u (ix2 (rowIx b B r) ⟨1024 + (h.val * 64 + d.val), by omega⟩)) B j) * Ideal.ofBits .f32 0x3E000000#32) := by
      refine IsReal.mul (IsReal.sum _ _ fun d => IsReal.mul (hu _ ⟨h.val * 256 + g.val * 64 + d.val, by omega⟩) ?_) eighth_real
      unfold both
      split
      · split
        · exact ⟨0, rfl⟩
        · exact hu _ ⟨1024 + (h.val * 64 + d.val), by omega⟩
      · exact hu _ ⟨1024 + (h.val * 64 + d.val), by omega⟩
    rw [hx]
    exact EReal.coe_ne_top x
  · exact bot_ne_top

/-- One number of the block the body leaves at point `t` is the reference's at its place. -/
theorem number_eq (c : Dev nD) (t : Fin cfg0.N) (hu : ∀ (n : Fin 8192) (e : Fin 1280), IsReal (uu m c (ix2 n ⟨e.val, by omega⟩)))
    (hs : ∀ e : Fin 16, IsReal (m ((c : Thread nD τ).loc main_arg1) (ix2 0 e))) (s : Fin 2) (r : Fin 128) (h g : Fin 4) (d : Fin 64) :
    number (grid0.coords t) (iblk m c 0 t) (X0_1 m c t) (iblk m c 2 t) (iblk m c 3 t) (iblk m c 4 t) (iblk m c 5 t) (iblk m c 6 t) (iblk m c 7 t) s r h g d
      = Cert.ReferenceIdeal.Read.val_main_v80 (F := Ideal) (m ((c : Thread nD τ).loc main_arg0)) (m ((c : Thread nD τ).loc main_arg1))
          (ix2 (rowIx (bb t) ⟨2 * (ti t).val + s.val, by have := (ti t).isLt; omega⟩ r) (colIx h g d)) := by
  have hb := (bb t).isLt
  have ht := (ti t).isLt
  rw [Cert.ReferenceIdeal.Layer.ref_at]
  unfold number
  obtain ⟨sk, hsk⟩ := hs ⟨h.val * 4 + g.val, by omega⟩
  have hk : iblk m c 0 t (ix1 (⟨4 * h.val + g.val, by omega⟩ : Fin 16)) = (sk : EReal) := by
    rw [sinks_blk, ← hsk]
    refine congrArg (fun e => m ((c : Thread nD τ).loc main_arg1) (ix2 0 e)) (Fin.ext ?_)
    show 4 * h.val + g.val = h.val * 4 + g.val
    omega
  have hS : (fun j : Fin 256 => if (r.val ≤ j.val ∧ j.val ≤ r.val + 128) ∧ (128 ≤ j.val ∨ 0 < 2 * (grid0.coords t 1).val + s.val)
      then score (X0_1 m c t) (iblk m c 4 t) (iblk m c 5 t) s h g r j * Ideal.ofBits .f32 0x3E000000#32 else ⊥)
      = masked (uu m c) (bb t) ⟨2 * (ti t).val + s.val, by omega⟩ r h g := by
    funext j
    unfold masked
    by_cases hl : (r.val ≤ j.val ∧ j.val ≤ r.val + 128) ∧ (128 ≤ j.val ∨ 0 < 2 * (ti t).val + s.val)
    · rw [if_pos hl, if_pos hl]
      refine congrArg (· * Ideal.ofBits .f32 0x3E000000#32) ?_
      unfold score Cert.ReferenceIdeal.Layer.score
      refine Finset.sum_congr rfl fun d _ => ?_
      rw [q_blk, rows_eq (iblk m c 4 t) (iblk m c 5 t) (fun R => uu m c (ix2 R ⟨1024 + (h.val * 64 + d.val), by omega⟩)) _ (bb t) (ti t) s
        (fun n => k1_blk m c t n _) (fun n => k2_blk m c t n _) j hl.2]
      refine congrArg (· * _) (congrArg (uu m c) (congrArg₂ ix2 (Fin.ext ?_) rfl))
      show (bb t).val * 4096 + (ti t).val * 256 + (s.val * 128 + r.val) = (bb t).val * 4096 + (2 * (ti t).val + s.val) * 128 + r.val
      omega
    · rw [if_neg hl, if_neg hl]
  rw [hS, hk, hsk]
  refine congrArg₂ (· * ·) ?_ (congrArg gate ?_)
  · refine soft_eq _ _ _ sk (fun j => masked_ne_top _ hu _ _ _ _ _ _) fun j hj => ?_
    refine rows_eq (iblk m c 6 t) (iblk m c 7 t) (fun R => uu m c (ix2 R ⟨1280 + (h.val * 64 + d.val), by omega⟩)) _ (bb t) (ti t) s
        (fun n => v1_blk m c t n _) (fun n => v2_blk m c t n _) j ?_
    by_contra hn
    refine hj ?_
    unfold masked
    exact if_neg fun hl => hn hl.2
  · unfold zrow
    split
    · rw [z1_blk]
      refine congrArg (uu m c) (congrArg₂ ix2 (Fin.ext ?_) rfl)
      show (bb t).val * 4096 + (ti t).val * 256 + (s.val * 128 + r.val) = (bb t).val * 4096 + (2 * (ti t).val + s.val) * 128 + r.val
      omega
    · rename_i he
      have he' : ¬ h.val * 256 + g.val * 64 + d.val < 512 := he
      rw [z2_blk]
      refine congrArg (uu m c) (congrArg₂ ix2 (Fin.ext ?_) (Fin.ext ?_))
      · show (bb t).val * 4096 + (ti t).val * 256 + (s.val * 128 + r.val) = (bb t).val * 4096 + (2 * (ti t).val + s.val) * 128 + r.val
        omega
      · show 2048 + (h.val * 256 + g.val * 64 + d.val - 512) = 1536 + (h.val * 256 + g.val * 64 + d.val)
        omega

/-- The block the body leaves at point `t` is the reference at the block's place. -/
theorem point (c : Dev nD) (t : Fin cfg0.N) (hu : ∀ (n : Fin 8192) (e : Fin 1280), IsReal (uu m c (ix2 n ⟨e.val, by omega⟩)))
    (hs : ∀ e : Fin 16, IsReal (m ((c : Thread nD τ).loc main_arg1) (ix2 0 e))) (y : S256x1024.Idx) :
    block (F := Ideal) (grid0.coords t) (iblk m c 0 t) (X0_1 m c t) (iblk m c 2 t) (iblk m c 3 t) (iblk m c 4 t) (iblk m c 5 t) (iblk m c 6 t) (iblk m c 7 t) y
      = Cert.ReferenceIdeal.Read.val_main_v80 (F := Ideal) (m ((c : Thread nD τ).loc main_arg0)) (m ((c : Thread nD τ).loc main_arg1))
          (((cfg0.win 8).blk t).view.emb y) := by
  have h0 : (y 0).val < 256 := (y 0).isLt
  have h1 : (y 1).val < 1024 := (y 1).isLt
  have hy : y = ix2 (⟨(⟨(y 0).val / 128, by omega⟩ : Fin 2).val * 128 + (⟨(y 0).val % 128, by omega⟩ : Fin 128).val, by show (y 0).val / 128 * 128 + (y 0).val % 128 < 256; omega⟩ : Fin 256)
      (⟨(⟨(y 1).val / 256, by omega⟩ : Fin 4).val * 256 + (⟨(y 1).val / 64 % 4, by omega⟩ : Fin 4).val * 64 + (⟨(y 1).val % 64, by omega⟩ : Fin 64).val, by
        show (y 1).val / 256 * 256 + (y 1).val / 64 % 4 * 64 + (y 1).val % 64 < 1024; omega⟩ : Fin 1024) := by
    conv_lhs => rw [eq_ix2 y]
    refine congrArg₂ ix2 (Fin.ext ?_) (Fin.ext ?_)
    · show (y 0).val = (y 0).val / 128 * 128 + (y 0).val % 128
      omega
    · show (y 1).val = (y 1).val / 256 * 256 + (y 1).val / 64 % 4 * 64 + (y 1).val % 64
      omega
  refine Eq.trans (congrArg _ hy) ((block_at ..).trans ((number_eq m c t hu hs ..).trans (congrArg _ ?_)))
  rw [eq_ix2 (((cfg0.win 8).blk t).view.emb y)]
  refine congrArg₂ ix2 (Fin.ext ?_) (Fin.ext ?_)
  · blk_simp [idx t]
    show (grid0.coords t 0).val * 4096 + (2 * (grid0.coords t 1).val + (y 0).val / 128) * 128 + (y 0).val % 128 = _
    omega
  · blk_simp [idx t]
    show (y 1).val / 256 * 256 + (y 1).val / 64 % 4 * 64 + (y 1).val % 64 = _
    omega

/-- The result array after the run. -/
theorem final (c : Dev nD) (hu : ∀ (n : Fin 8192) (e : Fin 1280), IsReal (uu m c (ix2 n ⟨e.val, by omega⟩)))
    (hs : ∀ e : Fin 16, IsReal (m ((c : Thread nD τ).loc main_arg1) (ix2 0 e))) : (dats m 0 c).arrAt 8 cfg0.N
    = Cert.ReferenceIdeal.Read.val_main_v80 (F := Ideal) (m ((c : Thread nD τ).loc main_arg0)) (m ((c : Thread nD τ).loc main_arg1)) := by
  refine (dats m 0 c).arrAt_eq_of_covers 8 _ (by decide +kernel) fun t _ y => ?_
  blk_simp
  rw [after0_8]
  unfold outsAt0
  rw [out_eq]
  exact point m c t hu hs y

end Cert.KernelIdeal.Layer

end
-- ==== Proof.Layer.EvenRun.lean ====
module

public import proofs.«01_k».proof.Proof.Gen.InEvenIdeal.Frame
public import Idealize.ShloMosaic.Lib.Claim

@[expose] public section

set_option maxRecDepth 16384

noncomputable section

namespace Cert.InEvenIdeal.Layer

open Cert.InEvenIdeal Cert.InEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the kernel's steps are stated over. -/
abbrev Res (F : FTy → Type) : Type := MT nD τ sig Unit (Elt F) ℕ (UR sig nD τ) ℕ

/-! The three conditions of the body, by the point's place in its block of rows: the block's rows are
normed at its first point, columns of the wide result are stored at the first eleven, the narrow result at
the twelfth. -/

/-- The condition under which a point norms the rows. -/
abbrev AtFirst (i : grid0.Coords) : Prop := Scalar.cmpi .ne (Scalar.extui (Scalar.cmpi .eq (BitVec.ofNat 32 (i 1).val) 0#32)) 0#32 = 1#1

theorem column_of (t : Fin grid0.N) : (grid0.coords t 1).val = t.val / 1 % 12 := Pipeline.Grid.coords_val t 1 (by decide) rfl

theorem atFirst_iff (t : Fin grid0.N) : AtFirst (grid0.coords t) ↔ t.val % 12 = 0 := by
  have ht : t.val < 96 := Nat.lt_of_lt_of_eq t.isLt N_0
  simp only [AtFirst, column_of t]
  word_cmp

theorem wide_iff (t : Fin grid0.N) : k0_cond2 (grid0.coords t) = 1#1 ↔ t.val % 12 ≠ 11 := by
  have ht : t.val < 96 := Nat.lt_of_lt_of_eq t.isLt N_0
  simp only [k0_cond2, column_of t]
  word_cmp

theorem narrow_iff (t : Fin grid0.N) : k0_cond3 (grid0.coords t) = 1#1 ↔ t.val % 12 = 11 := by
  have ht : t.val < 96 := Nat.lt_of_lt_of_eq t.isLt N_0
  simp only [k0_cond3, column_of t]
  word_cmp

/-- The wide result's block is written back at every point but the eleventh of a block of rows, whose
columns the twelfth still has. -/
theorem flush_wide : ∀ t : Fin cfg0.N, (cfg0.win 4).flush t = true ↔ t.val % 12 ≠ 10 := by decide +kernel

/-! What the stores leave. -/

abbrev chunk0 : Rect S1024x2048 := Rect.unit (s := S1024x2048) ![0, 0] S256x2048.size inb_S1024x2048_S256x2048_0_0
abbrev chunk1 : Rect S1024x2048 := Rect.unit (s := S1024x2048) ![256, 0] S256x2048.size inb_S1024x2048_S256x2048_256_0
abbrev chunk2 : Rect S1024x2048 := Rect.unit (s := S1024x2048) ![512, 0] S256x2048.size inb_S1024x2048_S256x2048_512_0
abbrev chunk3 : Rect S1024x2048 := Rect.unit (s := S1024x2048) ![768, 0] S256x2048.size inb_S1024x2048_S256x2048_768_0
abbrev allRows : Rect S1024x2048 := Rect.unit (s := S1024x2048) ![0, 0] S1024x2048.size inb_S1024x2048_S1024x2048_0_0
abbrev allGain : Rect S1x2048 := Rect.unit (s := S1x2048) ![0, 0] S1x2048.size inb_S1x2048_S1x2048_0_0
abbrev allWide : Rect S1x512x2048 := Rect.unit (s := S1x512x2048) ![0, 0, 0] S1x512x2048.size inb_S1x512x2048_S1x512x2048_0_0_0
abbrev allNarrow : Rect S1x1152x2048 := Rect.unit (s := S1x1152x2048) ![0, 0, 0] S1x1152x2048.size inb_S1x1152x2048_S1x1152x2048_0_0_0
abbrev outWide : Rect S1024x512 := Rect.unit (s := S1024x512) ![0, 0] S1024x512.size inb_S1024x512_S1024x512_0_0
abbrev outNarrow : Rect S1024x1152 := Rect.unit (s := S1024x1152) ![0, 0] S1024x1152.size inb_S1024x1152_S1024x1152_0_0

/-- 256 rows normed, with their gain. -/
def normRows (x : FVec F S256x2048 .f32) (g : FVec F S1x2048 .f32) : FVec F S256x2048 .bf16 :=
  shapeCast S256x2048 (truncf .bf16 (mulf
    (mulf x (broadcastTo S256x2048 (rsqrt (addf (divf
      (shapeCast S256x1 (multiReduction .add [1] S256 (mulf x x) 0x00000000#32 reduces_S256x2048_S256 (.inl rfl) rfl) shapeCasts_S256_S256x1)
      (broadcast S256x1 (Scalar.ofBits .f32 0x45000000#32))) (broadcast S256x1 (Scalar.ofBits .f32 0x358637BD#32)))) broadcasts_S256x1_S256x2048))
    (broadcastTo S256x2048 (shapeCast S1x2048 g shapeCasts_S1x2048_S1x2048) broadcasts_S1x2048_S256x2048)) bitsLt_bf16_f32)
    shapeCasts_S256x2048_S256x2048

/-- The four stores of normed rows, the last first. -/
def rowPieces (x : Vec F S1024x2048 .f32) (g : Vec F S1x2048 .f32) : List (View.Piece (Elt F) S1024x2048 .bf16) :=
  [⟨chunk3, normRows (View.ld x chunk3) (View.ld g allGain)⟩, ⟨chunk2, normRows (View.ld x chunk2) (View.ld g allGain)⟩,
   ⟨chunk1, normRows (View.ld x chunk1) (View.ld g allGain)⟩, ⟨chunk0, normRows (View.ld x chunk0) (View.ld g allGain)⟩]

/-- A block of normed rows, as those stores leave it. -/
def rows (x : Vec F S1024x2048 .f32) (g : Vec F S1x2048 .f32) : Vec F S1024x2048 .bf16 := View.canon (rowPieces x g)

theorem rows_cover (x : Vec F S1024x2048 .f32) (g : Vec F S1x2048 .f32) (y : S1024x2048.Idx) : ∃ p ∈ rowPieces x g, y ∈ p.1.set :=
  View.cover_of_tiledL (rowPieces x g) S256x2048.size (by rfl) y

/-- The product of normed rows with a block of the wide result's columns. -/
def wideProd (h : FVec F S1024x2048 .bf16) (w : FVec F S1x512x2048 .bf16) : FVec F S1024x512 .f32 :=
  matmul dot_S1024x2048_S512x2048_S1024x512_1_1_0_0_n_n none h (shapeCast S512x2048 w shapeCasts_S1x512x2048_S512x2048) (constant S1024x512 .f32 0x00000000#32)

/-- The product of normed rows with the narrow result's columns. -/
def narrowProd (h : FVec F S1024x2048 .bf16) (w : FVec F S1x1152x2048 .bf16) : FVec F S1024x1152 .f32 :=
  matmul dot_S1024x2048_S1152x2048_S1024x1152_1_1_0_0_n_n none h (shapeCast S1152x2048 w shapeCasts_S1x1152x2048_S1152x2048) (constant S1024x1152 .f32 0x00000000#32)

def wideOut (h : Vec F S1024x2048 .bf16) (w : Vec F S1x512x2048 .bf16) : Vec F S1024x512 .f32 :=
  View.canon [⟨outWide, wideProd (View.ld h allRows) (View.ld w allWide)⟩]

def narrowOut (h : Vec F S1024x2048 .bf16) (w : Vec F S1x1152x2048 .bf16) : Vec F S1024x1152 .f32 :=
  View.canon [⟨outNarrow, narrowProd (View.ld h allRows) (View.ld w allNarrow)⟩]

theorem wide_cover (p : Vec F S1024x512 .f32) (y : S1024x512.Idx) : ∃ q ∈ ([⟨outWide, p⟩] : List (View.Piece (Elt F) S1024x512 .f32)), y ∈ q.1.set :=
  View.cover_of_tiledL [⟨outWide, p⟩] S1024x512.size (by rfl) y

theorem narrow_cover (p : Vec F S1024x1152 .f32) (y : S1024x1152.Idx) : ∃ q ∈ ([⟨outNarrow, p⟩] : List (View.Piece (Elt F) S1024x1152 .f32)), y ∈ q.1.set :=
  View.cover_of_tiledL [⟨outNarrow, p⟩] S1024x1152.size (by rfl) y

/-! The body, by the three kinds of point. -/

section Body

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1x512x2048 .bf16) (harg4 : arg4.IsWhole) (arg5 : Memref sig .tc .vmem S1x1152x2048 .bf16) (harg5 : arg5.IsWhole)
  (arg6 : Memref sig .tc .vmem S1024x512 .f32) (harg6 : arg6.IsWhole) (arg7 : Memref sig .tc .vmem S1024x1152 .f32) (harg7 : arg7.IsWhole)
  (arg8 : Memref sig .tc .vmem S1024x2048 .bf16) (harg8 : arg8.IsWhole)

/-- A point past the first and before the twelfth: one block of the wide result's columns. -/
theorem run_middle (h1 : ¬AtFirst i) (h2 : k0_cond2 i = 1#1) (h3 : ¬k0_cond3 i = 1#1)
    (w : Vec F S1x512x2048 .bf16) (h : Vec F S1024x2048 .bf16) (E : Set ℕ) (K : PUnit → sProp (Res F)) :
    iprop(owns (c : Thread nD τ) arg4 fullShare w ∗ (∃ d, owns (c : Thread nD τ) arg6 fullShare d) ∗ owns (c : Thread nD τ) arg8 fullShare h
        ∗ (iprop(owns (c : Thread nD τ) arg4 fullShare w ∗ owns (c : Thread nD τ) arg6 fullShare (wideOut h w) ∗ owns (c : Thread nD τ) arg8 fullShare h) -∗ K ⟨⟩))
      ⊢ wp frame (wpE (defs₀ (F := F)) Variants.none c none) E
          (cc0_rms_matmul i arg2 harg2 arg3 harg3 arg4 harg4 arg5 harg5 arg6 harg6 arg7 harg7 arg8 harg8) K := by
  unfold cc0_rms_matmul owns
  iintro ⟨⟨%f4, %hf4, H4⟩, ⟨%d6, %f6, -, H6⟩, ⟨%f8, %hf8, H8⟩, Hk⟩
  subst hf4 hf8
  sl_exec (disch := first | sl_exact h1 | sl_exact h2 | sl_exact h3)
  sl_step
  iapply Hk
  isplitl [H4]
  · iexists f4; isplitr; · ipureintro; rfl
    iexact H4
  isplitl [H6]
  · iexists _; isplitr
    swap; · iexact H6
    ipureintro
    exact View.read_writes_eq_canon _ _ _ (wide_cover _)
  iexists f8; isplitr; · ipureintro; rfl
  iexact H8

/-- The twelfth point: the narrow result's columns. -/
theorem run_last (h1 : ¬AtFirst i) (h2 : ¬k0_cond2 i = 1#1) (h3 : k0_cond3 i = 1#1)
    (w : Vec F S1x1152x2048 .bf16) (h : Vec F S1024x2048 .bf16) (E : Set ℕ) (K : PUnit → sProp (Res F)) :
    iprop(owns (c : Thread nD τ) arg5 fullShare w ∗ (∃ d, owns (c : Thread nD τ) arg7 fullShare d) ∗ owns (c : Thread nD τ) arg8 fullShare h
        ∗ (iprop(owns (c : Thread nD τ) arg5 fullShare w ∗ owns (c : Thread nD τ) arg7 fullShare (narrowOut h w) ∗ owns (c : Thread nD τ) arg8 fullShare h) -∗ K ⟨⟩))
      ⊢ wp frame (wpE (defs₀ (F := F)) Variants.none c none) E
          (cc0_rms_matmul i arg2 harg2 arg3 harg3 arg4 harg4 arg5 harg5 arg6 harg6 arg7 harg7 arg8 harg8) K := by
  unfold cc0_rms_matmul owns
  iintro ⟨⟨%f5, %hf5, H5⟩, ⟨%d7, %f7, -, H7⟩, ⟨%f8, %hf8, H8⟩, Hk⟩
  subst hf5 hf8
  sl_exec (disch := first | sl_exact h1 | sl_exact h2 | sl_exact h3)
  sl_step
  iapply Hk
  isplitl [H5]
  · iexists f5; isplitr; · ipureintro; rfl
    iexact H5
  isplitl [H7]
  · iexists _; isplitr
    swap; · iexact H7
    ipureintro
    exact View.read_writes_eq_canon _ _ _ (narrow_cover _)
  iexists f8; isplitr; · ipureintro; rfl
  iexact H8

set_option maxHeartbeats 1600000 in
/-- A first point: the rows are normed, then one block of the wide result's columns. -/
theorem run_first (h1 : AtFirst i) (h2 : k0_cond2 i = 1#1) (h3 : ¬k0_cond3 i = 1#1)
    (x : Vec F S1024x2048 .f32) (g : Vec F S1x2048 .f32) (w : Vec F S1x512x2048 .bf16) (E : Set ℕ) (K : PUnit → sProp (Res F)) :
    iprop(owns (c : Thread nD τ) arg2 fullShare x ∗ owns (c : Thread nD τ) arg3 fullShare g ∗ owns (c : Thread nD τ) arg4 fullShare w
        ∗ (∃ d, owns (c : Thread nD τ) arg6 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w
            ∗ owns (c : Thread nD τ) arg6 fullShare (wideOut (rows x g) w) ∗ owns (c : Thread nD τ) arg8 fullShare (rows x g)) -∗ K ⟨⟩))
      ⊢ wp frame (wpE (defs₀ (F := F)) Variants.none c none) E
          (cc0_rms_matmul i arg2 harg2 arg3 harg3 arg4 harg4 arg5 harg5 arg6 harg6 arg7 harg7 arg8 harg8) K := by
  unfold cc0_rms_matmul k0_part1 owns
  iintro ⟨⟨%f2, %hf2, H2⟩, ⟨%f3, %hf3, H3⟩, ⟨%f4, %hf4, H4⟩, ⟨%d6, %f6, -, H6⟩, ⟨%d8, %f8, -, H8⟩, Hk⟩
  subst hf2 hf3 hf4
  sl_exec (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (View.read_writes_eq_canon _ _ _ (wide_cover _)).trans ?_
    refine Eq.trans (b := View.canon [⟨outWide, wideProd (arg8.view.readCov (rowPieces (arg2.view.read (Elt F) f2) (arg3.view.read (Elt F) f3)) allRows.toLoadRect)
      (View.ld (arg4.view.read (Elt F) f4) allWide)⟩]) ?_ ?_
    · sl_kernel_rfl
    · rw [View.readCov_eq_canon_ld _ _ _ (rows_cover _ _)]
      rfl
  iexists _; isplitr
  swap; · iexact H8
  ipureintro
  refine Eq.trans (b := arg8.view.read (Elt F) (arg8.view.writes (Elt F) f8 (rowPieces (arg2.view.read (Elt F) f2) (arg3.view.read (Elt F) f3)))) ?_
    (View.read_writes_eq_canon _ _ _ (rows_cover _ _))
  sl_kernel_rfl

end Body

section Run

variable (m : (ℓ : Loc nD τ sig) → Buf (Elt F) ℓ) (ρ : Dev nD → PrngReg)

/-! What the buffers hold, point by point. -/

/-- The first point of a point's block of rows. -/
def start (t : Fin cfg0.N) : Fin cfg0.N := ⟨t.val / 12 * 12, by have := t.isLt; omega⟩

/-- The point whose columns of the wide result a point's buffer holds: itself, but the eleventh for the twelfth. -/
def colPoint (t : Fin cfg0.N) : Fin cfg0.N := if t.val % 12 = 11 then ⟨t.val - 1, by have := t.isLt; omega⟩ else t

/-- The normed rows the scratch holds after a point. -/
def held (c : Dev nD) (t : Fin cfg0.N) : Vec F S1024x2048 .bf16 := rows (iblk m c 0 (start t)) (iblk m c 1 (start t))

def wideAt (c : Dev nD) (t : Fin cfg0.N) : Vec F S1024x512 .f32 := wideOut (held m c t) (X0_2 m c t)

def narrowAt (c : Dev nD) (t : Fin cfg0.N) : Vec F S1024x1152 .f32 := narrowOut (held m c t) (iblk m c 3 t)

theorem start_first (t : Fin cfg0.N) (h : t.val % 12 = 0) : start t = t := Fin.ext (by show t.val / 12 * 12 = t.val; omega)

theorem held_first (c : Dev nD) (t : Fin cfg0.N) (h : t.val % 12 = 0) : held m c t = rows (iblk m c 0 t) (iblk m c 1 t) := by
  unfold held; rw [start_first t h]

theorem held_later (c : Dev nD) (n : ℕ) (hn : n + 1 < cfg0.N) (h : (n + 1) % 12 ≠ 0) : held m c ⟨n + 1, hn⟩ = held m c ⟨n, Nat.lt_of_succ_lt hn⟩ := by
  have e : start (⟨n + 1, hn⟩ : Fin cfg0.N) = start ⟨n, Nat.lt_of_succ_lt hn⟩ := Fin.ext (by show (n + 1) / 12 * 12 = n / 12 * 12; omega)
  unfold held; rw [e]

/-- The scratch, whole. -/
abbrev scratch : Memref sig .tc .vmem S1024x2048 .bf16 := Memref.whole cc0_scratch0

/-- The scratch and the generator register, before position `n`. -/
def Inv (c : Dev nD) : (n : ℕ) → n ≤ cfg0.N → sProp (Res F)
  | 0, _ => Pipeline.ΦA spec0 c
  | n + 1, hn => iprop(owns (c : Thread nD τ) scratch fullShare (held m c ⟨n, hn⟩) ∗ (∃ r, prngReg c r))

theorem entry_eq (c : Dev nD) :
    (Pipeline.ΦA spec0 c : sProp (Res F)) = iprop((∃ d, owns (c : Thread nD τ) scratch fullShare d) ∗ (∃ r, prngReg c r)) := by
  unfold Pipeline.ΦA; rw [scopedRest0_eq]; simp only [scratch, owns_whole]; try rfl

theorem Inv_after (c : Dev nD) (t : Fin cfg0.N) :
    Inv m c (t.val + 1) t.isLt = iprop(owns (c : Thread nD τ) scratch fullShare (held m c t) ∗ (∃ r, prngReg c r)) := rfl

/-- At a point past the first of its block of rows the scratch holds that block's normed rows already. -/
theorem Inv_later (c : Dev nD) (t : Fin cfg0.N) (h : t.val % 12 ≠ 0) :
    Inv m c t.val (Nat.le_of_lt t.isLt) = iprop(owns (c : Thread nD τ) scratch fullShare (held m c t) ∗ (∃ r, prngReg c r)) := by
  obtain ⟨n, hn⟩ := t
  cases n with
  | zero => exact absurd rfl h
  | succ n => rw [held_later m c n hn h]; rfl

/-- At any point the scratch holds something. -/
theorem Inv_any (c : Dev nD) (n : ℕ) (hn : n ≤ cfg0.N) :
    Inv m c n hn ⊢ iprop((∃ d, owns (c : Thread nD τ) scratch fullShare d) ∗ (∃ r, prngReg c r)) := by
  cases n with
  | zero =>
    rw [show Inv m c 0 hn = Pipeline.ΦA spec0 c from rfl, entry_eq]
  | succ n =>
    rw [show Inv m c (n + 1) hn = iprop(owns (c : Thread nD τ) scratch fullShare (held m c ⟨n, hn⟩) ∗ (∃ r, prngReg c r)) from rfl]
    iintro ⟨H, Hg⟩
    isplitl [H]
    · iexists _; iexact H
    iexact Hg

/-- What every buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => wideAt m c (colPoint t)
    | ⟨5, _⟩ => narrowAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_at (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = wideAt m c (colPoint t) := by dsimp only [dats]
theorem after_5 (c : Dev nD) (t : Fin cfg0.N) : (dats m 0 c).after 5 t = narrowAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem live_wide (t : Fin cfg0.N) (h : t.val % 12 ≠ 11) : cfg0.idle 4 (cfg0.grid.coords t) = false := by
  show (!(k0_cond2 (grid0.coords t) == 1#1)) = false
  rw [(wide_iff t).mpr h]; rfl

theorem idle_wide (t : Fin cfg0.N) (h : t.val % 12 = 11) : cfg0.idle 4 (cfg0.grid.coords t) = true := by
  show (!(k0_cond2 (grid0.coords t) == 1#1)) = true
  rw [beq_false_of_ne (fun e => (wide_iff t).mp e h)]; rfl

theorem live_narrow (t : Fin cfg0.N) (h : t.val % 12 = 11) : cfg0.idle 5 (cfg0.grid.coords t) = false := by
  show (!(k0_cond3 (grid0.coords t) == 1#1)) = false
  rw [(narrow_iff t).mpr h]; rfl

theorem idle_narrow (t : Fin cfg0.N) (h : t.val % 12 ≠ 11) : cfg0.idle 5 (cfg0.grid.coords t) = true := by
  show (!(k0_cond3 (grid0.coords t) == 1#1)) = true
  rw [beq_false_of_ne (fun e => h ((narrow_iff t).mp e))]; rfl

/-- The twelfth point finds in the wide result's buffer what the eleventh left. -/
theorem before_wide (c : Dev nD) (t : Fin cfg0.N) (h : t.val % 12 = 11) (d) : (dats m 0 c).before 4 t d = (dats m 0 c).after 4 t := by
  have hp : t.val - 1 < cfg0.N := Nat.lt_of_le_of_lt (Nat.sub_le _ _) t.isLt
  have hfl : (cfg0.win 4).flush ⟨t.val - 1, hp⟩ = false :=
    Bool.eq_false_iff.mpr fun e => (flush_wide ⟨t.val - 1, hp⟩).mp e (by show (t.val - 1) % 12 = 10; omega)
  rw [(dats m 0 c).before_of_pos 4 t (by omega) ((cfg0.win 4).fetch_out rfl t) d, hfl, if_neg Bool.false_ne_true]
  unfold Dat.left
  rw [live_wide ⟨t.val - 1, hp⟩ (by show (t.val - 1) % 12 ≠ 11; omega)]
  have e : (dats m 0 c).after 4 ⟨t.val - 1, hp⟩ = (dats m 0 c).after 4 t := by
    rw [after_4, after_4]
    congr 1
    unfold colPoint
    rw [if_neg (by show ¬(t.val - 1) % 12 = 11; omega), if_pos h]
  show (dats m 0 c).kept 4 ⟨t.val - 1, hp⟩ d = _
  unfold Dat.kept
  rw [Pipeline.fill_of_clip_none (cfg := cfg0) 4 _ (fun _ => rfl) d ((dats m 0 c).after 4 ⟨t.val - 1, hp⟩), Window.fill_cut]
  exact e

/-! The body at every point. -/

/-- What the body is called with. -/
def pre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns of an output's buffer: the point's contents, or at a point that neither stores nor writes
back what it found. -/
def postOut (c : Dev nD) (t : Fin cfg0.N) (w : Fin cfg0.W) : sProp (Res F) :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

def post (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ postOut m c t 4 ∗ postOut m c t 5)

theorem postOut_live (c : Dev nD) (t : Fin cfg0.N) (w : Fin cfg0.W) (h : cfg0.idle w (cfg0.grid.coords t) = false) :
    postOut m c t w = owns (c : Thread nD τ) ((cfg0.win w).stage (cfg0.slots t w)) fullShare ((dats m 0 c).after w t) := by
  unfold postOut; rw [h]

theorem postOut_back (c : Dev nD) (t : Fin cfg0.N) (w : Fin cfg0.W) (h : cfg0.idle w (cfg0.grid.coords t) = true) (hf : (cfg0.win w).flush t = true) :
    postOut m c t w = owns (c : Thread nD τ) ((cfg0.win w).stage (cfg0.slots t w)) fullShare ((dats m 0 c).after w t) := by
  unfold postOut; rw [h, hf]

theorem postOut_idle (c : Dev nD) (t : Fin cfg0.N) (w : Fin cfg0.W) (h : cfg0.idle w (cfg0.grid.coords t) = true) (hf : (cfg0.win w).flush t = false) :
    postOut m c t w = iprop(∃ d, owns (c : Thread nD τ) ((cfg0.win w).stage (cfg0.slots t w)) fullShare ((dats m 0 c).before w t d)) := by
  unfold postOut; rw [h, hf]

theorem flush_narrow (t : Fin cfg0.N) (h : t.val % 12 ≠ 11) : (cfg0.win 5).flush t = false :=
  Bool.eq_false_iff.mpr fun e => h ((flush0_5 t).mp e)

theorem after_wide (c : Dev nD) (t : Fin cfg0.N) (h : t.val % 12 ≠ 11) : (dats m 0 c).after 4 t = wideOut (held m c t) (X0_2 m c t) := by
  rw [after_4]; unfold colPoint wideAt; rw [if_neg h]

set_option maxHeartbeats 1600000 in
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3,
    show (dats m 0 c).Φ t.succ = Inv m c (t.val + 1) t.isLt from rfl, Inv_after, Inv_at]
  by_cases h : t.val % 12 = 11
  · rw [Inv_later m c t (by omega), postOut_back m c t 4 (idle_wide t h) ((flush_wide t).mpr (by omega)), postOut_live m c t 5 (live_narrow t h), after_5]
    simp only [before_wide m c t h]
    iintro ⟨⟨HS, Hg⟩, Ho, ⟨%d0, H0⟩, ⟨%d1, H1⟩, ⟨%d2, H2⟩, ⟨%d3, H3⟩, ⟨%d4, H4⟩, ⟨%d5, H5⟩⟩
    iapply (run_last c (grid0.coords t) _ _ _ _ _ _ _ _ _ _ _ _ _ _ (fun e => by have := (atFirst_iff t).mp e; omega) (fun e => (wide_iff t).mp e h)
      ((narrow_iff t).mpr h) (iblk m c 3 t) (held m c t) Set.univ _)
    isplitl [H3]; · iexact H3
    isplitl [H5]; · iexists _; iexact H5
    isplitl [HS]; · iexact HS
    iintro ⟨H3, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [postOut_live m c t 4 (live_wide t h), postOut_idle m c t 5 (idle_narrow t h) (flush_narrow t h), after_wide m c t h]
    by_cases h0 : t.val % 12 = 0
    · rw [held_first m c t h0]
      refine (BIClass.sep_mono (Inv_any m c _ _) (Idealize.SL.BI.Entails.refl _)).trans ?_
      iintro ⟨⟨HS, Hg⟩, Ho, ⟨%d0, H0⟩, ⟨%d1, H1⟩, ⟨%d2, H2⟩, ⟨%d3, H3⟩, ⟨%d4, H4⟩, H5⟩
      iapply (run_first c (grid0.coords t) _ _ _ _ _ _ _ _ _ _ _ _ _ _ ((atFirst_iff t).mpr h0) ((wide_iff t).mpr h)
        (fun e => h ((narrow_iff t).mp e)) (iblk m c 0 t) (iblk m c 1 t) (X0_2 m c t) Set.univ _)
      isplitl [H0]; · iexact H0
      isplitl [H1]; · iexact H1
      isplitl [H2]; · iexact H2
      isplitl [H4]; · iexists _; iexact H4
      isplitl [HS]; · iexact HS
      iintro ⟨H0, H1, H2, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Inv_later m c t h0]
      iintro ⟨⟨HS, Hg⟩, Ho, ⟨%d0, H0⟩, ⟨%d1, H1⟩, ⟨%d2, H2⟩, ⟨%d3, H3⟩, ⟨%d4, H4⟩, H5⟩
      iapply (run_middle c (grid0.coords t) _ _ _ _ _ _ _ _ _ _ _ _ _ _ (fun e => h0 ((atFirst_iff t).mp e)) ((wide_iff t).mpr h)
        (fun e => h ((narrow_iff t).mp e)) (X0_2 m c t) (held m c t) Set.univ _)
      isplitl [H2]; · iexact H2
      isplitl [H4]; · iexists _; iexact H4
      isplitl [HS]; · iexact HS
      iintro ⟨H2, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body_at m c t) rfl .rfl fun _ => .rfl

theorem inv_first (c : Dev nD) : Pipeline.ΦA spec0 c ⊢ (dats m 0 c).Φ 0 := by
  rw [show (dats m 0 c).Φ 0 = Pipeline.ΦA spec0 c from rfl]

theorem inv_last (c : Dev nD) : (dats m 0 c).Φ (Fin.last cfg0.N) ⊢ Pipeline.ΦA spec0 c := by
  rw [entry_eq]
  exact Inv_any m c cfg0.N (Nat.le_refl _)

/-! The launch. -/

set_option backward.isDefEq.respectTransparency.types false in
theorem run_quiet : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_first m) (hout := inv_last m)

theorem run : θ_run defs (onTc (τ := τ) (main (F := F))) (s₀ m ρ) (Pipeline.FramePost cfgs (dats m) 0 (V m)) :=
  (θ_run defs _ _).mono (fun _ h => h.1) (run_quiet m ρ)

/-- Over any float values the kernel ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiet m ρ))

end Run

end Cert.InEvenIdeal.Layer

end
-- ==== Proof.Layer.InOdd.lean ====
module

public import proofs.«01_k».proof.Proof.Gen.InOddIdeal.Value
public import proofs.«01_k».proof.Proof.Gen.InOddRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InOddIdeal.Layer

open Cert.InOddIdeal Cert.InOddIdeal.Gen

/-- One element of a row over the root of its mean square plus a small constant, times a gain. -/
def normed (f : Fin 2048 → EReal) (g : EReal) (k : Fin 2048) : EReal :=
  f k * Ideal.rsqrt (Ideal.div (∑ j : Fin 2048, f j * f j) (Ideal.ofBits .f32 0x45000000#32) + Ideal.ofBits .f32 0x358637BD#32) * g

/-- The logistic function, by the exponential. -/
def logistic (z : EReal) : EReal := Ideal.div 1 (1 + Ideal.exp (-z))

/-- A row of the projection: the normed row times one column of the weights. -/
def proj (x : FVec Ideal ⟨2, ![8192, 2048]⟩ .f32) (g : FVec Ideal ⟨2, ![4, 2048]⟩ .f32) (w : FVec Ideal ⟨3, ![2, 2048, 6144]⟩ .f32)
    (r : Fin 8192) (q : Fin 6144) : EReal :=
  ∑ k : Fin 2048, normed (fun j => x (ix2 r j)) (g (ix2 1 k)) k * w (ix3 0 k q)

theorem norm_at (x : FVec Ideal S256x2048 .f32) (g : FVec Ideal S1x2048 .f32) (r : Fin 256) (k : Fin 2048) :
    k0_pay1 (F := Ideal) x g (ix2 r k) = normed (fun j => x (ix2 r j)) (g (ix2 0 k)) k := by
  unfold normed
  pointwise [k0_pay1]

/-- The product of one block of normed rows with one block of columns. -/
def projBlock (h : FVec Ideal S1024x2048 .bf16) (w : FVec Ideal S1x2048x512 .bf16) (r : Fin 1024) (q : Fin 512) : EReal :=
  ∑ k : Fin 2048, h (ix2 r k) * w (ix3 0 k q)

theorem first_at (h : FVec Ideal S1024x2048 .bf16) (v w : FVec Ideal S1x2048x512 .bf16) (r : Fin 1024) (q : Fin 512) :
    k0_pay5 (F := Ideal) h v w (ix2 r q) = projBlock h v r q * logistic (projBlock h w r q) := by
  unfold logistic projBlock
  pointwise [k0_pay5]
  rw [zero_sub]

theorem second_at (h : FVec Ideal S1024x2048 .bf16) (w : FVec Ideal S1x2048x512 .bf16) (r : Fin 1024) (q : Fin 512) :
    k0_pay6 (F := Ideal) h w (ix2 r q) = projBlock h w r q * logistic (projBlock h w r q) := by
  unfold logistic projBlock
  pointwise [k0_pay6]
  rw [zero_sub]

open Cert.InOddRefIdeal.Read in
theorem ref_proj_at (x : FVec Ideal ⟨2, ![8192, 2048]⟩ .f32) (g : FVec Ideal ⟨2, ![4, 2048]⟩ .f32) (w : FVec Ideal ⟨3, ![2, 2048, 6144]⟩ .f32)
    (r : Fin 8192) (q : Fin 6144) : val_main_v17 (F := Ideal) x g w (ix2 r q) = proj x g w r q := by
  unfold proj normed
  pointwise [val_main_v17, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

variable (m : (ℓ : Loc nD τ sig) → Buf (Elt Ideal) ℓ)

theorem idx : ∀ t : Fin cfg0.N, win0_0.index t = ![t.val / 4, 0] ∧ win0_1.index t = ![0, 0]
    ∧ win0_2.index t = ![0, 0, t.val % 4] ∧ win0_3.index t = ![0, 0, 4 + t.val % 4] ∧ win0_4.index t = ![0, 0, 8 + t.val % 4]
    ∧ win0_5.index t = ![t.val / 4, t.val % 4] ∧ win0_6.index t = ![t.val / 4, t.val % 4] :=
  (by decide +kernel : ∀ t : Fin grid0.N, _)

theorem row_lt (t : Fin cfg0.N) (r : Fin 1024) : t.val / 4 * 1024 + r.val < 8192 := by
  have h1 : t.val < 32 := t.isLt
  omega

/-- Row `r` of the row block of grid point `t`. -/
def row (t : Fin cfg0.N) (r : Fin 1024) : Fin 8192 := ⟨t.val / 4 * 1024 + r.val, row_lt t r⟩

theorem x_at (c : Dev nD) (t : Fin cfg0.N) (r : Fin 1024) (j : Fin 2048) :
    iblk m c 0 t (ix2 r j) = m ((c : Thread nD τ).loc main_arg0) (ix2 (row t r) j) := by
  unfold row
  blk_point [iblk, idx t]

theorem g_at (c : Dev nD) (t : Fin cfg0.N) (k : Fin 2048) :
    iblk m c 1 t (ix2 0 k) = m ((c : Thread nD τ).loc main_arg1) (ix2 1 k) := by
  blk_point [iblk, idx t]

theorem w2_at (c : Dev nD) (t : Fin cfg0.N) (k : Fin 2048) (q : Fin 512) (p : Fin 6144) (h : p.val = t.val % 4 * 512 + q.val) :
    iblk m c 2 t (ix3 0 k q) = m ((c : Thread nD τ).loc main_arg2) (ix3 0 k p) := by
  blk_point [iblk, idx t]

theorem w3_at (c : Dev nD) (t : Fin cfg0.N) (k : Fin 2048) (q : Fin 512) (p : Fin 6144) (h : p.val = 2048 + (t.val % 4 * 512 + q.val)) :
    iblk m c 3 t (ix3 0 k q) = m ((c : Thread nD τ).loc main_arg2) (ix3 0 k p) := by
  blk_point [iblk, idx t]

theorem w4_at (c : Dev nD) (t : Fin cfg0.N) (k : Fin 2048) (q : Fin 512) (p : Fin 6144) (h : p.val = 4096 + (t.val % 4 * 512 + q.val)) :
    iblk m c 4 t (ix3 0 k q) = m ((c : Thread nD τ).loc main_arg2) (ix3 0 k p) := by
  blk_point [iblk, idx t]

open Cert.InOddRefIdeal.Read in
theorem ref_first (x : FVec Ideal ⟨2, ![8192, 2048]⟩ .f32) (g : FVec Ideal ⟨2, ![4, 2048]⟩ .f32) (w : FVec Ideal ⟨3, ![2, 2048, 6144]⟩ .f32)
    (r : Fin 8192) (q : Fin 2048) : val_main_v27 (F := Ideal) x g w (ix2 r q)
      = proj x g w r ⟨q.val, by omega⟩ * logistic (proj x g w r ⟨2048 + q.val, by omega⟩) := by
  simp only [← ref_proj_at]
  unfold logistic
  generalize hv : val_main_v17 (F := Ideal) x g w = v
  pointwise [val_main_v27, val_main_v26, val_main_v25, val_main_v24, val_main_v23, val_main_v22, val_main_v21, val_main_v19, val_main_v18, val_main_cst_2, val_main_cst_3, hv]

open Cert.InOddRefIdeal.Read in
theorem ref_second (x : FVec Ideal ⟨2, ![8192, 2048]⟩ .f32) (g : FVec Ideal ⟨2, ![4, 2048]⟩ .f32) (w : FVec Ideal ⟨3, ![2, 2048, 6144]⟩ .f32)
    (r : Fin 8192) (q : Fin 2048) : val_main_v28 (F := Ideal) x g w (ix2 r q)
      = proj x g w r ⟨4096 + q.val, by omega⟩ * logistic (proj x g w r ⟨4096 + q.val, by omega⟩) := by
  simp only [← ref_proj_at]
  unfold logistic
  generalize hv : val_main_v17 (F := Ideal) x g w = v
  pointwise [val_main_v28, val_main_v20, val_main_call0_v5, val_main_call0_v4, val_main_call0_v3, val_main_call0_v2, val_main_call0_v1, val_main_call0_v0, val_main_call0_cst, val_main_call0_cst_0, hv]

/-- The rows normed in one chunk of 256, read at an index of the block the chunk lies in. -/
theorem chunk_at (B : FVec Ideal S1024x2048 .f32) (C : FVec Ideal S256x2048 .f32) (g : FVec Ideal S1x2048 .f32) (o : ℕ)
    (hC : ∀ (a : Fin 256) (b : Fin 1024) (j : Fin 2048), b.val = o + a.val → C (ix2 a j) = B (ix2 b j))
    (r : Fin 1024) (k : Fin 2048) (z : S256x2048.Idx) (hr : r.val = o + (z 0).val) (hk : k.val = (z 1).val) :
    k0_pay1 (F := Ideal) C g z = normed (fun j => B (ix2 r j)) (g (ix2 0 k)) k := by
  obtain rfl : k = z 1 := Fin.ext hk
  rw [eq_ix2 z]
  exact (norm_at _ _ _ _).trans (congrArg (fun f => normed f _ _) (funext fun j => hC _ _ j hr))

theorem scratch_first (c : Dev nD) (t : Fin cfg0.N) (ht : t.val % 4 = 0) (r : Fin 1024) (k : Fin 2048) :
    (outsAt0 m c t.val t.isLt).2.2 (ix2 r k) = normed (fun j => iblk m c 0 t (ix2 r j)) (iblk m c 1 t (ix2 0 k)) k := by
  rw [outsAt0_A m c t ht]; dsimp only; unfold sout0_A_0; frame_out
  canon_tiles z h
  · refine chunk_at _ _ _ 768 (fun a b j e => ?_) r k z h0 h1
    exact View.ld_unit_apply_of _ _ _ _ _ _ (Fin.forall_fin_two.mpr ⟨e, (Nat.zero_add _).symm⟩)
  · refine chunk_at _ _ _ 512 (fun a b j e => ?_) r k z h0 h1
    exact View.ld_unit_apply_of _ _ _ _ _ _ (Fin.forall_fin_two.mpr ⟨e, (Nat.zero_add _).symm⟩)
  · refine chunk_at _ _ _ 256 (fun a b j e => ?_) r k z h0 h1
    exact View.ld_unit_apply_of _ _ _ _ _ _ (Fin.forall_fin_two.mpr ⟨e, (Nat.zero_add _).symm⟩)
  · refine chunk_at _ _ _ 0 (fun a b j e => ?_) r k z (h0.trans (Nat.zero_add _).symm) h1
    exact View.ld_unit_apply_of _ _ _ _ _ _ (Fin.forall_fin_two.mpr ⟨e, (Nat.zero_add _).symm⟩)

theorem scratch_next (c : Dev nD) (t : Fin cfg0.N) (h0 : ¬ t.val % 4 = 0) :
    (outsAt0 m c t.val t.isLt).2.2 = (outsAt0 m c (t.val - 1) (Nat.lt_of_le_of_lt (Nat.sub_le _ _) t.isLt)).2.2 := by
  rw [outsAt0_B m c t h0]; rfl

/-- After every grid point the scratch holds the normed rows of the point's row block. -/
theorem scratch_at (c : Dev nD) (n : ℕ) (hn : n < cfg0.N) (r : Fin 1024) (k : Fin 2048) :
    (outsAt0 m c n hn).2.2 (ix2 r k)
      = normed (fun j => m ((c : Thread nD τ).loc main_arg0) (ix2 (row ⟨n, hn⟩ r) j)) (m ((c : Thread nD τ).loc main_arg1) (ix2 1 k)) k := by
  induction n with
  | zero =>
    refine (scratch_first m c ⟨0, hn⟩ rfl r k).trans ?_
    rw [g_at]
    exact congrArg (fun f => normed f _ k) (funext fun j => x_at m c ⟨0, hn⟩ r j)
  | succ n ih =>
    by_cases ht : (n + 1) % 4 = 0
    · refine (scratch_first m c ⟨n + 1, hn⟩ ht r k).trans ?_
      rw [g_at]
      exact congrArg (fun f => normed f _ k) (funext fun j => x_at m c ⟨n + 1, hn⟩ r j)
    · refine (congrFun (scratch_next m c ⟨n + 1, hn⟩ ht) (ix2 r k)).trans ((ih _).trans ?_)
      have hrow : row ⟨n, Nat.lt_of_succ_lt hn⟩ r = row ⟨n + 1, hn⟩ r := by
        apply Fin.ext
        show n / 4 * 1024 + r.val = (n + 1) / 4 * 1024 + r.val
        omega
      rw [hrow]

theorem proj_at (c : Dev nD) (t : Fin cfg0.N) (w : FVec Ideal S1x2048x512 .bf16) (r : Fin 1024) (q : Fin 512) (p : Fin 6144)
    (hw : ∀ k : Fin 2048, w (ix3 0 k q) = m ((c : Thread nD τ).loc main_arg2) (ix3 0 k p)) :
    projBlock (outsAt0 m c t.val t.isLt).2.2 w r q
      = proj (m ((c : Thread nD τ).loc main_arg0)) (m ((c : Thread nD τ).loc main_arg1)) (m ((c : Thread nD τ).loc main_arg2)) (row t r) p :=
  Finset.sum_congr rfl fun k _ => by rw [scratch_at, hw]

/-- The whole scratch read back over the chunks written is their fill. -/
theorem read_back (v : View sig .tc .vmem S1024x2048 .bf16) (L : List (View.Piece (Elt Ideal) S1024x2048 .bf16)) (inb) :
    v.readCov L (Rect.unit (s := S1024x2048) ![0, 0] ![1024, 2048] inb).toLoadRect = View.canon L :=
  (View.readCov_eq_canon' _ _ _).trans (funext fun j => congrArg _ (funext fun a => Fin.ext ((Rect.idx_unit_val _ _ _ _ _).trans
    ((Fin.forall_fin_two (p := fun a => (![0, 0] : Fin 2 → ℕ) a + (j a).val = (j a).val)).mpr ⟨Nat.zero_add _, Nat.zero_add _⟩ a))))

/-- What the body leaves in its first output at a point. -/
theorem out_first (c : Dev nD) (t : Fin cfg0.N) (y : S1024x512.Idx) : (outsAt0 m c t.val t.isLt).1 y
    = k0_pay5 (F := Ideal) (outsAt0 m c t.val t.isLt).2.2 (iblk m c 2 t) (iblk m c 3 t) y := by
  by_cases ht : t.val % 4 = 0
  · have hs : (outsAt0 m c t.val t.isLt).2.2 = (outsAt0 m c t.val t.isLt).2.2 := rfl
    conv_rhs at hs => rw [outsAt0_A m c t ht]; dsimp only; unfold sout0_A_0
    rw [hs, outsAt0_A m c t ht]; frame_out
    exact congrFun (congrArg (fun h => k0_pay5 (F := Ideal) h _ _) (read_back _ _ _)) y
  · rw [scratch_next m c t ht, outsAt0_B m c t ht]; frame_out
    exact congrFun (congrArg (fun h => k0_pay5 (F := Ideal) h _ _) (Memref.IsWhole.read_unread _ _)) y

/-- What the body leaves in its second output at a point. -/
theorem out_second (c : Dev nD) (t : Fin cfg0.N) (y : S1024x512.Idx) : (outsAt0 m c t.val t.isLt).2.1 y
    = k0_pay6 (F := Ideal) (outsAt0 m c t.val t.isLt).2.2 (iblk m c 4 t) y := by
  by_cases ht : t.val % 4 = 0
  · have hs : (outsAt0 m c t.val t.isLt).2.2 = (outsAt0 m c t.val t.isLt).2.2 := rfl
    conv_rhs at hs => rw [outsAt0_A m c t ht]; dsimp only; unfold sout0_A_0
    rw [hs, outsAt0_A m c t ht]; frame_out
    exact congrFun (congrArg (fun h => k0_pay6 (F := Ideal) h _) (read_back _ _ _)) y
  · rw [scratch_next m c t ht, outsAt0_B m c t ht]; frame_out
    exact congrFun (congrArg (fun h => k0_pay6 (F := Ideal) h _) (Memref.IsWhole.read_unread _ _)) y

/-- The first output's block at a point is the reference at the block's place. -/
theorem point_first (c : Dev nD) (t : Fin cfg0.N) (y : S1024x512.Idx) :
    k0_pay5 (F := Ideal) (outsAt0 m c t.val t.isLt).2.2 (iblk m c 2 t) (iblk m c 3 t) y
      = Cert.InOddRefIdeal.Read.val_main_v27 (F := Ideal) (m ((c : Thread nD τ).loc main_arg0)) (m ((c : Thread nD τ).loc main_arg1))
          (m ((c : Thread nD τ).loc main_arg2)) (((cfg0.win 5).blk t).view.emb y) := by
  have key : ∀ (a : Fin 8192) (b : Fin 2048), row t (y 0) = a → t.val % 4 * 512 + (y 1).val = b.val →
      k0_pay5 (F := Ideal) (outsAt0 m c t.val t.isLt).2.2 (iblk m c 2 t) (iblk m c 3 t) y
        = Cert.InOddRefIdeal.Read.val_main_v27 (F := Ideal) (m ((c : Thread nD τ).loc main_arg0)) (m ((c : Thread nD τ).loc main_arg1))
            (m ((c : Thread nD τ).loc main_arg2)) (ix2 a b) := by
    intro a b hr hq
    rw [ref_first, ← hr]
    refine (congrArg _ (eq_ix2 y)).trans ((first_at _ _ _ _ _).trans ?_)
    have hv := proj_at m c t (iblk m c 2 t) (y 0) (y 1) ⟨b.val, by omega⟩ fun k => w2_at m c t k _ _ hq.symm
    have hw := proj_at m c t (iblk m c 3 t) (y 0) (y 1) ⟨2048 + b.val, by omega⟩ fun k => w3_at m c t k _ _ (congrArg _ hq.symm)
    exact congr (congrArg _ hv) (congrArg logistic hw)
  refine (key (((cfg0.win 5).blk t).view.emb y 0) (((cfg0.win 5).blk t).view.emb y 1) (Fin.ext ?_) ?_).trans (congrArg _ (eq_ix2 _).symm)
  · unfold row
    blk_simp [idx t] <;> rfl
  · blk_simp [idx t]

/-- The second output's block at a point is the reference at the block's place. -/
theorem point_second (c : Dev nD) (t : Fin cfg0.N) (y : S1024x512.Idx) :
    k0_pay6 (F := Ideal) (outsAt0 m c t.val t.isLt).2.2 (iblk m c 4 t) y
      = Cert.InOddRefIdeal.Read.val_main_v28 (F := Ideal) (m ((c : Thread nD τ).loc main_arg0)) (m ((c : Thread nD τ).loc main_arg1))
          (m ((c : Thread nD τ).loc main_arg2)) (((cfg0.win 6).blk t).view.emb y) := by
  have key : ∀ (a : Fin 8192) (b : Fin 2048), row t (y 0) = a → t.val % 4 * 512 + (y 1).val = b.val →
      k0_pay6 (F := Ideal) (outsAt0 m c t.val t.isLt).2.2 (iblk m c 4 t) y
        = Cert.InOddRefIdeal.Read.val_main_v28 (F := Ideal) (m ((c : Thread nD τ).loc main_arg0)) (m ((c : Thread nD τ).loc main_arg1))
            (m ((c : Thread nD τ).loc main_arg2)) (ix2 a b) := by
    intro a b hr hq
    rw [ref_second, ← hr]
    refine (congrArg _ (eq_ix2 y)).trans ((second_at _ _ _ _).trans ?_)
    have hw := proj_at m c t (iblk m c 4 t) (y 0) (y 1) ⟨4096 + b.val, by omega⟩ fun k => w4_at m c t k _ _ (congrArg _ hq.symm)
    exact congr (congrArg _ hw) (congrArg logistic hw)
  refine (key (((cfg0.win 6).blk t).view.emb y 0) (((cfg0.win 6).blk t).view.emb y 1) (Fin.ext ?_) ?_).trans (congrArg _ (eq_ix2 _).symm)
  · unfold row
    blk_simp [idx t] <;> rfl
  · blk_simp [idx t]

/-- The first result array after the run. -/
theorem final_first (c : Dev nD) : (dats m 0 c).arrAt 5 cfg0.N
    = Cert.InOddRefIdeal.Read.val_main_v27 (F := Ideal) (m ((c : Thread nD τ).loc main_arg0)) (m ((c : Thread nD τ).loc main_arg1))
          (m ((c : Thread nD τ).loc main_arg2)) := by
  refine (dats m 0 c).arrAt_eq_of_covers 5 _ (by decide +kernel) fun t _ y => ?_
  blk_simp
  rw [after0_5]
  exact (out_first m c t y).trans (point_first m c t y)

/-- The second result array after the run. -/
theorem final_second (c : Dev nD) : (dats m 0 c).arrAt 6 cfg0.N
    = Cert.InOddRefIdeal.Read.val_main_v28 (F := Ideal) (m ((c : Thread nD τ).loc main_arg0)) (m ((c : Thread nD τ).loc main_arg1))
          (m ((c : Thread nD τ).loc main_arg2)) := by
  refine (dats m 0 c).arrAt_eq_of_covers 6 _ (by decide +kernel) fun t _ y => ?_
  blk_simp
  rw [after0_6]
  exact (out_second m c t y).trans (point_second m c t y)

end Cert.InOddIdeal.Layer

end
-- ==== Proof.Layer.InEven.lean ====
module

public import proofs.«01_k».proof.Proof.Layer.EvenRun
public import proofs.«01_k».proof.Proof.Layer.InOdd
public import proofs.«01_k».proof.Proof.Gen.InEvenRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InEvenIdeal.Layer

open Cert.InEvenIdeal Cert.InEvenIdeal.Gen
open Cert.InOddIdeal.Layer (normed)

section Final

variable {F : FTy → Type} [FloatOps F] (m : (ℓ : Loc nD τ sig) → Buf (Elt F) ℓ) (ρ : Dev nD → PrngReg)

/-- The run, with the two result arrays named and the arguments as they were. -/
theorem run_blocks : θ_run defs (onTc (τ := τ) (main (F := F))) ⟨m, fun _ => 0, ρ⟩ fun r => ∀ c : Dev nD,
      r.2.mem ((c : Thread nD τ).loc main_v9_0) = (dats m 0 c).arrAt 4 cfg0.N
      ∧ r.2.mem ((c : Thread nD τ).loc main_v9_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4, (h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run m ρ)

end Final

/-- A row of the projection: the normed row times one column of the weights. -/
def proj (x : FVec Ideal ⟨2, ![8192, 2048]⟩ .f32) (g : FVec Ideal ⟨2, ![4, 2048]⟩ .f32) (w : FVec Ideal ⟨3, ![2, 2048, 6672]⟩ .f32)
    (r : Fin 8192) (q : Fin 6672) : EReal :=
  ∑ k : Fin 2048, normed (fun j => x (ix2 r j)) (g (ix2 0 k)) k * w (ix3 0 k q)

theorem norm_at (x : FVec Ideal S256x2048 .f32) (g : FVec Ideal S1x2048 .f32) (r : Fin 256) (k : Fin 2048) :
    normRows (F := Ideal) x g (ix2 r k) = normed (fun j => x (ix2 r j)) (g (ix2 0 k)) k := by
  unfold normed
  pointwise [normRows]

theorem wideProd_at (h : FVec Ideal S1024x2048 .bf16) (w : FVec Ideal S1x512x2048 .bf16) (r : Fin 1024) (q : Fin 512) :
    wideProd (F := Ideal) h w (ix2 r q) = ∑ k : Fin 2048, h (ix2 r k) * w (ix3 0 q k) := by
  pointwise [wideProd]

theorem narrowProd_at (h : FVec Ideal S1024x2048 .bf16) (w : FVec Ideal S1x1152x2048 .bf16) (r : Fin 1024) (q : Fin 1152) :
    narrowProd (F := Ideal) h w (ix2 r q) = ∑ k : Fin 2048, h (ix2 r k) * w (ix3 0 q k) := by
  pointwise [narrowProd]

theorem wideOut_at (h : FVec Ideal S1024x2048 .bf16) (w : FVec Ideal S1x512x2048 .bf16) (r : Fin 1024) (q : Fin 512) :
    wideOut (F := Ideal) h w (ix2 r q) = ∑ k : Fin 2048, h (ix2 r k) * w (ix3 0 q k) := by
  unfold wideOut
  frame_out
  exact wideProd_at h w r q

theorem narrowOut_at (h : FVec Ideal S1024x2048 .bf16) (w : FVec Ideal S1x1152x2048 .bf16) (r : Fin 1024) (q : Fin 1152) :
    narrowOut (F := Ideal) h w (ix2 r q) = ∑ k : Fin 2048, h (ix2 r k) * w (ix3 0 q k) := by
  unfold narrowOut
  frame_out
  exact narrowProd_at h w r q

/-- The rows normed in one chunk of 256, read at an index of the block the chunk lies in. -/
theorem chunk_at (B : FVec Ideal S1024x2048 .f32) (C : FVec Ideal S256x2048 .f32) (g : FVec Ideal S1x2048 .f32) (o : ℕ)
    (hC : ∀ (a : Fin 256) (b : Fin 1024) (j : Fin 2048), b.val = o + a.val → C (ix2 a j) = B (ix2 b j))
    (r : Fin 1024) (k : Fin 2048) (z : S256x2048.Idx) (hr : r.val = o + (z 0).val) (hk : k.val = (z 1).val) :
    normRows (F := Ideal) C g z = normed (fun j => B (ix2 r j)) (g (ix2 0 k)) k := by
  obtain rfl : k = z 1 := Fin.ext hk
  rw [eq_ix2 z]
  exact (norm_at _ _ _ _).trans (congrArg (fun f => normed f _ _) (funext fun j => hC _ _ j hr))

theorem rows_at (x : FVec Ideal S1024x2048 .f32) (g : FVec Ideal S1x2048 .f32) (r : Fin 1024) (k : Fin 2048) :
    rows (F := Ideal) x g (ix2 r k) = normed (fun j => x (ix2 r j)) (g (ix2 0 k)) k := by
  unfold rows rowPieces
  frame_out
  canon_tiles z h
  · refine chunk_at _ _ _ 768 (fun a b j e => ?_) r k z h0 h1
    exact View.ld_unit_apply_of _ _ _ _ _ _ (Fin.forall_fin_two.mpr ⟨e, (Nat.zero_add _).symm⟩)
  · refine chunk_at _ _ _ 512 (fun a b j e => ?_) r k z h0 h1
    exact View.ld_unit_apply_of _ _ _ _ _ _ (Fin.forall_fin_two.mpr ⟨e, (Nat.zero_add _).symm⟩)
  · refine chunk_at _ _ _ 256 (fun a b j e => ?_) r k z h0 h1
    exact View.ld_unit_apply_of _ _ _ _ _ _ (Fin.forall_fin_two.mpr ⟨e, (Nat.zero_add _).symm⟩)
  · refine chunk_at _ _ _ 0 (fun a b j e => ?_) r k z (h0.trans (Nat.zero_add _).symm) h1
    exact View.ld_unit_apply_of _ _ _ _ _ _ (Fin.forall_fin_two.mpr ⟨e, (Nat.zero_add _).symm⟩)

open Cert.InEvenRefIdeal.Read in
theorem ref_proj_at (x : FVec Ideal ⟨2, ![8192, 2048]⟩ .f32) (g : FVec Ideal ⟨2, ![4, 2048]⟩ .f32) (w : FVec Ideal ⟨3, ![2, 2048, 6672]⟩ .f32)
    (r : Fin 8192) (q : Fin 6672) : val_main_v17 (F := Ideal) x g w (ix2 r q) = proj x g w r q := by
  unfold proj normed
  pointwise [val_main_v17, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

open Cert.InEvenRefIdeal.Read in
theorem ref_first (x : FVec Ideal ⟨2, ![8192, 2048]⟩ .f32) (g : FVec Ideal ⟨2, ![4, 2048]⟩ .f32) (w : FVec Ideal ⟨3, ![2, 2048, 6672]⟩ .f32)
    (r : Fin 8192) (q : Fin 5632) : val_main_v22 (F := Ideal) x g w (ix2 r q) = proj x g w r ⟨q.val, by omega⟩ := by
  simp only [← ref_proj_at]
  generalize hv : val_main_v17 (F := Ideal) x g w = v
  pointwise [val_main_v22, hv]

open Cert.InEvenRefIdeal.Read in
theorem ref_second (x : FVec Ideal ⟨2, ![8192, 2048]⟩ .f32) (g : FVec Ideal ⟨2, ![4, 2048]⟩ .f32) (w : FVec Ideal ⟨3, ![2, 2048, 6672]⟩ .f32)
    (r : Fin 8192) (q : Fin 1152) : val_main_v21 (F := Ideal) x g w (ix2 r q)
      = if h : q.val < 1024 then proj x g w r ⟨5648 + q.val, by omega⟩
        else if h' : q.val - 1024 < 16 then proj x g w r ⟨5632 + (q.val - 1024), by omega⟩ else 0 := by
  simp only [← ref_proj_at]
  generalize hv : val_main_v17 (F := Ideal) x g w = v
  pointwise [val_main_v21, val_main_v20, val_main_v19, val_main_v18, val_main_cst_2, hv]

variable (m : (ℓ : Loc nD τ sig) → Buf (Elt Ideal) ℓ)

theorem idx : ∀ t : Fin cfg0.N, win0_0.index t = ![t.val / 12, 0] ∧ win0_1.index t = ![0, 0]
    ∧ win0_2.index t = ![0, min (t.val % 12) 10, 0] ∧ win0_3.index t = ![0, 0, 0]
    ∧ win0_4.index t = ![t.val / 12, min (t.val % 12) 10] ∧ win0_5.index t = ![t.val / 12, 0] :=
  (by decide +kernel : ∀ t : Fin grid0.N, _)

theorem row_lt (t : Fin cfg0.N) (r : Fin 1024) : t.val / 12 * 1024 + r.val < 8192 := by
  have h1 : t.val < 96 := t.isLt
  omega

/-- Row `r` of the row block of grid point `t`. -/
def row (t : Fin cfg0.N) (r : Fin 1024) : Fin 8192 := ⟨t.val / 12 * 1024 + r.val, row_lt t r⟩

theorem x_at (c : Dev nD) (t : Fin cfg0.N) (r : Fin 1024) (j : Fin 2048) :
    iblk m c 0 t (ix2 r j) = m ((c : Thread nD τ).loc main_arg0) (ix2 (row t r) j) := by
  unfold row
  blk_point [iblk, idx t]

theorem g_at (c : Dev nD) (t : Fin cfg0.N) (k : Fin 2048) :
    iblk m c 1 t (ix2 0 k) = m ((c : Thread nD τ).loc main_arg1) (ix2 0 k) := by
  blk_point [iblk, idx t]

theorem wide_at (c : Dev nD) (t : Fin cfg0.N) (q : Fin 512) (k : Fin 2048) (p : Fin 6672) (h : p.val = min (t.val % 12) 10 * 512 + q.val) :
    X0_2 m c t (ix3 0 q k) = m ((c : Thread nD τ).loc main_arg2) (ix3 0 k p) := by
  unfold X0_2 Pipeline.Window.fill
  rw [dif_pos (moved0_2 t _)]
  blk_point [iblk, idx t]

/-- The narrow result's weights as an array, one column to a row: the columns past the wide result's and sixteen
more, those sixteen, then zeros. -/
def narrowW (w : FVec Ideal ⟨3, ![2, 2048, 6672]⟩ .f32) : FVec Ideal S2x1152x2048 .bf16 :=
  let h : FVec Ideal S2x6672x2048 .bf16 := truncf .bf16 (transpose S2x6672x2048 [0, 2, 1] w transposes_S2x2048x6672_S2x6672x2048_0_2_1) bitsLt_bf16_f32
  concatenate S2x1152x2048 1 [⟨S2x1024x2048, extractStridedSlice S2x1024x2048 ![0, 5648, 0] h slices_S2x6672x2048_S2x1024x2048_0_5648_0⟩,
    ⟨S2x16x2048, extractStridedSlice S2x16x2048 ![0, 5632, 0] h slices_S2x6672x2048_S2x16x2048_0_5632_0⟩,
    ⟨S2x112x2048, broadcastInDim S2x112x2048 ![] bcast_S_S2x112x2048 (constant (F := Ideal) S_ .bf16 0x0000#16)⟩]
    concatenates_S2x1024x2048_S2x16x2048_S2x112x2048_S2x1152x2048_d1

theorem narrowW_at (w : FVec Ideal ⟨3, ![2, 2048, 6672]⟩ .f32) (q : Fin 1152) (k : Fin 2048) :
    narrowW w (ix3 0 q k) = if h : q.val < 1024 then w (ix3 0 k ⟨5648 + q.val, by omega⟩)
      else if h' : q.val - 1024 < 16 then w (ix3 0 k ⟨5632 + (q.val - 1024), by omega⟩) else 0 := by
  pointwise [narrowW]

theorem V_narrow (c : Dev nD) : V m c main_v5 = narrowW (m ((c : Thread nD τ).loc main_arg2)) := by
  sl_kernel_rfl

/-- The narrow result's weights, as a point reads them. -/
theorem narrow_at (c : Dev nD) (t : Fin cfg0.N) (q : Fin 1152) (k : Fin 2048) :
    iblk m c 3 t (ix3 0 q k) = (if h : q.val < 1024 then m ((c : Thread nD τ).loc main_arg2) (ix3 0 k ⟨5648 + q.val, by omega⟩)
      else if h' : q.val - 1024 < 16 then m ((c : Thread nD τ).loc main_arg2) (ix3 0 k ⟨5632 + (q.val - 1024), by omega⟩) else 0 : EReal) := by
  refine Eq.trans (b := narrowW (m ((c : Thread nD τ).loc main_arg2)) (ix3 0 q k)) ?_ (narrowW_at _ q k)
  rw [← V_narrow]
  unfold iblk
  generalize V m c = v
  blk_point [idx t]

theorem start_row (t : Fin cfg0.N) (r : Fin 1024) : row (start t) r = row t r := by
  apply Fin.ext
  show t.val / 12 * 12 / 12 * 1024 + r.val = t.val / 12 * 1024 + r.val
  omega

/-- The rows held at a point are the normed rows of its row block. -/
theorem held_at (c : Dev nD) (t : Fin cfg0.N) (r : Fin 1024) (k : Fin 2048) : held m c t (ix2 r k)
    = normed (fun j => m ((c : Thread nD τ).loc main_arg0) (ix2 (row t r) j)) (m ((c : Thread nD τ).loc main_arg1) (ix2 0 k)) k := by
  refine (rows_at _ _ r k).trans ?_
  rw [g_at, ← start_row]
  exact congrArg (fun f => normed f _ k) (funext fun j => x_at m c (start t) r j)

theorem wideAt_at (c : Dev nD) (t : Fin cfg0.N) (r : Fin 1024) (q : Fin 512) (p : Fin 6672) (h : p.val = min (t.val % 12) 10 * 512 + q.val) :
    wideAt m c t (ix2 r q) = proj (m ((c : Thread nD τ).loc main_arg0)) (m ((c : Thread nD τ).loc main_arg1)) (m ((c : Thread nD τ).loc main_arg2)) (row t r) p :=
  (wideOut_at _ _ r q).trans (Finset.sum_congr rfl fun k _ => congr (congrArg _ (held_at m c t r k)) (wide_at m c t q k p h))

theorem colPoint_row (t : Fin cfg0.N) (r : Fin 1024) : row (colPoint t) r = row t r := by
  apply Fin.ext
  unfold colPoint
  split
  · show (t.val - 1) / 12 * 1024 + r.val = t.val / 12 * 1024 + r.val
    omega
  · rfl

theorem colPoint_col (t : Fin cfg0.N) : min ((colPoint t).val % 12) 10 = min (t.val % 12) 10 := by
  unfold colPoint
  split
  · show min ((t.val - 1) % 12) 10 = min (t.val % 12) 10
    omega
  · rfl

theorem narrowAt_at (c : Dev nD) (t : Fin cfg0.N) (r : Fin 1024) (q : Fin 1152) : narrowAt m c t (ix2 r q)
    = Cert.InEvenRefIdeal.Read.val_main_v21 (F := Ideal) (m ((c : Thread nD τ).loc main_arg0)) (m ((c : Thread nD τ).loc main_arg1)) (m ((c : Thread nD τ).loc main_arg2)) (ix2 (row t r) q) := by
  rw [ref_second]
  refine (narrowOut_at _ _ r q).trans ?_
  by_cases h : q.val < 1024
  · rw [dif_pos h]
    refine Finset.sum_congr rfl fun k _ => congr (congrArg _ (held_at m c t r k)) ?_
    rw [narrow_at, dif_pos h]
  · rw [dif_neg h]
    by_cases h' : q.val - 1024 < 16
    · rw [dif_pos h']
      refine Finset.sum_congr rfl fun k _ => congr (congrArg _ (held_at m c t r k)) ?_
      rw [narrow_at, dif_neg h, dif_pos h']
    · rw [dif_neg h']
      refine Finset.sum_eq_zero fun k _ => ?_
      rw [narrow_at, dif_neg h, dif_neg h']
      exact mul_zero (M₀ := EReal) _

theorem point_first (c : Dev nD) (t : Fin cfg0.N) (y : S1024x512.Idx) : wideAt m c (colPoint t) y
    = Cert.InEvenRefIdeal.Read.val_main_v22 (F := Ideal) (m ((c : Thread nD τ).loc main_arg0)) (m ((c : Thread nD τ).loc main_arg1)) (m ((c : Thread nD τ).loc main_arg2)) (((cfg0.win 4).blk t).view.emb y) := by
  have key : ∀ (a : Fin 8192) (b : Fin 5632), row t (y 0) = a → min (t.val % 12) 10 * 512 + (y 1).val = b.val →
      wideAt m c (colPoint t) y = Cert.InEvenRefIdeal.Read.val_main_v22 (F := Ideal) (m ((c : Thread nD τ).loc main_arg0)) (m ((c : Thread nD τ).loc main_arg1)) (m ((c : Thread nD τ).loc main_arg2)) (ix2 a b) := by
    intro a b hr hq
    rw [ref_first, ← hr]
    refine (congrArg _ (eq_ix2 y)).trans ((wideAt_at m c (colPoint t) (y 0) (y 1) ⟨b.val, by omega⟩ ?_).trans
      (congrArg (fun r => proj _ _ _ r _) (colPoint_row t (y 0))))
    rw [colPoint_col]
    exact hq.symm
  refine (key (((cfg0.win 4).blk t).view.emb y 0) (((cfg0.win 4).blk t).view.emb y 1) (Fin.ext ?_) ?_).trans (congrArg _ (eq_ix2 _).symm)
  · unfold row
    blk_simp [idx t] <;> rfl
  · blk_simp [idx t]

theorem point_second (c : Dev nD) (t : Fin cfg0.N) (y : S1024x1152.Idx) : narrowAt m c t y
    = Cert.InEvenRefIdeal.Read.val_main_v21 (F := Ideal) (m ((c : Thread nD τ).loc main_arg0)) (m ((c : Thread nD τ).loc main_arg1)) (m ((c : Thread nD τ).loc main_arg2)) (((cfg0.win 5).blk t).view.emb y) := by
  have key : ∀ (a : Fin 8192) (b : Fin 1152), row t (y 0) = a → y 1 = b →
      narrowAt m c t y = Cert.InEvenRefIdeal.Read.val_main_v21 (F := Ideal) (m ((c : Thread nD τ).loc main_arg0)) (m ((c : Thread nD τ).loc main_arg1)) (m ((c : Thread nD τ).loc main_arg2)) (ix2 a b) := by
    intro a b hr hq
    rw [← hr, ← hq]
    exact (congrArg _ (eq_ix2 y)).trans (narrowAt_at m c t (y 0) (y 1))
  refine (key (((cfg0.win 5).blk t).view.emb y 0) (((cfg0.win 5).blk t).view.emb y 1) (Fin.ext ?_) (Fin.ext ?_)).trans (congrArg _ (eq_ix2 _).symm)
  · unfold row
    blk_simp [idx t] <;> rfl
  · blk_simp [idx t]

/-- The wide result array after the run. -/
theorem final_first (c : Dev nD) : (dats m 0 c).arrAt 4 cfg0.N
    = Cert.InEvenRefIdeal.Read.val_main_v22 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after_4]
  exact point_first m c t y

/-- The narrow result array after the run. -/
theorem final_second (c : Dev nD) : (dats m 0 c).arrAt 5 cfg0.N
    = Cert.InEvenRefIdeal.Read.val_main_v21 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after_5]
  exact point_second m c t y

end Cert.InEvenIdeal.Layer

end
-- ==== Proof.Layer.OutEven.lean ====
module

public import proofs.«01_k».proof.Proof.Gen.OutEvenIdeal.Value
public import proofs.«01_k».proof.Proof.Gen.OutEvenRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutEvenIdeal.Layer

open Cert.OutEvenIdeal Cert.OutEvenIdeal.Gen

/-- The element of the residual plus projection at row `r` and column `q`, over whole arrays. -/
def spec (oa ob : FVec Ideal ⟨2, ![8192, 1024]⟩ .bf16) (w : FVec Ideal ⟨3, ![2, 2048, 2048]⟩ .f32)
    (x : FVec Ideal ⟨2, ![8192, 2048]⟩ .f32) (r : Fin 8192) (q : Fin 2048) : EReal :=
  (x (ix2 r q) + ∑ k : Fin 1024, oa (ix2 r k) * w (ix3 0 ⟨k.val, by omega⟩ q))
    + ∑ k : Fin 1024, ob (ix2 r k) * w (ix3 0 ⟨1024 + k.val, by omega⟩ q)

/-- The block stored at one grid point, read at an index. -/
theorem pay_at (x : FVec Ideal S512x2048 .f32) (a b : FVec Ideal S512x1024 .bf16)
    (wa wb : FVec Ideal S1x1024x2048 .bf16) (r : Fin 512) (q : Fin 2048) :
    k0_pay1 (F := Ideal) x a wa b wb (ix2 r q)
      = (x (ix2 r q) + ∑ k : Fin 1024, a (ix2 r k) * wa (ix3 0 k q)) + ∑ k : Fin 1024, b (ix2 r k) * wb (ix3 0 k q) := by
  pointwise [k0_pay1]

/-- The reference's result at an index. -/
theorem ref_at (oa ob : FVec Ideal ⟨2, ![8192, 1024]⟩ .bf16) (w : FVec Ideal ⟨3, ![2, 2048, 2048]⟩ .f32)
    (x : FVec Ideal ⟨2, ![8192, 2048]⟩ .f32) (r : Fin 8192) (q : Fin 2048) :
    Cert.OutEvenRefIdeal.Read.val_main_v6 (F := Ideal) oa ob w x (ix2 r q) = spec oa ob w x r q := by
  unfold spec
  pointwise [Cert.OutEvenRefIdeal.Read.val_main_v6, Cert.OutEvenRefIdeal.Read.val_main_v5, Cert.OutEvenRefIdeal.Read.val_main_v4,
    Cert.OutEvenRefIdeal.Read.val_main_v3, Cert.OutEvenRefIdeal.Read.val_main_v2, Cert.OutEvenRefIdeal.Read.val_main_v1,
    Cert.OutEvenRefIdeal.Read.val_main_v0]
  exact (add_assoc _ _ _).symm

variable (m : (ℓ : Loc nD τ sig) → Buf (Elt Ideal) ℓ)

theorem idx : ∀ t : Fin cfg0.N, win0_0.index t = ![(grid0.coords t 0).val, 0] ∧ win0_1.index t = ![(grid0.coords t 0).val, 0]
    ∧ win0_2.index t = ![0, 0, 0] ∧ win0_3.index t = ![0, 1, 0] ∧ win0_4.index t = ![(grid0.coords t 0).val, 0]
    ∧ win0_5.index t = ![(grid0.coords t 0).val, 0] :=
  (by decide +kernel : ∀ t : Fin grid0.N, _)

/-- The block the body leaves at point `t` is the specification at the block's place. -/
theorem point (c : Dev nD) (t : Fin cfg0.N) (y : S512x2048.Idx) :
    k0_pay1 (F := Ideal) (iblk m c 4 t) (iblk m c 0 t) (iblk m c 2 t) (iblk m c 1 t) (iblk m c 3 t) y
      = Cert.OutEvenRefIdeal.Read.val_main_v6 (F := Ideal) (m ((c : Thread nD τ).loc main_arg0)) (m ((c : Thread nD τ).loc main_arg1))
          (m ((c : Thread nD τ).loc main_arg2)) (m ((c : Thread nD τ).loc main_arg3)) (((cfg0.win 5).blk t).view.emb y) := by
  rw [eq_ix2 y, eq_ix2 (((cfg0.win 5).blk t).view.emb _)]
  refine (pay_at _ _ _ _ _ _ _).trans (Eq.trans ?_ (ref_at _ _ _ _ _ _).symm)
  unfold spec
  blk_point [iblk, idx t]

/-- The result array after the run. -/
theorem final (c : Dev nD) : (dats m 0 c).arrAt 5 cfg0.N
    = Cert.OutEvenRefIdeal.Read.val_main_v6 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y

end Cert.OutEvenIdeal.Layer

end
-- ==== Proof.Layer.OutOdd.lean ====
module

public import proofs.«01_k».proof.Proof.Gen.OutOddIdeal.Value
public import proofs.«01_k».proof.Proof.Gen.OutOddRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutOddIdeal.Layer

open Cert.OutOddIdeal Cert.OutOddIdeal.Gen

/-- The element of the residual plus projection at row `r` and column `q`, over whole arrays. -/
def spec (y : FVec Ideal ⟨2, ![8192, 2048]⟩ .bf16) (w : FVec Ideal ⟨3, ![2, 2048, 2048]⟩ .f32)
    (x : FVec Ideal ⟨2, ![8192, 2048]⟩ .f32) (r : Fin 8192) (q : Fin 2048) : EReal :=
  x (ix2 r q) + ∑ k : Fin 2048, y (ix2 r k) * w (ix3 0 k q)

/-- The block stored at one grid point, read at an index. -/
theorem pay_at (x : FVec Ideal S512x2048 .f32) (y : FVec Ideal S512x2048 .bf16)
    (w : FVec Ideal S1x2048x2048 .bf16) (r : Fin 512) (q : Fin 2048) :
    k0_pay1 (F := Ideal) x y w (ix2 r q) = x (ix2 r q) + ∑ k : Fin 2048, y (ix2 r k) * w (ix3 0 k q) := by
  pointwise [k0_pay1]

open Cert.OutOddRefIdeal.Read in
/-- The reference's result at an index. -/
theorem ref_at (y : FVec Ideal ⟨2, ![8192, 2048]⟩ .bf16) (w : FVec Ideal ⟨3, ![2, 2048, 2048]⟩ .f32)
    (x : FVec Ideal ⟨2, ![8192, 2048]⟩ .f32) (r : Fin 8192) (q : Fin 2048) :
    val_main_v4 (F := Ideal) y w x (ix2 r q) = spec y w x r q := by
  unfold spec
  pointwise [val_main_v4, val_main_v3, val_main_v2, val_main_v1, val_main_v0]

variable (m : (ℓ : Loc nD τ sig) → Buf (Elt Ideal) ℓ)

theorem idx : ∀ t : Fin cfg0.N, win0_0.index t = ![(grid0.coords t 0).val, 0] ∧ win0_1.index t = ![0, 0, 0]
    ∧ win0_2.index t = ![(grid0.coords t 0).val, 0] ∧ win0_3.index t = ![(grid0.coords t 0).val, 0] :=
  (by decide +kernel : ∀ t : Fin grid0.N, _)

/-- The block the body leaves at point `t` is the reference at the block's place. -/
theorem point (c : Dev nD) (t : Fin cfg0.N) (y : S512x2048.Idx) :
    k0_pay1 (F := Ideal) (iblk m c 2 t) (iblk m c 0 t) (iblk m c 1 t) y
      = Cert.OutOddRefIdeal.Read.val_main_v4 (F := Ideal) (m ((c : Thread nD τ).loc main_arg0)) (m ((c : Thread nD τ).loc main_arg1)) (m ((c : Thread nD τ).loc main_arg2)) (((cfg0.win 3).blk t).view.emb y) := by
  rw [eq_ix2 y, eq_ix2 (((cfg0.win 3).blk t).view.emb _)]
  refine (pay_at _ _ _ _ _).trans (Eq.trans ?_ (ref_at _ _ _ _ _).symm)
  unfold spec
  blk_point [iblk, idx t]

/-- The result array after the run. -/
theorem final (c : Dev nD) : (dats m 0 c).arrAt 3 cfg0.N
    = Cert.OutOddRefIdeal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutOddIdeal.Layer

end
-- ==== Proof.Layer.CachedBody.lean ====
module

public import proofs.«01_k».proof.Proof.Gen.CachedIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CachedIdeal.Layer

open Cert.CachedIdeal Cert.CachedIdeal.Gen

variable {F : FTy → Type} [FloatOps F]

/-- Head `4 h + g`'s queries of sample `s` lie inside the block of queries. -/
theorem slices_query (s h g : Fin 4) : S32x1024.Slices ![8 * s.val, 64 * (4 * h.val + g.val)] S8x64 :=
  ⟨rfl, fun a => match a with
    | ⟨0, _⟩ => by show 8 * s.val + 8 ≤ 32; omega
    | ⟨1, _⟩ => by show 64 * (4 * h.val + g.val) + 64 ≤ 1024; omega⟩

/-- Key-value head `h`'s columns lie inside the rows. -/
theorem slices_cols (h : Fin 4) : S256x256.Slices ![0, 64 * h.val] S256x64 :=
  ⟨rfl, fun a => match a with
    | ⟨0, _⟩ => by show 0 + 256 ≤ 256; omega
    | ⟨1, _⟩ => by show 64 * h.val + 64 ≤ 256; omega⟩

/-- Sample `s`'s window lies inside the block of windows. -/
theorem slices_window (s : Fin 4) : S512x256.Slices ![128 * s.val, 0] S128x256 :=
  ⟨rfl, fun a => match a with
    | ⟨0, _⟩ => by show 128 * s.val + 128 ≤ 512; omega
    | ⟨1, _⟩ => by show 0 + 256 ≤ 256; omega⟩

/-- Sample `s`'s new rows lie inside the block of new rows. -/
theorem slices_new (s : Fin 4) : S32x256.Slices ![8 * s.val, 0] S8x256 :=
  ⟨rfl, fun a => match a with
    | ⟨0, _⟩ => by show 8 * s.val + 8 ≤ 32; omega
    | ⟨1, _⟩ => by show 0 + 256 ≤ 256; omega⟩

/-- Sample `s`'s rows: its window, its new rows, then zeros. -/
def rows (s : Fin 4) (w : FVec F S1x512x256 .f32) (x : FVec F S32x256 .f32) : FVec F S256x256 .f32 :=
  concatenate S256x256 0
    [⟨S128x256, extractStridedSlice S128x256 ![128 * s.val, 0] (shapeCast S512x256 w shapeCasts_S1x512x256_S512x256) (slices_window s)⟩,
      ⟨S8x256, extractStridedSlice S8x256 ![8 * s.val, 0] x (slices_new s)⟩,
      ⟨S120x256, broadcast S120x256 (Scalar.ofBits .f32 0x00000000#32)⟩]
    concatenates_S128x256_S8x256_S120x256_S256x256_d0

/-- The scores of four stacked heads against one head's keys. -/
def scores (a b c d : FVec F S8x64 .f32) (k : FVec F S256x64 .f32) : FVec F S32x256 .f32 :=
  matmul dot_S32x64_S256x64_S32x256_1_1_0_0_n_n none
    (truncf .bf16 (concatenate S32x64 0 [⟨S8x64, a⟩, ⟨S8x64, b⟩, ⟨S8x64, c⟩, ⟨S8x64, d⟩]
      concatenates_S8x64_S8x64_S8x64_S8x64_S32x64_d0) bitsLt_bf16_f32)
    (truncf .bf16 k bitsLt_bf16_f32) (constant S32x256 .f32 0x00000000#32)

/-- The four sinks of a stack, by row. -/
def sinks (a b c d : F .f32) : FVec F S32x1 .f32 :=
  concatenate S32x1 0 [⟨S8x1, broadcast S8x1 a⟩, ⟨S8x1, broadcast S8x1 b⟩, ⟨S8x1, broadcast S8x1 c⟩, ⟨S8x1, broadcast S8x1 d⟩]
    concatenates_S8x1_S8x1_S8x1_S8x1_S32x1_d0

/-- The scaled scores under a mask. -/
def masked (mk : IVec S32x256 1) (sc : FVec F S32x256 .f32) : FVec F S32x256 .f32 :=
  select mk (mulf sc (broadcast S32x256 (Scalar.ofBits .f32 0x3E000000#32))) (broadcast S32x256 (Scalar.ofBits .f32 0xFF800000#32))

/-- The largest score of each row, its sink among them. -/
def largest (m : FVec F S32x256 .f32) (sk : FVec F S32x1 .f32) : FVec F S32x1 .f32 :=
  maximumf (shapeCast S32x1 (multiReduction .maximumf [1] S32 m 0xFF800000#32 reduces_S32x256_S32 (.inl rfl) rfl) shapeCasts_S32_S32x1) sk

/-- The weighted values over the weights' sum, the sink's weight added to the sum. -/
def normalise (v ones : FVec F S256x64 .f32) (e : FVec F S32x256 .bf16) (st : FVec F S32x1 .f32) : FVec F S32x64 .f32 :=
  have w : FVec F S32x128 .f32 := matmul dot_S32x256_S256x128_S32x128_1_0_0_1_n_n none e
    (truncf .bf16 (concatenate S256x128 1 [⟨S256x64, v⟩, ⟨S256x64, ones⟩] concatenates_S256x64_S256x64_S256x128_d1) bitsLt_bf16_f32)
    (constant S32x128 .f32 0x00000000#32)
  divf (extractStridedSlice S32x64 ![0, 0] w slices_S32x128_o0_0_S32x64)
    (broadcastTo S32x64 (addf (extractStridedSlice S32x1 ![0, 64] w slices_S32x128_o0_64_S32x1) st) broadcasts_S32x1_S32x64)

/-- Four stacked heads of one key-value head: masked scores, sinks, values. -/
def heads (m : FVec F S32x256 .f32) (sk : FVec F S32x1 .f32) (v : FVec F S256x64 .f32) : FVec F S32x64 .f32 :=
  normalise v k0_pay20
    (truncf .bf16 (exp (subf m (broadcastTo S32x256 (largest m sk) broadcasts_S32x1_S32x256))) bitsLt_bf16_f32)
    (exp (subf sk (largest m sk)))

/-- Which rows each query sees. -/
def mask : IVec S32x256 1 :=
  k0_pay19 (iota .tc S32x256 32 [0] iota_S32x256_d0_w32) (iota .tc S32x256 32 [1] iota_S32x256_d1_w32) (broadcast S32x256 7#32)

/-- Head `4 h + g`'s queries of sample `s`. -/
def query (s h g : Fin 4) (x1 : FVec F S32x1024 .f32) : FVec F S8x64 .f32 :=
  extractStridedSlice S8x64 ![8 * s.val, 64 * (4 * h.val + g.val)] x1 (slices_query s h g)

/-- The four heads of key-value head `h` for sample `s`, from the sinks, queries, keys and values. -/
def stack (s h : Fin 4) (x0 : FVec F S16 .f32) (x1 : FVec F S32x1024 .f32) (k v : FVec F S256x256 .f32) : FVec F S32x64 .f32 :=
  heads
    (masked mask (scores (query s h 0 x1) (query s h 1 x1) (query s h 2 x1) (query s h 3 x1)
      (extractStridedSlice S256x64 ![0, 64 * h.val] k (slices_cols h))))
    (sinks (x0 (ix1 ⟨4 * h.val, by omega⟩)) (x0 (ix1 ⟨4 * h.val + 1, by omega⟩)) (x0 (ix1 ⟨4 * h.val + 2, by omega⟩))
      (x0 (ix1 ⟨4 * h.val + 3, by omega⟩)))
    (extractStridedSlice S256x64 ![0, 64 * h.val] v (slices_cols h))

/-- Sixteen heads side by side, four from each stack. -/
def join (u0 u1 u2 u3 : FVec F S32x64 .f32) : FVec F S8x1024 .f32 :=
  concatenate S8x1024 1
    [⟨S8x64, extractStridedSlice S8x64 ![0, 0] u0 slices_S32x64_o0_0_S8x64⟩,
      ⟨S8x64, extractStridedSlice S8x64 ![8, 0] u0 slices_S32x64_o8_0_S8x64⟩,
      ⟨S8x64, extractStridedSlice S8x64 ![16, 0] u0 slices_S32x64_o16_0_S8x64⟩,
      ⟨S8x64, extractStridedSlice S8x64 ![24, 0] u0 slices_S32x64_o24_0_S8x64⟩,
      ⟨S8x64, extractStridedSlice S8x64 ![0, 0] u1 slices_S32x64_o0_0_S8x64⟩,
      ⟨S8x64, extractStridedSlice S8x64 ![8, 0] u1 slices_S32x64_o8_0_S8x64⟩,
      ⟨S8x64, extractStridedSlice S8x64 ![16, 0] u1 slices_S32x64_o16_0_S8x64⟩,
      ⟨S8x64, extractStridedSlice S8x64 ![24, 0] u1 slices_S32x64_o24_0_S8x64⟩,
      ⟨S8x64, extractStridedSlice S8x64 ![0, 0] u2 slices_S32x64_o0_0_S8x64⟩,
      ⟨S8x64, extractStridedSlice S8x64 ![8, 0] u2 slices_S32x64_o8_0_S8x64⟩,
      ⟨S8x64, extractStridedSlice S8x64 ![16, 0] u2 slices_S32x64_o16_0_S8x64⟩,
      ⟨S8x64, extractStridedSlice S8x64 ![24, 0] u2 slices_S32x64_o24_0_S8x64⟩,
      ⟨S8x64, extractStridedSlice S8x64 ![0, 0] u3 slices_S32x64_o0_0_S8x64⟩,
      ⟨S8x64, extractStridedSlice S8x64 ![8, 0] u3 slices_S32x64_o8_0_S8x64⟩,
      ⟨S8x64, extractStridedSlice S8x64 ![16, 0] u3 slices_S32x64_o16_0_S8x64⟩,
      ⟨S8x64, extractStridedSlice S8x64 ![24, 0] u3 slices_S32x64_o24_0_S8x64⟩]
    concatenates_S8x64_S8x64_S8x64_S8x64_S8x64_S8x64_S8x64_S8x64_S8x64_S8x64_S8x64_S8x64_S8x64_S8x64_S8x64_S8x64_S8x1024_d1

/-- Sample `s`'s sixteen heads side by side. -/
def sample (s : Fin 4) (x0 : FVec F S16 .f32) (x1 : FVec F S32x1024 .f32) (x4 : FVec F S1x512x256 .f32) (x5 : FVec F S32x256 .f32)
    (x6 : FVec F S1x512x256 .f32) (x7 : FVec F S32x256 .f32) : FVec F S8x1024 .f32 :=
  join (stack s 0 x0 x1 (rows s x4 x5) (rows s x6 x7)) (stack s 1 x0 x1 (rows s x4 x5) (rows s x6 x7))
    (stack s 2 x0 x1 (rows s x4 x5) (rows s x6 x7)) (stack s 3 x0 x1 (rows s x4 x5) (rows s x6 x7))

/-- The block the body stores, from the blocks it loads. -/
def block (x0 : FVec F S16 .f32) (x1 : FVec F S32x1024 .f32) (x2 x3 : FVec F S32x512 .f32) (x4 : FVec F S1x512x256 .f32)
    (x5 : FVec F S32x256 .f32) (x6 : FVec F S1x512x256 .f32) (x7 : FVec F S32x256 .f32) : FVec F S32x1024 .bf16 :=
  k0_pay4 (k0_pay5 x2 x3) (sample 0 x0 x1 x4 x5 x6 x7) (sample 1 x0 x1 x4 x5 x6 x7) (sample 2 x0 x1 x4 x5 x6 x7)
    (sample 3 x0 x1 x4 x5 x6 x7)

/-- One sink loaded by its number. -/
theorem sink_ld (x0 : Vec F S16 .f32) (k : ℕ) (hk : k < 16) (inb) (hh) :
    View.ld x0 (Rect.unit (s := S16) ![k] S1.size inb) (Shape.Idx.first hh) = x0 (ix1 ⟨k, hk⟩) := by
  refine congrArg x0 (funext fun a => Fin.ext ?_)
  match a with
  | ⟨0, _⟩ => rfl

/-- What the body leaves in the output's buffer at a point. -/
theorem out_eq (c : Dev nD) (i : grid0.Coords) (arg2 : Memref sig .tc .smem S16 .f32) (harg2 : arg2.IsWhole) (arg3 : Memref sig .tc .vmem S32x1024 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x512x256 .f32) (harg6 : arg6.IsWhole) (arg7 : Memref sig .tc .vmem S32x256 .f32) (harg7 : arg7.IsWhole) (arg8 : Memref sig .tc .vmem S1x512x256 .f32) (harg8 : arg8.IsWhole) (arg9 : Memref sig .tc .vmem S32x256 .f32) (harg9 : arg9.IsWhole) (arg10 : Memref sig .tc .vmem S32x1024 .bf16) (harg10 : arg10.IsWhole)
    (x0 : Vec F S16 .f32) (x1 : Vec F S32x1024 .f32) (x2 : Vec F S32x512 .f32) (x3 : Vec F S32x512 .f32) (x4 : Vec F S1x512x256 .f32) (x5 : Vec F S32x256 .f32) (x6 : Vec F S1x512x256 .f32) (x7 : Vec F S32x256 .f32) :
    out0_A_8 c i arg2 harg2 arg3 harg3 arg4 harg4 arg5 harg5 arg6 harg6 arg7 harg7 arg8 harg8 arg9 harg9 arg10 harg10 x0 x1 x2 x3 x4 x5 x6 x7
      = block x0 x1 x2 x3 x4 x5 x6 x7 := by
  have hz : (![0, 0] : Fin 2 → ℕ) = fun _ => 0 := by funext a; match a with | ⟨0, _⟩ => rfl | ⟨1, _⟩ => rfl
  have hz3 : (![0, 0, 0] : Fin 3 → ℕ) = fun _ => 0 := by
    funext a; match a with | ⟨0, _⟩ => rfl | ⟨1, _⟩ => rfl | ⟨2, _⟩ => rfl
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  simp only [View.canon_unit_zero (S := S32x1024) hz, View.readAt_eq_ld]
  rw [harg2.read_unread, harg3.read_unread, harg4.read_unread, harg5.read_unread, harg6.read_unread, harg7.read_unread,
    harg8.read_unread, harg9.read_unread, View.ld_unit_zero (S := S32x1024) hz, View.ld_unit_zero (S := S32x512) hz,
    View.ld_unit_zero (S := S32x512) hz,
    View.ld_unit_zero (S := S1x512x256) hz3, View.ld_unit_zero (S := S1x512x256) hz3, View.ld_unit_zero (S := S32x256) hz,
    View.ld_unit_zero (S := S32x256) hz]
  rw [sink_ld x0 0 (by decide), sink_ld x0 1 (by decide), sink_ld x0 2 (by decide), sink_ld x0 3 (by decide), sink_ld x0 4 (by decide), sink_ld x0 5 (by decide), sink_ld x0 6 (by decide), sink_ld x0 7 (by decide), sink_ld x0 8 (by decide), sink_ld x0 9 (by decide), sink_ld x0 10 (by decide), sink_ld x0 11 (by decide), sink_ld x0 12 (by decide), sink_ld x0 13 (by decide), sink_ld x0 14 (by decide), sink_ld x0 15 (by decide)]
  rfl

end Cert.CachedIdeal.Layer

end
-- ==== Proof.Layer.CachedPoint.lean ====
module

public import proofs.«01_k».proof.Proof.Layer.CachedBody
public import proofs.«01_k».proof.Proof.Layer.AttnScore

@[expose] public section

set_option maxRecDepth 16384

noncomputable section

open Idealize.ShloMosaic Idealize.ShloMosaic.TcCoe Idealize.SL.Sem
open Idealize.ShloMosaic.Pipeline (Dat)

namespace Cert.CachedIdeal.Layer

open Cert.CachedIdeal Cert.CachedIdeal.Gen Cert.Softmax
open Cert.KernelIdeal.Layer (ofBits_bot one_word)

theorem heads_at (m : FVec Ideal S32x256 .f32) (sk : FVec Ideal S32x1 .f32) (v : FVec Ideal S256x64 .f32) (ρ : Fin 32) (d : Fin 64) :
    heads m sk v (ix2 ρ d) = soft (fun j : Fin 256 => m (ix2 ρ j)) (fun j => v (ix2 j d)) (sk (ix2 ρ 0)) := by
  unfold soft mx
  pointwise [heads, normalise, k0_pay20, largest, ofBits_bot, one_word, mul_one]

/-- The row of a stack that holds head `g`'s row `r`. -/
abbrev stackRow (g : Fin 4) (r : Fin 8) : Fin 32 := ⟨g.val * 8 + r.val, by omega⟩

theorem low_bits (g : Fin 4) (r : Fin 8) : IntOp.andi (BitVec.ofNat 32 (g.val * 8 + r.val)) 7#32 = BitVec.ofNat 32 r.val := by
  apply BitVec.eq_of_toNat_eq
  show (BitVec.ofNat 32 (g.val * 8 + r.val)).toNat &&& 7 = (BitVec.ofNat 32 r.val).toNat
  rw [show (7 : ℕ) = 2 ^ 3 - 1 from rfl, Nat.and_two_pow_sub_one_eq_mod, BitVec.toNat_ofNat, BitVec.toNat_ofNat]
  omega

theorem mask_at (g : Fin 4) (r : Fin 8) (j : Fin 256) :
    mask (ix2 (stackRow g r) j) = BitVec.ofBool (decide (r.val ≤ j.val ∧ j.val ≤ r.val + 128)) := by
  have := r.isLt
  have := j.isLt
  have e : IntOp.addi (BitVec.ofNat 32 r.val) 128#32 = BitVec.ofNat 32 (r.val + 128) := BitVec.ofNat_add_ofNat ..
  pointwise [mask, k0_pay19, low_bits]
  rw [e]
  simp (disch := word_cmp_side) only [hlo_ix, Bool.decide_and]

/-- The sink of head `g` of a stack. -/
theorem sinks_at (k : Fin 4 → Ideal .f32) (g : Fin 4) (r : Fin 8) :
    sinks (F := Ideal) (k 0) (k 1) (k 2) (k 3) (ix2 (stackRow g r) 0) = k g := by
  have := r.isLt
  obtain ⟨g, hg⟩ := g
  interval_cases g <;> pointwise [sinks] <;> simp (disch := omega) only [dif_pos, dif_neg]

/-- Row `j` of sample `s`: its window's row, its new row, or zero. -/
def rowAt (w : FVec Ideal S1x512x256 .f32) (x : FVec Ideal S32x256 .f32) (s : Fin 4) (j e : Fin 256) : EReal :=
  if h : j.val < 128 then w (ix3 0 ⟨128 * s.val + j.val, by omega⟩ e)
  else if h' : j.val - 128 < 8 then x (ix2 ⟨8 * s.val + (j.val - 128), by omega⟩ e) else 0

theorem rows_at (w : FVec Ideal S1x512x256 .f32) (x : FVec Ideal S32x256 .f32) (s : Fin 4) (j e : Fin 256) :
    rows s w x (ix2 j e) = rowAt w x s j e := by
  unfold rowAt
  obtain ⟨s, hs⟩ := s
  interval_cases s <;> pointwise [rows]

/-- One key-value head's columns. -/
theorem cols_at (k : FVec Ideal S256x256 .f32) (h : Fin 4) (j : Fin 256) (d : Fin 64) :
    extractStridedSlice S256x64 ![0, 64 * h.val] k (slices_cols h) (ix2 j d) = k (ix2 j ⟨h.val * 64 + d.val, by omega⟩) :=
  extractStridedSlice_apply _ _ _ _ (ix2 j (⟨h.val * 64 + d.val, by omega⟩ : Fin 256)) (fun a => match a with
    | ⟨0, _⟩ => by show j.val = 0 + j.val; omega
    | ⟨1, _⟩ => by show h.val * 64 + d.val = 64 * h.val + d.val; omega)

theorem query_at (s h g : Fin 4) (x1 : FVec Ideal S32x1024 .f32) (r : Fin 8) (d : Fin 64) :
    query s h g x1 (ix2 r d) = x1 (ix2 ⟨s.val * 8 + r.val, by omega⟩ ⟨h.val * 256 + g.val * 64 + d.val, by omega⟩) :=
  extractStridedSlice_apply _ _ _ _ (ix2 (⟨s.val * 8 + r.val, by omega⟩ : Fin 32) (⟨h.val * 256 + g.val * 64 + d.val, by omega⟩ : Fin 1024)) (fun a => match a with
    | ⟨0, _⟩ => by show s.val * 8 + r.val = 8 * s.val + r.val; omega
    | ⟨1, _⟩ => by show h.val * 256 + g.val * 64 + d.val = 64 * (4 * h.val + g.val) + d.val; omega)

theorem scores_at (q : Fin 4 → FVec Ideal S8x64 .f32) (k : FVec Ideal S256x64 .f32) (g : Fin 4) (r : Fin 8) (j : Fin 256) :
    scores (q 0) (q 1) (q 2) (q 3) k (ix2 (stackRow g r) j) = ∑ d : Fin 64, q g (ix2 r d) * k (ix2 j d) := by
  have := r.isLt
  obtain ⟨g, hg⟩ := g
  interval_cases g <;> pointwise [scores] <;> simp (disch := omega) only [dif_pos, dif_neg]
  all_goals exact Finset.sum_congr rfl fun d _ => congrArg₂ (· * ·) (congrArg (q _) (congrArg₂ ix2 (Fin.ext (by first | rfl | omega | (simp only []; omega))) rfl)) rfl

/-- The product of a query row with a key row. -/
def score (x1 : FVec Ideal S32x1024 .f32) (x4 : FVec Ideal S1x512x256 .f32) (x5 : FVec Ideal S32x256 .f32)
    (s h g : Fin 4) (r : Fin 8) (j : Fin 256) : EReal :=
  ∑ d : Fin 64, x1 (ix2 ⟨s.val * 8 + r.val, by omega⟩ ⟨h.val * 256 + g.val * 64 + d.val, by omega⟩)
    * rowAt x4 x5 s j ⟨h.val * 64 + d.val, by omega⟩

theorem masked_at (mk : IVec S32x256 1) (sc : FVec Ideal S32x256 .f32) (ρ : Fin 32) (j : Fin 256) :
    masked mk sc (ix2 ρ j) = Scalar.select (mk (ix2 ρ j)) (sc (ix2 ρ j) * Ideal.ofBits .f32 0x3E000000#32) ⊥ := by
  pointwise [masked, ofBits_bot]

/-- A stack at an index. -/
theorem stack_at (s h : Fin 4) (x0 : FVec Ideal S16 .f32) (x1 : FVec Ideal S32x1024 .f32) (x4 : FVec Ideal S1x512x256 .f32)
    (x5 : FVec Ideal S32x256 .f32) (x6 : FVec Ideal S1x512x256 .f32) (x7 : FVec Ideal S32x256 .f32) (g : Fin 4) (r : Fin 8) (d : Fin 64) :
    stack s h x0 x1 (rows s x4 x5) (rows s x6 x7) (ix2 (stackRow g r) d)
      = soft (fun j => if r.val ≤ j.val ∧ j.val ≤ r.val + 128 then score x1 x4 x5 s h g r j * Ideal.ofBits .f32 0x3E000000#32 else ⊥)
          (fun j => rowAt x6 x7 s j ⟨h.val * 64 + d.val, by omega⟩) (x0 (ix1 ⟨4 * h.val + g.val, by omega⟩)) := by
  unfold stack
  rw [heads_at]
  have hk := sinks_at (fun g => x0 (ix1 ⟨4 * h.val + g.val, by omega⟩)) g r
  have hS : (fun j : Fin 256 => masked mask (scores (query s h 0 x1) (query s h 1 x1) (query s h 2 x1) (query s h 3 x1)
      (extractStridedSlice S256x64 ![0, 64 * h.val] (rows s x4 x5) (slices_cols h))) (ix2 (stackRow g r) j))
      = fun j => if r.val ≤ j.val ∧ j.val ≤ r.val + 128 then score x1 x4 x5 s h g r j * Ideal.ofBits .f32 0x3E000000#32 else ⊥ := by
    funext j
    rw [masked_at, mask_at, scores_at (fun g => query s h g x1)]
    unfold score
    simp only [query_at, cols_at, rows_at]
    by_cases hP : r.val ≤ j.val ∧ j.val ≤ r.val + 128 <;> simp [hP, Scalar.select]
  have hV : (fun j : Fin 256 => extractStridedSlice S256x64 ![0, 64 * h.val] (rows s x6 x7) (slices_cols h) (ix2 j d))
      = fun j => rowAt x6 x7 s j ⟨h.val * 64 + d.val, by omega⟩ := by
    funext j
    rw [cols_at, rows_at]
  rw [hS, hV]
  exact congrArg (soft _ _) hk

/-- Blocks of 64 columns side by side: column `64 * k + d` is the `k`-th block's column `d`. -/
theorem side_by_side (L : List (FVec Ideal S8x64 .f32)) (hc : Shape.Concatenates ((L.map (fun x => (⟨S8x64, x⟩ : (s : Shape) × (s.Idx → Ideal .f32)))).map (fun x => x.fst)) S8x1024 1)
    (r : Fin 8) (d : Fin 64) (k : ℕ) (hk : k < L.length) (q : Fin 1024) (hq : q.val = k * 64 + d.val) :
    concatenate S8x1024 1 (L.map (fun x => (⟨S8x64, x⟩ : (s : Shape) × (s.Idx → Ideal .f32)))) hc (ix2 r q) = (L[k]'hk) (ix2 r d) := by
  refine concatenate_apply_piece 1 _ hc (ix2 r q) k (by simpa using hk) S8x64 (L[k]'hk) (by simp) rfl (k * 64) ?_ (ix2 r d) (fun b hb => ?_) ?_
  · rw [← List.map_take, List.map_map, List.map_map]
    refine (congrArg List.sum (List.map_congr_left (g := fun _ => 64) fun x _ => rfl)).trans ?_
    rw [List.map_const', List.sum_replicate, List.length_take]
    rw [Nat.min_eq_left hk.le, smul_eq_mul]
  · match b with
    | ⟨0, _⟩ => rfl
    | ⟨1, _⟩ => exact absurd rfl hb
  · exact hq.symm

/-- The sixteen blocks of a row, in order. -/
def pieces (u0 u1 u2 u3 : FVec Ideal S32x64 .f32) : List (FVec Ideal S8x64 .f32) :=
  [ extractStridedSlice S8x64 ![0, 0] u0 slices_S32x64_o0_0_S8x64,
    extractStridedSlice S8x64 ![8, 0] u0 slices_S32x64_o8_0_S8x64,
    extractStridedSlice S8x64 ![16, 0] u0 slices_S32x64_o16_0_S8x64,
    extractStridedSlice S8x64 ![24, 0] u0 slices_S32x64_o24_0_S8x64,
    extractStridedSlice S8x64 ![0, 0] u1 slices_S32x64_o0_0_S8x64,
    extractStridedSlice S8x64 ![8, 0] u1 slices_S32x64_o8_0_S8x64,
    extractStridedSlice S8x64 ![16, 0] u1 slices_S32x64_o16_0_S8x64,
    extractStridedSlice S8x64 ![24, 0] u1 slices_S32x64_o24_0_S8x64,
    extractStridedSlice S8x64 ![0, 0] u2 slices_S32x64_o0_0_S8x64,
    extractStridedSlice S8x64 ![8, 0] u2 slices_S32x64_o8_0_S8x64,
    extractStridedSlice S8x64 ![16, 0] u2 slices_S32x64_o16_0_S8x64,
    extractStridedSlice S8x64 ![24, 0] u2 slices_S32x64_o24_0_S8x64,
    extractStridedSlice S8x64 ![0, 0] u3 slices_S32x64_o0_0_S8x64,
    extractStridedSlice S8x64 ![8, 0] u3 slices_S32x64_o8_0_S8x64,
    extractStridedSlice S8x64 ![16, 0] u3 slices_S32x64_o16_0_S8x64,
    extractStridedSlice S8x64 ![24, 0] u3 slices_S32x64_o24_0_S8x64]

/-- Head `g`'s rows lie inside a stack. -/
theorem slices_stack (g : Fin 4) : S32x64.Slices ![8 * g.val, 0] S8x64 :=
  ⟨rfl, fun a => match a with
    | ⟨0, _⟩ => by show 8 * g.val + 8 ≤ 32; omega
    | ⟨1, _⟩ => by show 0 + 64 ≤ 64; omega⟩

theorem slice_at (x : FVec Ideal S32x64 .f32) (g : Fin 4) (r : Fin 8) (d : Fin 64) :
    extractStridedSlice S8x64 ![8 * g.val, 0] x (slices_stack g) (ix2 r d) = x (ix2 (stackRow g r) d) :=
  extractStridedSlice_apply _ x _ (ix2 r d) (ix2 (stackRow g r) d) (fun a => match a with
    | ⟨0, _⟩ => by show g.val * 8 + r.val = 8 * g.val + r.val; omega
    | ⟨1, _⟩ => by show d.val = 0 + d.val; omega)

theorem join_at (u : Fin 4 → FVec Ideal S32x64 .f32) (r : Fin 8) (d : Fin 64) (h g : Fin 4) :
    join (u 0) (u 1) (u 2) (u 3) (ix2 r ⟨h.val * 256 + g.val * 64 + d.val, by omega⟩) = u h (ix2 (stackRow g r) d) := by
  refine (side_by_side (pieces (u 0) (u 1) (u 2) (u 3)) concatenates_S8x64_S8x64_S8x64_S8x64_S8x64_S8x64_S8x64_S8x64_S8x64_S8x64_S8x64_S8x64_S8x64_S8x64_S8x64_S8x64_S8x1024_d1 r d
    (h.val * 4 + g.val) (by show _ < 16; omega) _ (by show h.val * 256 + g.val * 64 + d.val = _; omega)).trans ?_
  obtain ⟨h, hh⟩ := h
  obtain ⟨g, hg⟩ := g
  interval_cases h <;> interval_cases g <;> exact slice_at (u ⟨_, hh⟩) ⟨_, hg⟩ r d

/-- The gate's operand at a row and a column. -/
def zrow (x2 x3 : FVec Ideal S32x512 .f32) (n : Fin 32) (e : Fin 1024) : EReal :=
  if h : e.val < 512 then x2 (ix2 n ⟨e.val, h⟩) else x3 (ix2 n ⟨e.val - 512, by omega⟩)

theorem zrow_at (x2 x3 : FVec Ideal S32x512 .f32) (n : Fin 32) (e : Fin 1024) :
    k0_pay5 (F := Ideal) x2 x3 (ix2 n e) = zrow x2 x3 n e := by
  unfold zrow
  pointwise [k0_pay5]

theorem gated_at (z : FVec Ideal S32x1024 .f32) (a : Fin 4 → FVec Ideal S8x1024 .f32) (s : Fin 4) (r : Fin 8) (e : Fin 1024) :
    k0_pay4 (F := Ideal) z (a 0) (a 1) (a 2) (a 3) (ix2 ⟨s.val * 8 + r.val, by omega⟩ e)
      = a s (ix2 r e) * gate (z (ix2 ⟨s.val * 8 + r.val, by omega⟩ e)) := by
  unfold gate
  have := r.isLt
  obtain ⟨s, hs⟩ := s
  interval_cases s <;> pointwise [k0_pay4] <;> simp (disch := omega) only [dif_pos, dif_neg]
  all_goals exact congrArg₂ (fun x y : EReal => x * y) (congrArg (a _) (congrArg₂ ix2 (Fin.ext (by first | rfl | omega | (simp only []; omega))) rfl)) rfl

/-- One number the body stores: row `r` of sample `s`, column `d` of query head `g` of key head `h`. -/
def number (x0 : FVec Ideal S16 .f32) (x1 : FVec Ideal S32x1024 .f32) (x2 x3 : FVec Ideal S32x512 .f32) (x4 : FVec Ideal S1x512x256 .f32)
    (x5 : FVec Ideal S32x256 .f32) (x6 : FVec Ideal S1x512x256 .f32) (x7 : FVec Ideal S32x256 .f32)
    (s : Fin 4) (r : Fin 8) (h g : Fin 4) (d : Fin 64) : EReal :=
  soft (fun j : Fin 256 => if r.val ≤ j.val ∧ j.val ≤ r.val + 128 then score x1 x4 x5 s h g r j * Ideal.ofBits .f32 0x3E000000#32 else ⊥)
    (fun j => rowAt x6 x7 s j ⟨h.val * 64 + d.val, by omega⟩) (x0 (ix1 ⟨4 * h.val + g.val, by omega⟩))
  * gate (zrow x2 x3 ⟨s.val * 8 + r.val, by omega⟩ ⟨h.val * 256 + g.val * 64 + d.val, by omega⟩)

/-- What the body stores, one number at a time. -/
theorem block_at (x0 : FVec Ideal S16 .f32) (x1 : FVec Ideal S32x1024 .f32) (x2 x3 : FVec Ideal S32x512 .f32) (x4 : FVec Ideal S1x512x256 .f32)
    (x5 : FVec Ideal S32x256 .f32) (x6 : FVec Ideal S1x512x256 .f32) (x7 : FVec Ideal S32x256 .f32)
    (s : Fin 4) (r : Fin 8) (h g : Fin 4) (d : Fin 64) :
    block (F := Ideal) x0 x1 x2 x3 x4 x5 x6 x7 (ix2 ⟨s.val * 8 + r.val, by omega⟩ ⟨h.val * 256 + g.val * 64 + d.val, by omega⟩)
      = number x0 x1 x2 x3 x4 x5 x6 x7 s r h g d := by
  refine (gated_at _ (fun s => sample s x0 x1 x4 x5 x6 x7) s r _).trans ?_
  unfold number
  rw [zrow_at]
  refine congrArg (· * _) ?_
  exact (join_at (fun h => stack s h x0 x1 (rows s x4 x5) (rows s x6 x7)) r d h g).trans (stack_at ..)

end Cert.CachedIdeal.Layer

end
-- ==== Proof.Layer.CachedRef.lean ====
module

public import proofs.«01_k».proof.Proof.Gen.CachedRefIdeal.Read
public import proofs.«01_k».proof.Proof.Layer.AttnMask
public import proofs.«01_k».proof.Proof.Layer.Softmax
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CachedRefIdeal.Layer

open Cert.CachedRefIdeal Cert.CachedRefIdeal.Gen Cert.CachedRefIdeal.Read Cert.Softmax
open Cert.ReferenceIdeal.Layer (ofNat_word add_word sub_word sge_word sle_word and_word)

/-- The row of the array that holds row `r` of sample `n`. -/
abbrev rowIx (n : Fin 32) (r : Fin 8) : Fin 256 := ⟨n.val * 8 + r.val, by omega⟩

/-- The column of query head `g` of key head `h`, component `d`. -/
abbrev colIx (h g : Fin 4) (d : Fin 64) : Fin 1024 := ⟨h.val * 256 + g.val * 64 + d.val, by omega⟩

theorem q_at (u : FVec Ideal S256x5632 .f32) (n : Fin 32) (r : Fin 8) (h g : Fin 4) (d : Fin 64) :
    val_main_v4 (F := Ideal) u (ix5 n r h g d) = u (ix2 (rowIx n r) ⟨h.val * 256 + g.val * 64 + d.val, by omega⟩) := by
  pointwise [val_main_v4, val_main_v3]

theorem k_at (u : FVec Ideal S256x5632 .f32) (n : Fin 32) (r : Fin 8) (h : Fin 4) (d : Fin 64) :
    val_main_v6 (F := Ideal) u (ix4 n r h d) = u (ix2 (rowIx n r) ⟨1024 + (h.val * 64 + d.val), by omega⟩) := by
  pointwise [val_main_v6, val_main_v5]

theorem v_at (u : FVec Ideal S256x5632 .f32) (n : Fin 32) (r : Fin 8) (h : Fin 4) (d : Fin 64) :
    val_main_v8 (F := Ideal) u (ix4 n r h d) = u (ix2 (rowIx n r) ⟨1280 + (h.val * 64 + d.val), by omega⟩) := by
  pointwise [val_main_v8, val_main_v7]

/-- Row `j` of the keys or the values of sample `n`: the cached window's rows, then its own. -/
def both (ca : FVec Ideal S2x32x128x4x64 .f32) (f : Fin 8 → EReal) (n : Fin 32) (h : Fin 4) (d : Fin 64) (j : Fin 136) : EReal :=
  if hj : j.val < 128 then ca (ix5 0 n ⟨j.val, hj⟩ h d) else f ⟨j.val - 128, by omega⟩

theorem kk_at (u : FVec Ideal S256x5632 .f32) (ck : FVec Ideal S2x32x128x4x64 .f32) (n : Fin 32) (j : Fin 136) (h : Fin 4) (d : Fin 64) :
    val_main_v12 (F := Ideal) u ck (ix4 n j h d) = both ck (fun r => u (ix2 (rowIx n r) ⟨1024 + (h.val * 64 + d.val), by omega⟩)) n h d j := by
  unfold both
  pointwise [val_main_v12, val_main_v11, val_main_v10, k_at]

theorem vv_at (u : FVec Ideal S256x5632 .f32) (cv : FVec Ideal S2x32x128x4x64 .f32) (n : Fin 32) (j : Fin 136) (h : Fin 4) (d : Fin 64) :
    val_main_v15 (F := Ideal) u cv (ix4 n j h d) = both cv (fun r => u (ix2 (rowIx n r) ⟨1280 + (h.val * 64 + d.val), by omega⟩)) n h d j := by
  unfold both
  pointwise [val_main_v15, val_main_v14, val_main_v13, v_at]

theorem live_at (r : Fin 8) (j : Fin 136) : val_main_v36 (F := Ideal) (ix2 r j)
    = BitVec.ofBool (decide (r.val ≤ j.val ∧ j.val ≤ r.val + 128)) := by
  pointwise [val_main_v36, val_main_v35, val_main_v34, val_main_v33, val_main_c_3, val_main_v32, val_main_v31, val_main_v30, val_main_v29, val_main_c_2, val_main_v28, val_main_v27, val_main_c_1, val_main_v26, val_main_v25, val_main_v24, val_main_v23, val_main_v22, val_main_v21, val_main_v20, val_main_c_0, val_main_v19, val_main_v18, val_main_v17, val_main_c, val_main_v16]
  have := r.isLt
  have := j.isLt
  rw [ofNat_word r.val, ofNat_word j.val, show (16384#32) = BitVec.ofInt 32 16384 from rfl, show (16256#32) = BitVec.ofInt 32 16256 from rfl,
    show (128#32) = BitVec.ofInt 32 128 from rfl, show (0#32) = BitVec.ofInt 32 0 from rfl, add_word, add_word, sub_word,
    sge_word _ _ (by omega) (by omega) (by omega) (by omega), sge_word _ _ (by omega) (by omega) (by omega) (by omega),
    sle_word _ _ (by omega) (by omega) (by omega) (by omega), and_word, and_word, ← Bool.decide_and, ← Bool.decide_and]
  refine congrArg BitVec.ofBool (decide_eq_decide.mpr ?_)
  omega

/-- The product of a query row with a key row. -/
def score (u : FVec Ideal S256x5632 .f32) (ck : FVec Ideal S2x32x128x4x64 .f32) (n : Fin 32) (r : Fin 8) (h g : Fin 4) (j : Fin 136) : EReal :=
  ∑ d : Fin 64, u (ix2 (rowIx n r) ⟨h.val * 256 + g.val * 64 + d.val, by omega⟩)
    * both ck (fun r => u (ix2 (rowIx n r) ⟨1024 + (h.val * 64 + d.val), by omega⟩)) n h d j

/-- The scaled product where the key is within the window, `⊥` elsewhere. -/
def masked (u : FVec Ideal S256x5632 .f32) (ck : FVec Ideal S2x32x128x4x64 .f32) (n : Fin 32) (r : Fin 8) (h g : Fin 4) (j : Fin 136) : EReal :=
  if r.val ≤ j.val ∧ j.val ≤ r.val + 128 then score u ck n r h g j * Ideal.ofBits .f32 0x3E000000#32 else ⊥

theorem ofBits_bot : Ideal.ofBits .f32 0xFF800000#32 = ⊥ := by simp [Ideal.ofBits, Ideal.ieee]

theorem masked_at (u : FVec Ideal S256x5632 .f32) (ck : FVec Ideal S2x32x128x4x64 .f32) (n : Fin 32) (r : Fin 8) (h g : Fin 4) (j : Fin 136) :
    val_main_v41 (F := Ideal) u ck (ix5 n h g r j) = masked u ck n r h g j := by
  unfold masked score
  pointwise [val_main_v41, val_main_v40, val_main_v39, val_main_v38, val_main_v37, val_main_cst, val_main_cst_4,
    val_main_call0_v0, val_main_call0_v1, val_main_call0_v2, kk_at, q_at, live_at, ofBits_bot]
  simp only [mul_comm (both _ _ _ _ _ _)]
  by_cases hP : r.val ≤ j.val ∧ j.val ≤ r.val + 128
  · rw [if_pos hP, if_pos hP]
  · rw [if_neg hP, if_neg hP]
    exact ofBits_bot

theorem sink_at (a : FVec Ideal S2x16 .f32) (h g : Fin 4) :
    val_main_v2 (F := Ideal) a (ix2 h g) = a (ix2 0 ⟨h.val * 4 + g.val, by omega⟩) := by
  pointwise [val_main_v2, val_main_v1, val_main_v0]

theorem fold_at (y : FVec Ideal S32x4x4x8x136 .f32) (z : FVec Ideal S_ .f32) (n : Fin 32) (h g : Fin 4) (r : Fin 8) :
    Host.reduce FloatOps.maximumf y z reducesTo_S32x4x4x8x136_S32x4x4x8_d4 h_S_ (ix4 n h g r)
      = Finset.univ.fold max (z ix0) (fun j => y (ix5 n h g r j)) := by
  rw [Host.reduce_eq_fold_single _ _ _ reducesTo_S32x4x4x8x136_S32x4x4x8_d4 (by decide)]
  refine congrArg₂ (fun i (f : Fin 136 → EReal) => Finset.univ.fold max i f) (congrArg z (funext fun a => a.elim0)) (funext fun j => congrArg y ?_)
  exact funext fun a => Fin.ext (by match a with | ⟨0, _⟩ => rfl | ⟨1, _⟩ => rfl | ⟨2, _⟩ => rfl | ⟨3, _⟩ => rfl | ⟨4, _⟩ => rfl)

theorem top_at (u : FVec Ideal S256x5632 .f32) (ck : FVec Ideal S2x32x128x4x64 .f32) (n : Fin 32) (r : Fin 8) (h g : Fin 4) :
    val_main_v43 (F := Ideal) u ck (ix4 n h g r) = Finset.univ.fold max ⊥ (masked u ck n r h g) := by
  unfold val_main_v43
  rw [fold_at, show val_main_cst_5 (F := Ideal) ix0 = ⊥ from ofBits_bot, funext fun j => masked_at u ck n r h g j]

theorem sink_cast (a : FVec Ideal S2x16 .f32) (n : Fin 32) (r : Fin 8) (h g : Fin 4) :
    val_main_v46 (F := Ideal) a (ix5 n h g r 0) = a (ix2 0 ⟨h.val * 4 + g.val, by omega⟩) := by
  rw [val_main_v46_apply, val_main_v45_apply, val_main_v42_apply]
  refine Eq.trans (congrArg (val_main_v2 (F := Ideal) a) ?_) (sink_at a h g)
  exact funext fun a => Fin.ext (by match a with | ⟨0, _⟩ => rfl | ⟨1, _⟩ => rfl)

theorem mx_at (u : FVec Ideal S256x5632 .f32) (a : FVec Ideal S2x16 .f32) (ck : FVec Ideal S2x32x128x4x64 .f32) (n : Fin 32) (r : Fin 8) (h g : Fin 4) :
    val_main_v47 (F := Ideal) u a ck (ix5 n h g r 0) = mx (masked u ck n r h g) (a (ix2 0 ⟨h.val * 4 + g.val, by omega⟩)) := by
  unfold mx
  rw [val_main_v47_apply, sink_cast, val_main_v44_apply]
  refine congrArg₂ max (Eq.trans (congrArg (val_main_v43 (F := Ideal) u ck) ?_) (top_at u ck n r h g)) rfl
  exact funext fun a => Fin.ext (by match a with | ⟨0, _⟩ => rfl | ⟨1, _⟩ => rfl | ⟨2, _⟩ => rfl | ⟨3, _⟩ => rfl)

theorem weight_at (u : FVec Ideal S256x5632 .f32) (a : FVec Ideal S2x16 .f32) (ck : FVec Ideal S2x32x128x4x64 .f32) (n : Fin 32) (r : Fin 8) (h g : Fin 4) (j : Fin 136) :
    val_main_v50 (F := Ideal) u a ck (ix5 n h g r j)
      = Ideal.exp (masked u ck n r h g j - mx (masked u ck n r h g) (a (ix2 0 ⟨h.val * 4 + g.val, by omega⟩))) := by
  rw [val_main_v50_apply, val_main_v49_apply, val_main_v48_apply, masked_at,
    show idx_main_v48 (ix5 n h g r j) = ix5 n h g r 0 from funext fun a => Fin.ext (by match a with | ⟨0, _⟩ => rfl | ⟨1, _⟩ => rfl | ⟨2, _⟩ => rfl | ⟨3, _⟩ => rfl | ⟨4, _⟩ => rfl), mx_at]
  rfl

theorem total_at (u : FVec Ideal S256x5632 .f32) (a : FVec Ideal S2x16 .f32) (ck : FVec Ideal S2x32x128x4x64 .f32) (n : Fin 32) (r : Fin 8) (h g : Fin 4) :
    val_main_v51 (F := Ideal) u a ck (ix4 n h g r)
      = ∑ j, Ideal.exp (masked u ck n r h g j - mx (masked u ck n r h g) (a (ix2 0 ⟨h.val * 4 + g.val, by omega⟩))) := by
  rw [val_main_v51_apply]
  refine (congrArg₂ (· + ·) Ideal.ofBits_zero_f32 (Finset.sum_congr rfl fun j _ => ?_)).trans (zero_add _)
  refine Eq.trans (congrArg (val_main_v50 (F := Ideal) u a ck) ?_) (weight_at u a ck n r h g j)
  exact funext fun a => Fin.ext (by match a with | ⟨0, _⟩ => rfl | ⟨1, _⟩ => rfl | ⟨2, _⟩ => rfl | ⟨3, _⟩ => rfl | ⟨4, _⟩ => rfl)

theorem denom_at (u : FVec Ideal S256x5632 .f32) (a : FVec Ideal S2x16 .f32) (ck : FVec Ideal S2x32x128x4x64 .f32) (n : Fin 32) (r : Fin 8) (h g : Fin 4) :
    val_main_v57 (F := Ideal) u a ck (ix5 n h g r 0)
      = (∑ j, Ideal.exp (masked u ck n r h g j - mx (masked u ck n r h g) (a (ix2 0 ⟨h.val * 4 + g.val, by omega⟩))))
          + Ideal.exp (a (ix2 0 ⟨h.val * 4 + g.val, by omega⟩) - mx (masked u ck n r h g) (a (ix2 0 ⟨h.val * 4 + g.val, by omega⟩))) := by
  rw [val_main_v57_apply, val_main_v56_apply, val_main_v55_apply, val_main_v54_apply, val_main_v52_apply, mx_at]
  refine congrArg₂ (· + ·) (Eq.trans (congrArg (val_main_v51 (F := Ideal) u a ck) ?_) (total_at u a ck n r h g))
    (congrArg (fun t => Ideal.exp (t - mx (masked u ck n r h g) (a (ix2 0 ⟨h.val * 4 + g.val, by omega⟩)))) (sink_cast a n r h g))
  exact funext fun a => Fin.ext (by match a with | ⟨0, _⟩ => rfl | ⟨1, _⟩ => rfl | ⟨2, _⟩ => rfl | ⟨3, _⟩ => rfl)

theorem prob_at (u : FVec Ideal S256x5632 .f32) (a : FVec Ideal S2x16 .f32) (ck : FVec Ideal S2x32x128x4x64 .f32) (n : Fin 32) (r : Fin 8) (h g : Fin 4) (j : Fin 136) :
    val_main_v59 (F := Ideal) u a ck (ix5 n h g r j)
      = Ideal.div (Ideal.exp (masked u ck n r h g j - mx (masked u ck n r h g) (a (ix2 0 ⟨h.val * 4 + g.val, by omega⟩))))
          ((∑ j, Ideal.exp (masked u ck n r h g j - mx (masked u ck n r h g) (a (ix2 0 ⟨h.val * 4 + g.val, by omega⟩))))
            + Ideal.exp (a (ix2 0 ⟨h.val * 4 + g.val, by omega⟩) - mx (masked u ck n r h g) (a (ix2 0 ⟨h.val * 4 + g.val, by omega⟩)))) := by
  rw [val_main_v59_apply, val_main_v58_apply, weight_at,
    show idx_main_v58 (ix5 n h g r j) = ix5 n h g r 0 from funext fun a => Fin.ext (by match a with | ⟨0, _⟩ => rfl | ⟨1, _⟩ => rfl | ⟨2, _⟩ => rfl | ⟨3, _⟩ => rfl | ⟨4, _⟩ => rfl), denom_at]
  rfl

theorem mix_at (u : FVec Ideal S256x5632 .f32) (a : FVec Ideal S2x16 .f32) (ck : FVec Ideal S2x32x128x4x64 .f32) (cv : FVec Ideal S2x32x128x4x64 .f32) (n : Fin 32) (r : Fin 8) (h g : Fin 4) (d : Fin 64) :
    val_main_v61 (F := Ideal) u a ck cv (ix5 n r h g d)
      = softRef (masked u ck n r h g) (both cv (fun r => u (ix2 (rowIx n r) ⟨1280 + (h.val * 64 + d.val), by omega⟩)) n h d) (a (ix2 0 ⟨h.val * 4 + g.val, by omega⟩)) := by
  unfold softRef
  pointwise [val_main_v61, val_main_v60, vv_at, prob_at]

/-- The reference's result, one number at a time. -/
theorem ref_at (u : FVec Ideal S256x5632 .f32) (a : FVec Ideal S2x16 .f32) (ck : FVec Ideal S2x32x128x4x64 .f32) (cv : FVec Ideal S2x32x128x4x64 .f32) (n : Fin 32) (r : Fin 8) (h g : Fin 4) (d : Fin 64) :
    val_main_v65 (F := Ideal) u a ck cv (ix2 (rowIx n r) (colIx h g d))
      = softRef (masked u ck n r h g) (both cv (fun r => u (ix2 (rowIx n r) ⟨1280 + (h.val * 64 + d.val), by omega⟩)) n h d) (a (ix2 0 ⟨h.val * 4 + g.val, by omega⟩))
        * gate (u (ix2 (rowIx n r) ⟨1536 + (h.val * 256 + g.val * 64 + d.val), by omega⟩)) := by
  have e1 : (n.val * 8 + r.val) / 8 = n.val := by omega
  have e3 : (n.val * 8 + r.val) % 8 = r.val := by omega
  have e4 : (h.val * 256 + g.val * 64 + d.val) / 256 = h.val := by omega
  have e5 : (h.val * 256 + g.val * 64 + d.val) / 64 % 4 = g.val := by omega
  have e6 : (h.val * 256 + g.val * 64 + d.val) % 64 = d.val := by omega
  unfold gate
  pointwise [val_main_v65, val_main_v64, val_main_v63, val_main_v62, val_main_v9, val_main_call1_v0, val_main_call1_v1, val_main_call1_cst, val_main_call1_v2, val_main_call1_v3, val_main_call1_cst_0, val_main_call1_v4, val_main_call1_v5, mix_at]
  simp only [e1, e3, e4, e5, e6, Fin.eta, zero_sub]

end Cert.CachedRefIdeal.Layer

end
-- ==== Proof.Layer.CachedFinal.lean ====
module

public import proofs.«01_k».proof.Proof.Layer.CachedPoint
public import proofs.«01_k».proof.Proof.Layer.CachedRef
public import proofs.«01_k».proof.Proof.Layer.AttnFinite
public import proofs.«01_k».proof.Pre_finite_cached
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Attention

theorem cached_columns_real [Cert.Pre_finite_cached.Facts] (u : FVec Ideal Cert.Pre_finite_cached.S256x5632 .f32) (a : FVec Ideal Cert.Pre_finite_cached.S2x16 .f32)
    (ck cv : FVec Ideal Cert.Pre_finite_cached.S2x32x128x4x64 .f32)
    (h : (Cert.Pre_finite_cached.fn (F := Ideal) u a ck cv).1 = fun _ => 1#1) (n : Fin 256) (e : Fin 1280) :
    IsReal (u (ix2 n ⟨e.val, by omega⟩)) := by
  refine isReal_of_abs_lt _ ?_
  have := congrFun h (ix2 n e)
  unfold Cert.Pre_finite_cached.fn at this
  dsimp only at this
  revert this
  pointwise
  exact eq_one_of _

theorem cached_sinks_real [Cert.Pre_finite_cached.Facts] (u : FVec Ideal Cert.Pre_finite_cached.S256x5632 .f32) (a : FVec Ideal Cert.Pre_finite_cached.S2x16 .f32)
    (ck cv : FVec Ideal Cert.Pre_finite_cached.S2x32x128x4x64 .f32)
    (h : (Cert.Pre_finite_cached.fn (F := Ideal) u a ck cv).2.1 = fun _ => 1#1) (e : Fin 16) : IsReal (a (ix2 0 e)) := by
  refine isReal_of_abs_lt _ ?_
  have := congrFun h (ix1 e)
  unfold Cert.Pre_finite_cached.fn at this
  dsimp only at this
  revert this
  pointwise
  exact eq_one_of _

theorem cached_keys_real [Cert.Pre_finite_cached.Facts] (u : FVec Ideal Cert.Pre_finite_cached.S256x5632 .f32) (a : FVec Ideal Cert.Pre_finite_cached.S2x16 .f32)
    (ck cv : FVec Ideal Cert.Pre_finite_cached.S2x32x128x4x64 .f32)
    (h : (Cert.Pre_finite_cached.fn (F := Ideal) u a ck cv).2.2 = fun _ => 1#1) (n : Fin 32) (j : Fin 128) (k : Fin 4) (d : Fin 64) :
    IsReal (ck (ix5 0 n j k d)) := by
  refine isReal_of_abs_lt _ ?_
  have := congrFun h (ix4 n j k d)
  unfold Cert.Pre_finite_cached.fn at this
  dsimp only at this
  revert this
  pointwise
  exact eq_one_of _

end Cert.Attention

namespace Cert.CachedIdeal.Layer

open Cert.CachedIdeal Cert.CachedIdeal.Gen Cert.Softmax Cert.Attention
open Cert.CachedRefIdeal.Layer (rowIx colIx both)

/-- A sample's rows in a block are the reference's cached and new rows. -/
theorem rowAt_eq (w : FVec Ideal S1x512x256 .f32) (x : FVec Ideal S32x256 .f32) (ca : FVec Ideal S2x32x128x4x64 .f32) (G : Fin 256 → EReal)
    (p : Fin 8) (s h : Fin 4) (d : Fin 64)
    (hw : ∀ k : Fin 512, w (ix3 0 k ⟨h.val * 64 + d.val, by omega⟩) = ca (ix5 0 ⟨p.val * 4 + k.val / 128, by omega⟩ ⟨k.val % 128, by omega⟩ h d))
    (hx : ∀ k : Fin 32, x (ix2 k ⟨h.val * 64 + d.val, by omega⟩) = G ⟨p.val * 32 + k.val, by omega⟩) (j : Fin 136) (j' : Fin 256) (hj : j'.val = j.val) :
    rowAt w x s j' ⟨h.val * 64 + d.val, by omega⟩ = both ca (fun r => G (rowIx ⟨p.val * 4 + s.val, by omega⟩ r)) ⟨p.val * 4 + s.val, by omega⟩ h d j := by
  unfold rowAt both
  by_cases h1 : j.val < 128
  · rw [dif_pos (show j'.val < 128 by omega), dif_pos h1, hw]
    refine congrArg ca (congrArg₂ (fun n k => ix5 0 n k h d) (Fin.ext ?_) (Fin.ext ?_))
    · show p.val * 4 + (128 * s.val + j'.val) / 128 = p.val * 4 + s.val
      omega
    · show (128 * s.val + j'.val) % 128 = j.val
      omega
  · rw [dif_neg (show ¬ j'.val < 128 by omega), dif_pos (show j'.val - 128 < 8 by omega), dif_neg h1, hx]
    refine congrArg G (Fin.ext ?_)
    show p.val * 32 + (8 * s.val + (j'.val - 128)) = (p.val * 4 + s.val) * 8 + (j.val - 128)
    omega

variable (m : (ℓ : Loc nD τ sig) → Buf (Elt Ideal) ℓ)

theorem idx : ∀ t : Fin cfg0.N, win0_0.index t = ![0] ∧ win0_1.index t = ![(grid0.coords t 0).val, 0]
    ∧ win0_2.index t = ![(grid0.coords t 0).val, 3] ∧ win0_3.index t = ![(grid0.coords t 0).val, 4]
    ∧ win0_4.index t = ![0, (grid0.coords t 0).val, 0] ∧ win0_5.index t = ![(grid0.coords t 0).val, 4]
    ∧ win0_6.index t = ![0, (grid0.coords t 0).val, 0] ∧ win0_7.index t = ![(grid0.coords t 0).val, 5]
    ∧ win0_8.index t = ![(grid0.coords t 0).val, 0] :=
  (by decide +kernel : ∀ t : Fin grid0.N, _)

/-- The columns, as the run finds them. -/
abbrev uu (c : Dev nD) : FVec Ideal S256x5632 .f32 := m ((c : Thread nD τ).loc main_arg0)

/-- The cached keys, as the run finds them. -/
abbrev ck (c : Dev nD) : FVec Ideal S2x32x128x4x64 .f32 := m ((c : Thread nD τ).loc main_arg2)

/-- The cached values, as the run finds them. -/
abbrev cv (c : Dev nD) : FVec Ideal S2x32x128x4x64 .f32 := m ((c : Thread nD τ).loc main_arg3)

/-- The group of four samples a point works on. -/
abbrev tt (t : Fin cfg0.N) : Fin 8 := grid0.coords t 0

theorem sinks_blk (c : Dev nD) (t : Fin cfg0.N) (e : Fin 16) :
    iblk m c 0 t (ix1 e) = m ((c : Thread nD τ).loc main_arg1) (ix2 0 e) := by
  blk_point [iblk, idx t]

theorem q_blk (c : Dev nD) (t : Fin cfg0.N) (k : Fin 32) (e : Fin 1024) :
    X0_1 m c t (ix2 k e) = uu m c (ix2 ⟨(tt t).val * 32 + k.val, by have := (tt t).isLt; omega⟩ ⟨e.val, by omega⟩) := by
  unfold X0_1 Pipeline.Window.fill
  rw [dif_pos (moved0_1 t _)]
  blk_point [iblk, idx t]
  all_goals (simp only [tt]; omega)

theorem z1_blk (c : Dev nD) (t : Fin cfg0.N) (k : Fin 32) (e : Fin 512) :
    iblk m c 2 t (ix2 k e) = uu m c (ix2 ⟨(tt t).val * 32 + k.val, by have := (tt t).isLt; omega⟩ ⟨1536 + e.val, by omega⟩) := by
  blk_point [iblk, idx t]
  all_goals (simp only [tt]; omega)

theorem z2_blk (c : Dev nD) (t : Fin cfg0.N) (k : Fin 32) (e : Fin 512) :
    iblk m c 3 t (ix2 k e) = uu m c (ix2 ⟨(tt t).val * 32 + k.val, by have := (tt t).isLt; omega⟩ ⟨2048 + e.val, by omega⟩) := by
  blk_point [iblk, idx t]
  all_goals (simp only [tt]; omega)

theorem k_blk (c : Dev nD) (t : Fin cfg0.N) (k : Fin 32) (e : Fin 256) :
    iblk m c 5 t (ix2 k e) = uu m c (ix2 ⟨(tt t).val * 32 + k.val, by have := (tt t).isLt; omega⟩ ⟨1024 + e.val, by omega⟩) := by
  blk_point [iblk, idx t]
  all_goals (simp only [tt]; omega)

theorem v_blk (c : Dev nD) (t : Fin cfg0.N) (k : Fin 32) (e : Fin 256) :
    iblk m c 7 t (ix2 k e) = uu m c (ix2 ⟨(tt t).val * 32 + k.val, by have := (tt t).isLt; omega⟩ ⟨1280 + e.val, by omega⟩) := by
  blk_point [iblk, idx t]
  all_goals (simp only [tt]; omega)

theorem ck_blk (c : Dev nD) (t : Fin cfg0.N) (k : Fin 512) (h : Fin 4) (d : Fin 64) :
    iblk m c 4 t (ix3 0 k ⟨h.val * 64 + d.val, by omega⟩)
      = ck m c (ix5 0 ⟨(tt t).val * 4 + k.val / 128, by have := (tt t).isLt; omega⟩ ⟨k.val % 128, by omega⟩ h d) := by
  have := (tt t).isLt
  blk_point [iblk, idx t]
  all_goals (simp only [tt] at *; omega)

theorem cv_blk (c : Dev nD) (t : Fin cfg0.N) (k : Fin 512) (h : Fin 4) (d : Fin 64) :
    iblk m c 6 t (ix3 0 k ⟨h.val * 64 + d.val, by omega⟩)
      = cv m c (ix5 0 ⟨(tt t).val * 4 + k.val / 128, by have := (tt t).isLt; omega⟩ ⟨k.val % 128, by omega⟩ h d) := by
  have := (tt t).isLt
  blk_point [iblk, idx t]
  all_goals (simp only [tt] at *; omega)

/-- The reference's score is never `⊤`: it is real or `⊥`. -/
theorem masked_ne_top (u : FVec Ideal S256x5632 .f32) (ca : FVec Ideal S2x32x128x4x64 .f32)
    (hu : ∀ (n : Fin 256) (e : Fin 1280), IsReal (u (ix2 n ⟨e.val, by omega⟩)))
    (hc : ∀ (n : Fin 32) (j : Fin 128) (h : Fin 4) (d : Fin 64), IsReal (ca (ix5 0 n j h d)))
    (n : Fin 32) (r : Fin 8) (h g : Fin 4) (j : Fin 136) : Cert.CachedRefIdeal.Layer.masked u ca n r h g j ≠ ⊤ := by
  unfold Cert.CachedRefIdeal.Layer.masked Cert.CachedRefIdeal.Layer.score
  split
  · obtain ⟨x, hx⟩ : IsReal ((∑ d : Fin 64, u (ix2 (rowIx n r) ⟨h.val * 256 + g.val * 64 + d.val, by omega⟩)
        * both ca (fun r => u (ix2 (rowIx n r) ⟨1024 + (h.val * 64 + d.val), by omega⟩)) n h d j) * Ideal.ofBits .f32 0x3E000000#32) := by
      refine IsReal.mul (IsReal.sum _ _ fun d => IsReal.mul (hu _ ⟨h.val * 256 + g.val * 64 + d.val, by omega⟩) ?_) eighth_real
      unfold both
      split
      · exact hc ..
      · exact hu _ ⟨1024 + (h.val * 64 + d.val), by omega⟩
    rw [hx]
    exact EReal.coe_ne_top x
  · exact bot_ne_top

/-- One number of the block the body leaves at point `t` is the reference's at its place. -/
theorem number_eq (c : Dev nD) (t : Fin cfg0.N) (hu : ∀ (n : Fin 256) (e : Fin 1280), IsReal (uu m c (ix2 n ⟨e.val, by omega⟩)))
    (hs : ∀ e : Fin 16, IsReal (m ((c : Thread nD τ).loc main_arg1) (ix2 0 e)))
    (hc : ∀ (n : Fin 32) (j : Fin 128) (h : Fin 4) (d : Fin 64), IsReal (ck m c (ix5 0 n j h d))) (s : Fin 4) (r : Fin 8) (h g : Fin 4) (d : Fin 64) :
    number (iblk m c 0 t) (X0_1 m c t) (iblk m c 2 t) (iblk m c 3 t) (iblk m c 4 t) (iblk m c 5 t) (iblk m c 6 t) (iblk m c 7 t) s r h g d
      = Cert.CachedRefIdeal.Read.val_main_v65 (F := Ideal) (uu m c) (m ((c : Thread nD τ).loc main_arg1)) (ck m c) (cv m c)
          (ix2 (rowIx ⟨(tt t).val * 4 + s.val, by have := (tt t).isLt; omega⟩ r) (colIx h g d)) := by
  have ht := (tt t).isLt
  rw [Cert.CachedRefIdeal.Layer.ref_at]
  unfold number
  refine congrArg₂ (· * ·) ?_ (congrArg gate ?_)
  · refine (soft_extend (n := 136) (k := 120) _ _ _ (fun j => if_neg fun hj => ?_)).trans ?_
    · have h2 : 136 + j.val ≤ r.val + 128 := hj.2
      omega
    obtain ⟨sk, hsk⟩ := hs ⟨h.val * 4 + g.val, by omega⟩
    have hk : iblk m c 0 t (ix1 (⟨4 * h.val + g.val, by omega⟩ : Fin 16)) = (sk : EReal) := by
      rw [sinks_blk, ← hsk]
      refine congrArg (fun e => m ((c : Thread nD τ).loc main_arg1) (ix2 0 e)) (Fin.ext ?_)
      show 4 * h.val + g.val = h.val * 4 + g.val
      omega
    rw [hsk]
    refine Eq.trans ?_ (soft_eq (Cert.CachedRefIdeal.Layer.masked (uu m c) (ck m c) ⟨(tt t).val * 4 + s.val, by omega⟩ r h g) _ _ sk
      (fun j => masked_ne_top _ _ hu hc _ _ _ _ _) fun j _ =>
        rowAt_eq (iblk m c 6 t) (iblk m c 7 t) (cv m c) (fun R => uu m c (ix2 R ⟨1280 + (h.val * 64 + d.val), by omega⟩)) (tt t) s h d
          (fun k => cv_blk m c t k h d) (fun k => v_blk m c t k _) j (Fin.castAdd 120 j) rfl)
    refine congrArg₂ (fun (S : Fin 136 → EReal) z => soft S _ z) (funext fun j => ?_) hk
    unfold Cert.CachedRefIdeal.Layer.masked
    refine if_congr Iff.rfl (congrArg (· * Ideal.ofBits .f32 0x3E000000#32) ?_) rfl
    unfold score Cert.CachedRefIdeal.Layer.score
    refine Finset.sum_congr rfl fun d _ => ?_
    rw [q_blk, rowAt_eq (iblk m c 4 t) (iblk m c 5 t) (ck m c) (fun R => uu m c (ix2 R ⟨1024 + (h.val * 64 + d.val), by omega⟩)) (tt t) s h d
      (fun k => ck_blk m c t k h d) (fun k => k_blk m c t k _) j (Fin.castAdd 120 j) rfl]
    refine congrArg (· * _) (congrArg (uu m c) (congrArg₂ ix2 (Fin.ext ?_) rfl))
    show (tt t).val * 32 + (s.val * 8 + r.val) = ((tt t).val * 4 + s.val) * 8 + r.val
    omega
  · unfold zrow
    split
    · rw [z1_blk]
      refine congrArg (uu m c) (congrArg₂ ix2 (Fin.ext ?_) rfl)
      show (tt t).val * 32 + (s.val * 8 + r.val) = ((tt t).val * 4 + s.val) * 8 + r.val
      omega
    · rename_i he
      have he' : ¬ h.val * 256 + g.val * 64 + d.val < 512 := he
      rw [z2_blk]
      refine congrArg (uu m c) (congrArg₂ ix2 (Fin.ext ?_) (Fin.ext ?_))
      · show (tt t).val * 32 + (s.val * 8 + r.val) = ((tt t).val * 4 + s.val) * 8 + r.val
        omega
      · show 2048 + (h.val * 256 + g.val * 64 + d.val - 512) = 1536 + (h.val * 256 + g.val * 64 + d.val)
        omega

/-- The block the body leaves at point `t` is the reference at the block's place. -/
theorem point (c : Dev nD) (t : Fin cfg0.N) (hu : ∀ (n : Fin 256) (e : Fin 1280), IsReal (uu m c (ix2 n ⟨e.val, by omega⟩)))
    (hs : ∀ e : Fin 16, IsReal (m ((c : Thread nD τ).loc main_arg1) (ix2 0 e)))
    (hc : ∀ (n : Fin 32) (j : Fin 128) (h : Fin 4) (d : Fin 64), IsReal (ck m c (ix5 0 n j h d))) (y : S32x1024.Idx) :
    block (F := Ideal) (iblk m c 0 t) (X0_1 m c t) (iblk m c 2 t) (iblk m c 3 t) (iblk m c 4 t) (iblk m c 5 t) (iblk m c 6 t) (iblk m c 7 t) y
      = Cert.CachedRefIdeal.Read.val_main_v65 (F := Ideal) (uu m c) (m ((c : Thread nD τ).loc main_arg1)) (ck m c) (cv m c) (((cfg0.win 8).blk t).view.emb y) := by
  have h0 : (y 0).val < 32 := (y 0).isLt
  have h1 : (y 1).val < 1024 := (y 1).isLt
  have hy : y = ix2 (⟨(⟨(y 0).val / 8, by omega⟩ : Fin 4).val * 8 + (⟨(y 0).val % 8, by omega⟩ : Fin 8).val, by show (y 0).val / 8 * 8 + (y 0).val % 8 < 32; omega⟩ : Fin 32)
      (⟨(⟨(y 1).val / 256, by omega⟩ : Fin 4).val * 256 + (⟨(y 1).val / 64 % 4, by omega⟩ : Fin 4).val * 64 + (⟨(y 1).val % 64, by omega⟩ : Fin 64).val, by
        show (y 1).val / 256 * 256 + (y 1).val / 64 % 4 * 64 + (y 1).val % 64 < 1024; omega⟩ : Fin 1024) := by
    conv_lhs => rw [eq_ix2 y]
    refine congrArg₂ ix2 (Fin.ext ?_) (Fin.ext ?_)
    · show (y 0).val = (y 0).val / 8 * 8 + (y 0).val % 8
      omega
    · show (y 1).val = (y 1).val / 256 * 256 + (y 1).val / 64 % 4 * 64 + (y 1).val % 64
      omega
  refine Eq.trans (congrArg _ hy) ((block_at ..).trans ((number_eq m c t hu hs hc ..).trans (congrArg _ ?_)))
  rw [eq_ix2 (((cfg0.win 8).blk t).view.emb y)]
  refine congrArg₂ ix2 (Fin.ext ?_) (Fin.ext ?_)
  · blk_simp [idx t]
    show ((grid0.coords t 0).val * 4 + (y 0).val / 8) * 8 + (y 0).val % 8 = _
    omega
  · blk_simp [idx t]
    show (y 1).val / 256 * 256 + (y 1).val / 64 % 4 * 64 + (y 1).val % 64 = _
    omega

/-- The result array after the run. -/
theorem final (c : Dev nD) (hu : ∀ (n : Fin 256) (e : Fin 1280), IsReal (uu m c (ix2 n ⟨e.val, by omega⟩)))
    (hs : ∀ e : Fin 16, IsReal (m ((c : Thread nD τ).loc main_arg1) (ix2 0 e)))
    (hc : ∀ (n : Fin 32) (j : Fin 128) (h : Fin 4) (d : Fin 64), IsReal (ck m c (ix5 0 n j h d))) : (dats m 0 c).arrAt 8 cfg0.N
    = Cert.CachedRefIdeal.Read.val_main_v65 (F := Ideal) (uu m c) (m ((c : Thread nD τ).loc main_arg1)) (ck m c) (cv m c) := by
  refine (dats m 0 c).arrAt_eq_of_covers 8 _ (by decide +kernel) fun t _ y => ?_
  blk_simp
  rw [after0_8]
  unfold outsAt0
  rw [out_eq]
  exact point m c t hu hs hc y

end Cert.CachedIdeal.Layer

end
-- ==== Proof.Layer.OutLast.lean ====
module

public import proofs.«01_k».proof.Proof.Gen.OutLastIdeal.Value
public import proofs.«01_k».proof.Proof.Gen.OutLastRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutLastIdeal.Layer

open Cert.OutLastIdeal Cert.OutLastIdeal.Gen

/-- The residual plus projection, before the norm, at a row and a column. -/
def res (y : FVec Ideal ⟨2, ![8192, 2048]⟩ .bf16) (w : FVec Ideal ⟨3, ![2, 2048, 2048]⟩ .f32)
    (x : FVec Ideal ⟨2, ![8192, 2048]⟩ .f32) (r : Fin 8192) (q : Fin 2048) : EReal :=
  x (ix2 r q) + ∑ k : Fin 2048, y (ix2 r k) * w (ix3 1 k q)

/-- One element of a row over the root of its mean square plus a small constant, times a gain. -/
def normed (f : Fin 2048 → EReal) (g : EReal) (q : Fin 2048) : EReal :=
  f q * Ideal.rsqrt (Ideal.div (∑ k : Fin 2048, f k * f k) (Ideal.ofBits .f32 0x45000000#32) + Ideal.ofBits .f32 0x358637BD#32) * g

/-- The same sum over one block of rows. -/
def resBlock (x : FVec Ideal S512x2048 .f32) (y : FVec Ideal S512x2048 .bf16) (w : FVec Ideal S1x2048x2048 .bf16)
    (r : Fin 512) (q : Fin 2048) : EReal :=
  x (ix2 r q) + ∑ k : Fin 2048, y (ix2 r k) * w (ix3 0 k q)

/-- The block stored at one grid point, read at an index. -/
theorem pay_at (x : FVec Ideal S512x2048 .f32) (y : FVec Ideal S512x2048 .bf16)
    (w : FVec Ideal S1x2048x2048 .bf16) (g : FVec Ideal S1x2048 .f32) (r : Fin 512) (q : Fin 2048) :
    k0_pay1 (F := Ideal) x y w g (ix2 r q)
      = normed (resBlock x y w r) (g (ix2 0 q)) q := by
  unfold normed resBlock
  pointwise [k0_pay1]

open Cert.OutLastRefIdeal.Read in
/-- The reference's result at an index. -/
theorem ref_at (y : FVec Ideal ⟨2, ![8192, 2048]⟩ .bf16) (w : FVec Ideal ⟨3, ![2, 2048, 2048]⟩ .f32)
    (x : FVec Ideal ⟨2, ![8192, 2048]⟩ .f32) (g : FVec Ideal ⟨1, ![2048]⟩ .f32) (r : Fin 8192) (q : Fin 2048) :
    val_main_v17 (F := Ideal) y w x g (ix2 r q) = normed (res y w x r) (g (ix1 q)) q := by
  unfold normed res
  pointwise [val_main_v17, val_main_v16, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0]

variable (m : (ℓ : Loc nD τ sig) → Buf (Elt Ideal) ℓ)

theorem idx : ∀ t : Fin cfg0.N, win0_0.index t = ![(grid0.coords t 0).val, 0] ∧ win0_1.index t = ![1, 0, 0]
    ∧ win0_2.index t = ![(grid0.coords t 0).val, 0] ∧ win0_3.index t = ![0, 0] ∧ win0_4.index t = ![(grid0.coords t 0).val, 0] :=
  (by decide +kernel : ∀ t : Fin grid0.N, _)

/-- The block the body leaves at point `t` is the reference at the block's place. -/
theorem point (c : Dev nD) (t : Fin cfg0.N) (y : S512x2048.Idx) :
    k0_pay1 (F := Ideal) (iblk m c 2 t) (iblk m c 0 t) (iblk m c 1 t) (iblk m c 3 t) y
      = Cert.OutLastRefIdeal.Read.val_main_v17 (F := Ideal) (m ((c : Thread nD τ).loc main_arg0)) (m ((c : Thread nD τ).loc main_arg1))
          (m ((c : Thread nD τ).loc main_arg2)) (m ((c : Thread nD τ).loc main_arg3)) (((cfg0.win 4).blk t).view.emb y) := by
  rw [eq_ix2 y, eq_ix2 (((cfg0.win 4).blk t).view.emb _)]
  refine (pay_at _ _ _ _ _ _).trans (Eq.trans ?_ (ref_at _ _ _ _ _ _).symm)
  have hf : resBlock (iblk m c 2 t) (iblk m c 0 t) (iblk m c 1 t) (y 0)
      = res (m ((c : Thread nD τ).loc main_arg0)) (m ((c : Thread nD τ).loc main_arg1))
          (m ((c : Thread nD τ).loc main_arg2)) (((cfg0.win 4).blk t).view.emb (ix2 (y 0) (y 1)) 0) := by
    funext q
    unfold res resBlock
    blk_point [iblk, idx t]
  have hg : iblk m c 3 t (ix2 0 (y 1)) = m ((c : Thread nD τ).loc main_arg3) (ix1 (((cfg0.win 4).blk t).view.emb (ix2 (y 0) (y 1)) 1)) := by
    blk_point [iblk, idx t]
  have hq : y 1 = ((cfg0.win 4).blk t).view.emb (ix2 (y 0) (y 1)) 1 := by
    apply Fin.ext
    blk_simp [idx t]
  exact congr (congr (congrArg normed hf) hg) hq

/-- The result array after the run. -/
theorem final (c : Dev nD) : (dats m 0 c).arrAt 4 cfg0.N
    = Cert.OutLastRefIdeal.Read.val_main_v17 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.OutLastIdeal.Layer

end
-- ==== Proof.Layer.OutSamples.lean ====
module

public import proofs.«01_k».proof.Proof.Gen.OutSamplesIdeal.Value
public import proofs.«01_k».proof.Proof.Gen.OutSamplesRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutSamplesIdeal.Layer

open Cert.OutSamplesIdeal Cert.OutSamplesIdeal.Gen

/-- The residual plus projection, before the norm, at a row and a column. -/
def res (y : FVec Ideal ⟨2, ![256, 2048]⟩ .f32) (w : FVec Ideal ⟨3, ![2, 2048, 2048]⟩ .f32)
    (x : FVec Ideal ⟨2, ![256, 2048]⟩ .f32) (r : Fin 256) (q : Fin 2048) : EReal :=
  x (ix2 r q) + ∑ k : Fin 2048, y (ix2 r k) * w (ix3 1 k q)

/-- One element of a row over the root of its mean square plus a small constant, times a gain. -/
def normed (f : Fin 2048 → EReal) (g : EReal) (q : Fin 2048) : EReal :=
  f q * Ideal.rsqrt (Ideal.div (∑ k : Fin 2048, f k * f k) (Ideal.ofBits .f32 0x45000000#32) + Ideal.ofBits .f32 0x358637BD#32) * g

/-- The same sum over one block of rows. -/
def resBlock (x : FVec Ideal S256x2048 .f32) (y : FVec Ideal S256x2048 .f32) (w : FVec Ideal S1x2048x2048 .bf16)
    (r : Fin 256) (q : Fin 2048) : EReal :=
  x (ix2 r q) + ∑ k : Fin 2048, y (ix2 r k) * w (ix3 0 k q)

/-- The block stored at one grid point, read at an index. -/
theorem pay_at (x : FVec Ideal S256x2048 .f32) (y : FVec Ideal S256x2048 .f32)
    (w : FVec Ideal S1x2048x2048 .bf16) (g : FVec Ideal S1x2048 .f32) (r : Fin 256) (q : Fin 2048) :
    k0_pay1 (F := Ideal) x y w g (ix2 r q)
      = normed (resBlock x y w r) (g (ix2 0 q)) q := by
  unfold normed resBlock
  pointwise [k0_pay1]

open Cert.OutSamplesRefIdeal.Read in
/-- The reference's result at an index. -/
theorem ref_at (y : FVec Ideal ⟨2, ![256, 2048]⟩ .f32) (w : FVec Ideal ⟨3, ![2, 2048, 2048]⟩ .f32)
    (x : FVec Ideal ⟨2, ![256, 2048]⟩ .f32) (g : FVec Ideal ⟨1, ![2048]⟩ .f32) (r : Fin 256) (q : Fin 2048) :
    val_main_v16 (F := Ideal) y w x g (ix2 r q) = normed (res y w x r) (g (ix1 q)) q := by
  unfold normed res
  pointwise [val_main_v16, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0]

variable (m : (ℓ : Loc nD τ sig) → Buf (Elt Ideal) ℓ)

theorem idx : ∀ t : Fin cfg0.N, win0_0.index t = ![(grid0.coords t 0).val, 0] ∧ win0_1.index t = ![1, 0, 0]
    ∧ win0_2.index t = ![(grid0.coords t 0).val, 0] ∧ win0_3.index t = ![0, 0] ∧ win0_4.index t = ![(grid0.coords t 0).val, 0] :=
  (by decide +kernel : ∀ t : Fin grid0.N, _)

/-- The block the body leaves at point `t` is the reference at the block's place. -/
theorem point (c : Dev nD) (t : Fin cfg0.N) (y : S256x2048.Idx) :
    k0_pay1 (F := Ideal) (iblk m c 2 t) (iblk m c 0 t) (iblk m c 1 t) (iblk m c 3 t) y
      = Cert.OutSamplesRefIdeal.Read.val_main_v16 (F := Ideal) (m ((c : Thread nD τ).loc main_arg0)) (m ((c : Thread nD τ).loc main_arg1))
          (m ((c : Thread nD τ).loc main_arg2)) (m ((c : Thread nD τ).loc main_arg3)) (((cfg0.win 4).blk t).view.emb y) := by
  rw [eq_ix2 y, eq_ix2 (((cfg0.win 4).blk t).view.emb _)]
  refine (pay_at _ _ _ _ _ _).trans (Eq.trans ?_ (ref_at _ _ _ _ _ _).symm)
  have hf : resBlock (iblk m c 2 t) (iblk m c 0 t) (iblk m c 1 t) (y 0)
      = res (m ((c : Thread nD τ).loc main_arg0)) (m ((c : Thread nD τ).loc main_arg1))
          (m ((c : Thread nD τ).loc main_arg2)) (((cfg0.win 4).blk t).view.emb (ix2 (y 0) (y 1)) 0) := by
    funext q
    unfold res resBlock
    blk_point [iblk, idx t]
  have hg : iblk m c 3 t (ix2 0 (y 1)) = m ((c : Thread nD τ).loc main_arg3) (ix1 (((cfg0.win 4).blk t).view.emb (ix2 (y 0) (y 1)) 1)) := by
    blk_point [iblk, idx t]
  have hq : y 1 = ((cfg0.win 4).blk t).view.emb (ix2 (y 0) (y 1)) 1 := by
    apply Fin.ext
    blk_simp [idx t]
  exact congr (congr (congrArg normed hf) hg) hq

/-- The result array after the run. -/
theorem final (c : Dev nD) : (dats m 0 c).arrAt 4 cfg0.N
    = Cert.OutSamplesRefIdeal.Read.val_main_v16 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.OutSamplesIdeal.Layer

end
-- ==== Proof.lean ====
module

public import proofs.«01_k».proof.Defs
public import proofs.«01_k».proof.Proof.Gen.Kernel.Frame
public import proofs.«01_k».proof.Proof.Gen.InEven.Frame
public import proofs.«01_k».proof.Proof.Gen.InOdd.Frame
public import proofs.«01_k».proof.Proof.Gen.OutEven.Frame
public import proofs.«01_k».proof.Proof.Gen.OutOdd.Frame
public import proofs.«01_k».proof.Proof.Gen.Cached.Frame
public import proofs.«01_k».proof.Proof.Gen.OutLast.Frame
public import proofs.«01_k».proof.Proof.Gen.OutSamples.Frame
public import proofs.«01_k».proof.Proof.Gen.KernelIdeal.Frame
public import proofs.«01_k».proof.Proof.Gen.InEvenIdeal.Frame
public import proofs.«01_k».proof.Proof.Gen.InOddIdeal.Frame
public import proofs.«01_k».proof.Proof.Gen.OutEvenIdeal.Frame
public import proofs.«01_k».proof.Proof.Gen.OutOddIdeal.Frame
public import proofs.«01_k».proof.Proof.Gen.CachedIdeal.Frame
public import proofs.«01_k».proof.Proof.Gen.OutLastIdeal.Frame
public import proofs.«01_k».proof.Proof.Gen.OutSamplesIdeal.Frame
public import proofs.«01_k».proof.Proof.Layer.AttnFinal
public import proofs.«01_k».proof.Proof.Layer.InEven
public import proofs.«01_k».proof.Proof.Layer.InOdd
public import proofs.«01_k».proof.Proof.Layer.OutEven
public import proofs.«01_k».proof.Proof.Layer.OutOdd
public import proofs.«01_k».proof.Proof.Layer.CachedFinal
public import proofs.«01_k».proof.Proof.Layer.OutLast
public import proofs.«01_k».proof.Proof.Layer.OutSamples
public import proofs.«01_k».proof.Proof.Gen.Pre_finite_scores
public import proofs.«01_k».proof.Proof.Gen.Pre_finite_cached
public import proofs.«01_k».proof.Proof.Gen.CachedRefIdeal
public import proofs.«01_k».proof.Proof.Gen.CachedRefIdeal.Run
public import proofs.«01_k».proof.Proof.Gen.InEvenRefIdeal
public import proofs.«01_k».proof.Proof.Gen.InEvenRefIdeal.Run
public import proofs.«01_k».proof.Proof.Gen.InOddRefIdeal
public import proofs.«01_k».proof.Proof.Gen.InOddRefIdeal.Run

/-!
The proof of `Cert.Claim`.  Each kernel runs block by block over a grid; the modules under `Proof/Layer/` show that the
blocks written by the grid are the blocks of the array the plain-mathematics reference computes.  Here the runs of the two
programs are put side by side.
-/

@[expose] public section

set_option maxRecDepth 16384

noncomputable section

open Idealize.ShloMosaic Idealize.ShloMosaic.TcCoe Idealize.SL.Sem

namespace Cert.Proof

theorem frame_kernel : Cert.quiescent_Kernel := fun m ρ _ => Cert.Kernel.Gen.frame m ρ

theorem frame_kernel_ideal : Cert.quiescent_KernelIdeal := fun m ρ _ => Cert.KernelIdeal.Gen.frame m ρ

theorem frame_kernel_ideal_pre : Cert.quiescent_KernelIdeal_pre_finite_scores := fun m ρ _ => Cert.KernelIdeal.Gen.frame m ρ

theorem frame_reference : Cert.quiescent_ReferenceIdeal := fun m g _ =>
  (θ_run Cert.ReferenceIdeal.defs _ _).mono (fun r h => ⟨fun c => (h c).2, sem_eq_zero_of_no_sems rfl _⟩)
    (Cert.ReferenceIdeal.Value.run (F := Ideal) m g)

theorem frame_reference_pre : Cert.quiescent_ReferenceIdeal_pre_finite_scores := fun m g _ => frame_reference m g trivial

/-- The even input projection and its idealization have one text, so the run proved over any float values serves both. -/
theorem in_even_body : Cert.InEven.defs (F := Bits) = Cert.InEvenIdeal.defs (F := Bits) := by
  sl_kernel_rfl

theorem frame_in_even : Cert.quiescent_InEven := fun m ρ _ => by
  have h := Cert.InEvenIdeal.Layer.frame (F := Bits) m ρ
  rw [← in_even_body] at h
  exact h

theorem frame_in_even_ideal : Cert.quiescent_InEvenIdeal := fun m ρ _ => Cert.InEvenIdeal.Layer.frame m ρ

theorem frame_in_even_ref : Cert.quiescent_InEvenRefIdeal := fun m g _ =>
  (θ_run Cert.InEvenRefIdeal.defs _ _).mono (fun r h => ⟨fun c => (h c).2.2, sem_eq_zero_of_no_sems rfl _⟩)
    (Cert.InEvenRefIdeal.Value.run (F := Ideal) m g)

theorem frame_in_odd : Cert.quiescent_InOdd := fun m ρ _ => Cert.InOdd.Gen.frame m ρ

theorem frame_in_odd_ideal : Cert.quiescent_InOddIdeal := fun m ρ _ => Cert.InOddIdeal.Gen.frame m ρ

theorem frame_in_odd_ref : Cert.quiescent_InOddRefIdeal := fun m g _ =>
  (θ_run Cert.InOddRefIdeal.defs _ _).mono (fun r h => ⟨fun c => (h c).2.2, sem_eq_zero_of_no_sems rfl _⟩)
    (Cert.InOddRefIdeal.Value.run (F := Ideal) m g)

theorem frame_out_even : Cert.quiescent_OutEven := fun m ρ _ => Cert.OutEven.Gen.frame m ρ

theorem frame_out_even_ideal : Cert.quiescent_OutEvenIdeal := fun m ρ _ => Cert.OutEvenIdeal.Gen.frame m ρ

theorem frame_out_even_ref : Cert.quiescent_OutEvenRefIdeal := fun m g _ =>
  (θ_run Cert.OutEvenRefIdeal.defs _ _).mono (fun r h => ⟨fun c => (h c).2, sem_eq_zero_of_no_sems rfl _⟩)
    (Cert.OutEvenRefIdeal.Value.run (F := Ideal) m g)

theorem frame_out_odd : Cert.quiescent_OutOdd := fun m ρ _ => Cert.OutOdd.Gen.frame m ρ

theorem frame_out_odd_ideal : Cert.quiescent_OutOddIdeal := fun m ρ _ => Cert.OutOddIdeal.Gen.frame m ρ

theorem frame_out_odd_ref : Cert.quiescent_OutOddRefIdeal := fun m g _ =>
  (θ_run Cert.OutOddRefIdeal.defs _ _).mono (fun r h => ⟨fun c => (h c).2, sem_eq_zero_of_no_sems rfl _⟩)
    (Cert.OutOddRefIdeal.Value.run (F := Ideal) m g)

theorem frame_cached : Cert.quiescent_Cached := fun m ρ _ => Cert.Cached.Gen.frame m ρ

theorem frame_cached_ideal : Cert.quiescent_CachedIdeal := fun m ρ _ => Cert.CachedIdeal.Gen.frame m ρ

theorem frame_cached_ref : Cert.quiescent_CachedRefIdeal := fun m g _ =>
  (θ_run Cert.CachedRefIdeal.defs _ _).mono (fun r h => ⟨fun c => (h c).2, sem_eq_zero_of_no_sems rfl _⟩)
    (Cert.CachedRefIdeal.Value.run (F := Ideal) m g)

theorem frame_out_last : Cert.quiescent_OutLast := fun m ρ _ => Cert.OutLast.Gen.frame m ρ

theorem frame_out_last_ideal : Cert.quiescent_OutLastIdeal := fun m ρ _ => Cert.OutLastIdeal.Gen.frame m ρ

theorem frame_out_last_ref : Cert.quiescent_OutLastRefIdeal := fun m g _ =>
  (θ_run Cert.OutLastRefIdeal.defs _ _).mono (fun r h => ⟨fun c => (h c).2, sem_eq_zero_of_no_sems rfl _⟩)
    (Cert.OutLastRefIdeal.Value.run (F := Ideal) m g)

theorem frame_out_samples : Cert.quiescent_OutSamples := fun m ρ _ => Cert.OutSamples.Gen.frame m ρ

theorem frame_out_samples_ideal : Cert.quiescent_OutSamplesIdeal := fun m ρ _ => Cert.OutSamplesIdeal.Gen.frame m ρ

theorem frame_out_samples_ref : Cert.quiescent_OutSamplesRefIdeal := fun m g _ =>
  (θ_run Cert.OutSamplesRefIdeal.defs _ _).mono (fun r h => ⟨fun c => (h c).2, sem_eq_zero_of_no_sems rfl _⟩)
    (Cert.OutSamplesRefIdeal.Value.run (F := Ideal) m g)

theorem frame_cached_ideal_pre : Cert.quiescent_CachedIdeal_pre_finite_cached := fun m ρ _ => Cert.CachedIdeal.Gen.frame m ρ

theorem frame_cached_ref_pre : Cert.quiescent_CachedRefIdeal_pre_finite_cached := fun m g _ => frame_cached_ref m g trivial

/-- The attention call and its reference write the same array, where the queries, the keys and the sinks are finite. -/
theorem attention : Cert.algebraic_KernelIdeal_ReferenceIdeal_pre_finite_scores := by
  intro m g m' g' hpre h
  refine ⟨fun c => Cert.ReferenceIdeal.Read.val_main_v80 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r hr c => ⟨(hr c).1.trans ?_, (hr c).2⟩)
      (Cert.KernelIdeal.Value.run_blocks (F := Ideal) m g)
    exact Cert.KernelIdeal.Layer.final m c (fun n e => Cert.Attention.scores_real _ _ (hpre c).1 n e)
      (fun e => Cert.Attention.sinks_real _ _ (hpre c).2 e)
  · refine (θ_run Cert.ReferenceIdeal.defs _ _).mono (fun r hr c => ⟨(hr c).1.trans ?_, (hr c).2⟩)
      (Cert.ReferenceIdeal.Value.run (F := Ideal) m' g')
    refine (Cert.ReferenceIdeal.Read.val_main_v80_eq m' c).trans ?_
    rw [(h c).1, (h c).2]

/-- The attention over the cached window and its reference write the same array, where the queries, the keys, new and
    cached, and the sinks are finite. -/
theorem cached_attention : Cert.algebraic_CachedIdeal_CachedRefIdeal_pre_finite_cached := by
  intro m g m' g' hpre h
  refine ⟨fun c => Cert.CachedRefIdeal.Read.val_main_v65 (F := Ideal) (m ((c.tc : Thread Cert.CachedIdeal.nD Cert.CachedIdeal.τ).loc Cert.CachedIdeal.main_arg0)) (m ((c.tc : Thread Cert.CachedIdeal.nD Cert.CachedIdeal.τ).loc Cert.CachedIdeal.main_arg1)) (m ((c.tc : Thread Cert.CachedIdeal.nD Cert.CachedIdeal.τ).loc Cert.CachedIdeal.main_arg2)) (m ((c.tc : Thread Cert.CachedIdeal.nD Cert.CachedIdeal.τ).loc Cert.CachedIdeal.main_arg3)), ?_, ?_⟩
  · refine (θ_run Cert.CachedIdeal.defs _ _).mono (fun r hr c => ⟨(hr c).1.trans ?_, (hr c).2⟩)
      (Cert.CachedIdeal.Value.run_blocks (F := Ideal) m g)
    exact Cert.CachedIdeal.Layer.final m c (fun n e => Cert.Attention.cached_columns_real _ _ _ _ (hpre c).1 n e)
      (fun e => Cert.Attention.cached_sinks_real _ _ _ _ (hpre c).2.1 e)
      (fun n j k d => Cert.Attention.cached_keys_real _ _ _ _ (hpre c).2.2 n j k d)
  · refine (θ_run Cert.CachedRefIdeal.defs _ _).mono (fun r hr c => ⟨(hr c).1.trans ?_, (hr c).2⟩)
      (Cert.CachedRefIdeal.Value.run (F := Ideal) m' g')
    refine (Cert.CachedRefIdeal.Read.val_main_v65_eq m' c).trans ?_
    rw [(h c).1, (h c).2.1, (h c).2.2.1, (h c).2.2.2]

theorem value_out_even : Cert.algebraic_OutEvenIdeal_OutEvenRefIdeal := by
  intro m g m' g' _ h
  refine ⟨fun c => Cert.OutEvenRefIdeal.Read.val_main_v6 (F := Ideal) (m ((c.tc : Thread Cert.OutEvenIdeal.nD Cert.OutEvenIdeal.τ).loc Cert.OutEvenIdeal.main_arg0)) (m ((c.tc : Thread Cert.OutEvenIdeal.nD Cert.OutEvenIdeal.τ).loc Cert.OutEvenIdeal.main_arg1)) (m ((c.tc : Thread Cert.OutEvenIdeal.nD Cert.OutEvenIdeal.τ).loc Cert.OutEvenIdeal.main_arg2)) (m ((c.tc : Thread Cert.OutEvenIdeal.nD Cert.OutEvenIdeal.τ).loc Cert.OutEvenIdeal.main_arg3)), ?_, ?_⟩
  · exact (θ_run Cert.OutEvenIdeal.defs _ _).mono (fun r hr c => ⟨(hr c).1.trans (Cert.OutEvenIdeal.Layer.final m c), (hr c).2⟩)
      (Cert.OutEvenIdeal.Value.run_blocks (F := Ideal) m g)
  · refine (θ_run Cert.OutEvenRefIdeal.defs _ _).mono (fun r hr c => ⟨(hr c).1.trans ?_, (hr c).2⟩)
      (Cert.OutEvenRefIdeal.Value.run (F := Ideal) m' g')
    refine (Cert.OutEvenRefIdeal.Read.val_main_v6_eq _ _ _ _ ).trans ?_
    rw [(h c).1, (h c).2.1, (h c).2.2.1, (h c).2.2.2]

theorem value_out_odd : Cert.algebraic_OutOddIdeal_OutOddRefIdeal := by
  intro m g m' g' _ h
  refine ⟨fun c => Cert.OutOddRefIdeal.Read.val_main_v4 (F := Ideal) (m ((c.tc : Thread Cert.OutOddIdeal.nD Cert.OutOddIdeal.τ).loc Cert.OutOddIdeal.main_arg0)) (m ((c.tc : Thread Cert.OutOddIdeal.nD Cert.OutOddIdeal.τ).loc Cert.OutOddIdeal.main_arg1)) (m ((c.tc : Thread Cert.OutOddIdeal.nD Cert.OutOddIdeal.τ).loc Cert.OutOddIdeal.main_arg2)), ?_, ?_⟩
  · exact (θ_run Cert.OutOddIdeal.defs _ _).mono (fun r hr c => ⟨(hr c).1.trans (Cert.OutOddIdeal.Layer.final m c), (hr c).2⟩)
      (Cert.OutOddIdeal.Value.run_blocks (F := Ideal) m g)
  · refine (θ_run Cert.OutOddRefIdeal.defs _ _).mono (fun r hr c => ⟨(hr c).1.trans ?_, (hr c).2⟩)
      (Cert.OutOddRefIdeal.Value.run (F := Ideal) m' g')
    refine (Cert.OutOddRefIdeal.Read.val_main_v4_eq _ _ _ ).trans ?_
    rw [(h c).1, (h c).2.1, (h c).2.2]

theorem value_out_last : Cert.algebraic_OutLastIdeal_OutLastRefIdeal := by
  intro m g m' g' _ h
  refine ⟨fun c => Cert.OutLastRefIdeal.Read.val_main_v17 (F := Ideal) (m ((c.tc : Thread Cert.OutLastIdeal.nD Cert.OutLastIdeal.τ).loc Cert.OutLastIdeal.main_arg0)) (m ((c.tc : Thread Cert.OutLastIdeal.nD Cert.OutLastIdeal.τ).loc Cert.OutLastIdeal.main_arg1)) (m ((c.tc : Thread Cert.OutLastIdeal.nD Cert.OutLastIdeal.τ).loc Cert.OutLastIdeal.main_arg2)) (m ((c.tc : Thread Cert.OutLastIdeal.nD Cert.OutLastIdeal.τ).loc Cert.OutLastIdeal.main_arg3)), ?_, ?_⟩
  · exact (θ_run Cert.OutLastIdeal.defs _ _).mono (fun r hr c => ⟨(hr c).1.trans (Cert.OutLastIdeal.Layer.final m c), (hr c).2⟩)
      (Cert.OutLastIdeal.Value.run_blocks (F := Ideal) m g)
  · refine (θ_run Cert.OutLastRefIdeal.defs _ _).mono (fun r hr c => ⟨(hr c).1.trans ?_, (hr c).2⟩)
      (Cert.OutLastRefIdeal.Value.run (F := Ideal) m' g')
    refine (Cert.OutLastRefIdeal.Read.val_main_v17_eq _ _ _ _ ).trans ?_
    rw [(h c).1, (h c).2.1, (h c).2.2.1, (h c).2.2.2]

theorem value_out_samples : Cert.algebraic_OutSamplesIdeal_OutSamplesRefIdeal := by
  intro m g m' g' _ h
  refine ⟨fun c => Cert.OutSamplesRefIdeal.Read.val_main_v16 (F := Ideal) (m ((c.tc : Thread Cert.OutSamplesIdeal.nD Cert.OutSamplesIdeal.τ).loc Cert.OutSamplesIdeal.main_arg0)) (m ((c.tc : Thread Cert.OutSamplesIdeal.nD Cert.OutSamplesIdeal.τ).loc Cert.OutSamplesIdeal.main_arg1)) (m ((c.tc : Thread Cert.OutSamplesIdeal.nD Cert.OutSamplesIdeal.τ).loc Cert.OutSamplesIdeal.main_arg2)) (m ((c.tc : Thread Cert.OutSamplesIdeal.nD Cert.OutSamplesIdeal.τ).loc Cert.OutSamplesIdeal.main_arg3)), ?_, ?_⟩
  · exact (θ_run Cert.OutSamplesIdeal.defs _ _).mono (fun r hr c => ⟨(hr c).1.trans (Cert.OutSamplesIdeal.Layer.final m c), (hr c).2⟩)
      (Cert.OutSamplesIdeal.Value.run_blocks (F := Ideal) m g)
  · refine (θ_run Cert.OutSamplesRefIdeal.defs _ _).mono (fun r hr c => ⟨(hr c).1.trans ?_, (hr c).2⟩)
      (Cert.OutSamplesRefIdeal.Value.run (F := Ideal) m' g')
    refine (Cert.OutSamplesRefIdeal.Read.val_main_v16_eq _ _ _ _ ).trans ?_
    rw [(h c).1, (h c).2.1, (h c).2.2.1, (h c).2.2.2]

theorem value_in_even : Cert.algebraic_InEvenIdeal_InEvenRefIdeal := by
  intro m g m' g' _ h
  refine ⟨fun c => Cert.InEvenRefIdeal.Read.val_main_v22 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)),
    fun c => Cert.InEvenRefIdeal.Read.val_main_v21 (F := Ideal) (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)) (m ((c.tc : Thread Cert.InEvenIdeal.nD Cert.InEvenIdeal.τ).loc Cert.InEvenIdeal.main_arg2)), ?_, ?_⟩
  · exact (θ_run Cert.InEvenIdeal.defs _ _).mono (fun r hr c => ⟨(hr c).1.trans (Cert.InEvenIdeal.Layer.final_first m c),
      (hr c).2.1.trans (Cert.InEvenIdeal.Layer.final_second m c), (hr c).2.2⟩)
      (Cert.InEvenIdeal.Layer.run_blocks (F := Ideal) m g)
  · refine (θ_run Cert.InEvenRefIdeal.defs _ _).mono (fun r hr c => ⟨(hr c).1.trans ?_, (hr c).2.1.trans ?_, (hr c).2.2⟩)
      (Cert.InEvenRefIdeal.Value.run (F := Ideal) m' g')
    · refine (Cert.InEvenRefIdeal.Read.val_main_v22_eq _ _ _).trans ?_
      rw [(h c).1, (h c).2.1, (h c).2.2]
    · refine (Cert.InEvenRefIdeal.Read.val_main_v21_eq _ _ _).trans ?_
      rw [(h c).1, (h c).2.1, (h c).2.2]

theorem value_in_odd : Cert.algebraic_InOddIdeal_InOddRefIdeal := by
  intro m g m' g' _ h
  refine ⟨fun c => Cert.InOddRefIdeal.Read.val_main_v27 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)),
    fun c => Cert.InOddRefIdeal.Read.val_main_v28 (F := Ideal) (m ((c.tc : Thread Cert.InOddIdeal.nD Cert.InOddIdeal.τ).loc Cert.InOddIdeal.main_arg0)) (m ((c.tc : Thread Cert.InOddIdeal.nD Cert.InOddIdeal.τ).loc Cert.InOddIdeal.main_arg1)) (m ((c.tc : Thread Cert.InOddIdeal.nD Cert.InOddIdeal.τ).loc Cert.InOddIdeal.main_arg2)), ?_, ?_⟩
  · exact (θ_run Cert.InOddIdeal.defs _ _).mono (fun r hr c => ⟨(hr c).1.trans (Cert.InOddIdeal.Layer.final_first m c),
      (hr c).2.1.trans (Cert.InOddIdeal.Layer.final_second m c), (hr c).2.2⟩)
      (Cert.InOddIdeal.Value.run_blocks (F := Ideal) m g)
  · refine (θ_run Cert.InOddRefIdeal.defs _ _).mono (fun r hr c => ⟨(hr c).1.trans ?_, (hr c).2.1.trans ?_, (hr c).2.2⟩)
      (Cert.InOddRefIdeal.Value.run (F := Ideal) m' g')
    · refine (Cert.InOddRefIdeal.Read.val_main_v27_eq _ _ _).trans ?_
      rw [(h c).1, (h c).2.1, (h c).2.2]
    · refine (Cert.InOddRefIdeal.Read.val_main_v28_eq _ _ _).trans ?_
      rw [(h c).1, (h c).2.1, (h c).2.2]

theorem claim : Cert.Claim :=
  ⟨Cert.Kernel.Gen.facts, Cert.KernelIdeal.Gen.facts, Cert.ReferenceIdeal.Gen.facts, Cert.InEven.Gen.facts, Cert.InEvenIdeal.Gen.facts, Cert.InEvenRefIdeal.Gen.facts, Cert.InOdd.Gen.facts, Cert.InOddIdeal.Gen.facts, Cert.InOddRefIdeal.Gen.facts, Cert.OutEven.Gen.facts, Cert.OutEvenIdeal.Gen.facts, Cert.OutEvenRefIdeal.Gen.facts, Cert.OutOdd.Gen.facts, Cert.OutOddIdeal.Gen.facts, Cert.OutOddRefIdeal.Gen.facts, Cert.Cached.Gen.facts, Cert.CachedIdeal.Gen.facts, Cert.CachedRefIdeal.Gen.facts, Cert.OutLast.Gen.facts, Cert.OutLastIdeal.Gen.facts, Cert.OutLastRefIdeal.Gen.facts, Cert.OutSamples.Gen.facts, Cert.OutSamplesIdeal.Gen.facts, Cert.OutSamplesRefIdeal.Gen.facts, Cert.Pre_finite_scores.Gen.facts, Cert.Pre_finite_cached.Gen.facts,
    frame_kernel, frame_kernel_ideal, frame_kernel_ideal_pre, frame_reference, frame_reference_pre, frame_in_even, frame_in_even_ideal, frame_in_even_ref, frame_in_odd, frame_in_odd_ideal, frame_in_odd_ref, frame_out_even, frame_out_even_ideal, frame_out_even_ref, frame_out_odd, frame_out_odd_ideal, frame_out_odd_ref, frame_cached, frame_cached_ideal, frame_cached_ideal_pre, frame_cached_ref, frame_cached_ref_pre, frame_out_last, frame_out_last_ideal, frame_out_last_ref, frame_out_samples, frame_out_samples_ideal, frame_out_samples_ref, trivial, attention, trivial, value_in_even, trivial, value_in_odd, trivial, value_out_even, trivial, value_out_odd, trivial, cached_attention, trivial, value_out_last, trivial, value_out_samples⟩

end Cert.Proof

end
